-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)) (v6 : (c : Dev Cert.Kernel2Ideal.nD) → Buf (Elt Ideal) ((c.tc : Thread Cert.Kernel2Ideal.nD Cert.Kernel2Ideal.τ).loc Cert.Kernel2Ideal.main_v11_6)) (v7 : (c : Dev Cert.Kernel2Ideal.nD) → Buf (Elt Ideal) ((c.tc : Thread Cert.Kernel2Ideal.nD Cert.Kernel2Ideal.τ).loc Cert.Kernel2Ideal.main_v11_7)) (v8 : (c : Dev Cert.Kernel2Ideal.nD) → Buf (Elt Ideal) ((c.tc : Thread Cert.Kernel2Ideal.nD Cert.Kernel2Ideal.τ).loc Cert.Kernel2Ideal.main_v11_8)) (v9 : (c : Dev Cert.Kernel2Ideal.nD) → Buf (Elt Ideal) ((c.tc : Thread Cert.Kernel2Ideal.nD Cert.Kernel2Ideal.τ).loc Cert.Kernel2Ideal.main_v11_9)) (v10 : (c : Dev Cert.Kernel2Ideal.nD) → Buf (Elt Ideal) ((c.tc : Thread Cert.Kernel2Ideal.nD Cert.Kernel2Ideal.τ).loc Cert.Kernel2Ideal.main_v11_10)) (v11 : (c : Dev Cert.Kernel2Ideal.nD) → Buf (Elt Ideal) ((c.tc : Thread Cert.Kernel2Ideal.nD Cert.Kernel2Ideal.τ).loc Cert.Kernel2Ideal.main_v11_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_v11_7) = v7 c
          ∧ r.2.mem ((c.tc : Thread Cert.Kernel2Ideal.nD Cert.Kernel2Ideal.τ).loc Cert.Kernel2Ideal.main_v11_8) = v8 c
          ∧ r.2.mem ((c.tc : Thread Cert.Kernel2Ideal.nD Cert.Kernel2Ideal.τ).loc Cert.Kernel2Ideal.main_v11_9) = v9 c
          ∧ r.2.mem ((c.tc : Thread Cert.Kernel2Ideal.nD Cert.Kernel2Ideal.τ).loc Cert.Kernel2Ideal.main_v11_10) = v10 c
          ∧ r.2.mem ((c.tc : Thread Cert.Kernel2Ideal.nD Cert.Kernel2Ideal.τ).loc Cert.Kernel2Ideal.main_v11_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_v49) = v4 c
          ∧ r.2.mem ((c.tc : Thread Cert.Reference2Ideal.nD Cert.Reference2Ideal.τ).loc Cert.Reference2Ideal.main_v50) = v5 c
          ∧ r.2.mem ((c.tc : Thread Cert.Reference2Ideal.nD Cert.Reference2Ideal.τ).loc Cert.Reference2Ideal.main_v33) = v6 c
          ∧ r.2.mem ((c.tc : Thread Cert.Reference2Ideal.nD Cert.Reference2Ideal.τ).loc Cert.Reference2Ideal.main_v52) = v7 c
          ∧ r.2.mem ((c.tc : Thread Cert.Reference2Ideal.nD Cert.Reference2Ideal.τ).loc Cert.Reference2Ideal.main_v35) = v8 c
          ∧ r.2.mem ((c.tc : Thread Cert.Reference2Ideal.nD Cert.Reference2Ideal.τ).loc Cert.Reference2Ideal.main_v36) = v9 c
          ∧ r.2.mem ((c.tc : Thread Cert.Reference2Ideal.nD Cert.Reference2Ideal.τ).loc Cert.Reference2Ideal.main_v45) = v10 c
          ∧ r.2.mem ((c.tc : Thread Cert.Reference2Ideal.nD Cert.Reference2Ideal.τ).loc Cert.Reference2Ideal.main_v38) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "neg_log2e" .f32 0xBFB8AA3B#32 ((-((Real.log 2)⁻¹) : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)) (v4 : (c : Dev Cert.Kernel5Ideal.nD) → Buf (Elt Ideal) ((c.tc : Thread Cert.Kernel5Ideal.nD Cert.Kernel5Ideal.τ).loc Cert.Kernel5Ideal.main_v11_4)) (v5 : (c : Dev Cert.Kernel5Ideal.nD) → Buf (Elt Ideal) ((c.tc : Thread Cert.Kernel5Ideal.nD Cert.Kernel5Ideal.τ).loc Cert.Kernel5Ideal.main_v11_5)) (v6 : (c : Dev Cert.Kernel5Ideal.nD) → Buf (Elt Ideal) ((c.tc : Thread Cert.Kernel5Ideal.nD Cert.Kernel5Ideal.τ).loc Cert.Kernel5Ideal.main_v11_6)) (v7 : (c : Dev Cert.Kernel5Ideal.nD) → Buf (Elt Ideal) ((c.tc : Thread Cert.Kernel5Ideal.nD Cert.Kernel5Ideal.τ).loc Cert.Kernel5Ideal.main_v11_7)) (v8 : (c : Dev Cert.Kernel5Ideal.nD) → Buf (Elt Ideal) ((c.tc : Thread Cert.Kernel5Ideal.nD Cert.Kernel5Ideal.τ).loc Cert.Kernel5Ideal.main_v11_8)) (v9 : (c : Dev Cert.Kernel5Ideal.nD) → Buf (Elt Ideal) ((c.tc : Thread Cert.Kernel5Ideal.nD Cert.Kernel5Ideal.τ).loc Cert.Kernel5Ideal.main_v11_9)) (v10 : (c : Dev Cert.Kernel5Ideal.nD) → Buf (Elt Ideal) ((c.tc : Thread Cert.Kernel5Ideal.nD Cert.Kernel5Ideal.τ).loc Cert.Kernel5Ideal.main_v11_10)) (v11 : (c : Dev Cert.Kernel5Ideal.nD) → Buf (Elt Ideal) ((c.tc : Thread Cert.Kernel5Ideal.nD Cert.Kernel5Ideal.τ).loc Cert.Kernel5Ideal.main_v11_11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_v11_4) = v4 c
          ∧ r.2.mem ((c.tc : Thread Cert.Kernel5Ideal.nD Cert.Kernel5Ideal.τ).loc Cert.Kernel5Ideal.main_v11_5) = v5 c
          ∧ r.2.mem ((c.tc : Thread Cert.Kernel5Ideal.nD Cert.Kernel5Ideal.τ).loc Cert.Kernel5Ideal.main_v11_6) = v6 c
          ∧ r.2.mem ((c.tc : Thread Cert.Kernel5Ideal.nD Cert.Kernel5Ideal.τ).loc Cert.Kernel5Ideal.main_v11_7) = v7 c
          ∧ r.2.mem ((c.tc : Thread Cert.Kernel5Ideal.nD Cert.Kernel5Ideal.τ).loc Cert.Kernel5Ideal.main_v11_8) = v8 c
          ∧ r.2.mem ((c.tc : Thread Cert.Kernel5Ideal.nD Cert.Kernel5Ideal.τ).loc Cert.Kernel5Ideal.main_v11_9) = v9 c
          ∧ r.2.mem ((c.tc : Thread Cert.Kernel5Ideal.nD Cert.Kernel5Ideal.τ).loc Cert.Kernel5Ideal.main_v11_10) = v10 c
          ∧ r.2.mem ((c.tc : Thread Cert.Kernel5Ideal.nD Cert.Kernel5Ideal.τ).loc Cert.Kernel5Ideal.main_v11_11) = v11 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_v31) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_v49) = v4 c
          ∧ r.2.mem ((c.tc : Thread Cert.Reference5Ideal.nD Cert.Reference5Ideal.τ).loc Cert.Reference5Ideal.main_v50) = v5 c
          ∧ r.2.mem ((c.tc : Thread Cert.Reference5Ideal.nD Cert.Reference5Ideal.τ).loc Cert.Reference5Ideal.main_v33) = v6 c
          ∧ r.2.mem ((c.tc : Thread Cert.Reference5Ideal.nD Cert.Reference5Ideal.τ).loc Cert.Reference5Ideal.main_v52) = v7 c
          ∧ r.2.mem ((c.tc : Thread Cert.Reference5Ideal.nD Cert.Reference5Ideal.τ).loc Cert.Reference5Ideal.main_v35) = v8 c
          ∧ r.2.mem ((c.tc : Thread Cert.Reference5Ideal.nD Cert.Reference5Ideal.τ).loc Cert.Reference5Ideal.main_v36) = v9 c
          ∧ r.2.mem ((c.tc : Thread Cert.Reference5Ideal.nD Cert.Reference5Ideal.τ).loc Cert.Reference5Ideal.main_v45) = v10 c
          ∧ r.2.mem ((c.tc : Thread Cert.Reference5Ideal.nD Cert.Reference5Ideal.τ).loc Cert.Reference5Ideal.main_v38) = v11 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  IdealRules.named_const.Statement Cert.Kernel6Ideal.κ "neg_log2e" .f32 0xBFB8AA3B#32 ((-((Real.log 2)⁻¹) : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)) (v3 : (c : Dev Cert.Kernel6Ideal.nD) → Buf (Elt Ideal) ((c.tc : Thread Cert.Kernel6Ideal.nD Cert.Kernel6Ideal.τ).loc Cert.Kernel6Ideal.main_v12_3)) (v4 : (c : Dev Cert.Kernel6Ideal.nD) → Buf (Elt Ideal) ((c.tc : Thread Cert.Kernel6Ideal.nD Cert.Kernel6Ideal.τ).loc Cert.Kernel6Ideal.main_v12_6)) (v5 : (c : Dev Cert.Kernel6Ideal.nD) → Buf (Elt Ideal) ((c.tc : Thread Cert.Kernel6Ideal.nD Cert.Kernel6Ideal.τ).loc Cert.Kernel6Ideal.main_v12_7)) (v6 : (c : Dev Cert.Kernel6Ideal.nD) → Buf (Elt Ideal) ((c.tc : Thread Cert.Kernel6Ideal.nD Cert.Kernel6Ideal.τ).loc Cert.Kernel6Ideal.main_v12_8)) (v7 : (c : Dev Cert.Kernel6Ideal.nD) → Buf (Elt Ideal) ((c.tc : Thread Cert.Kernel6Ideal.nD Cert.Kernel6Ideal.τ).loc Cert.Kernel6Ideal.main_v12_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_v12_3) = v3 c
          ∧ r.2.mem ((c.tc : Thread Cert.Kernel6Ideal.nD Cert.Kernel6Ideal.τ).loc Cert.Kernel6Ideal.main_v12_6) = v4 c
          ∧ r.2.mem ((c.tc : Thread Cert.Kernel6Ideal.nD Cert.Kernel6Ideal.τ).loc Cert.Kernel6Ideal.main_v12_7) = v5 c
          ∧ r.2.mem ((c.tc : Thread Cert.Kernel6Ideal.nD Cert.Kernel6Ideal.τ).loc Cert.Kernel6Ideal.main_v12_8) = v6 c
          ∧ r.2.mem ((c.tc : Thread Cert.Kernel6Ideal.nD Cert.Kernel6Ideal.τ).loc Cert.Kernel6Ideal.main_v12_9) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v44) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_v2) = v4 c
          ∧ r.2.mem ((c.tc : Thread Cert.Reference6Ideal.nD Cert.Reference6Ideal.τ).loc Cert.Reference6Ideal.main_v3) = v5 c
          ∧ r.2.mem ((c.tc : Thread Cert.Reference6Ideal.nD Cert.Reference6Ideal.τ).loc Cert.Reference6Ideal.main_v4) = v6 c
          ∧ r.2.mem ((c.tc : Thread Cert.Reference6Ideal.nD Cert.Reference6Ideal.τ).loc Cert.Reference6Ideal.main_v1) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  IdealRules.named_const.Statement Cert.Kernel7Ideal.κ "neg_log2e" .f32 0xBFB8AA3B#32 ((-((Real.log 2)⁻¹) : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v13_0)) (v1 : (c : Dev Cert.Kernel7Ideal.nD) → Buf (Elt Ideal) ((c.tc : Thread Cert.Kernel7Ideal.nD Cert.Kernel7Ideal.τ).loc Cert.Kernel7Ideal.main_v13_1)) (v2 : (c : Dev Cert.Kernel7Ideal.nD) → Buf (Elt Ideal) ((c.tc : Thread Cert.Kernel7Ideal.nD Cert.Kernel7Ideal.τ).loc Cert.Kernel7Ideal.main_v13_2)) (v3 : (c : Dev Cert.Kernel7Ideal.nD) → Buf (Elt Ideal) ((c.tc : Thread Cert.Kernel7Ideal.nD Cert.Kernel7Ideal.τ).loc Cert.Kernel7Ideal.main_v13_3)) (v4 : (c : Dev Cert.Kernel7Ideal.nD) → Buf (Elt Ideal) ((c.tc : Thread Cert.Kernel7Ideal.nD Cert.Kernel7Ideal.τ).loc Cert.Kernel7Ideal.main_v13_6)) (v5 : (c : Dev Cert.Kernel7Ideal.nD) → Buf (Elt Ideal) ((c.tc : Thread Cert.Kernel7Ideal.nD Cert.Kernel7Ideal.τ).loc Cert.Kernel7Ideal.main_v13_7)) (v6 : (c : Dev Cert.Kernel7Ideal.nD) → Buf (Elt Ideal) ((c.tc : Thread Cert.Kernel7Ideal.nD Cert.Kernel7Ideal.τ).loc Cert.Kernel7Ideal.main_v13_8)) (v7 : (c : Dev Cert.Kernel7Ideal.nD) → Buf (Elt Ideal) ((c.tc : Thread Cert.Kernel7Ideal.nD Cert.Kernel7Ideal.τ).loc Cert.Kernel7Ideal.main_v13_9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_0) = v0 c
          ∧ r.2.mem ((c.tc : Thread Cert.Kernel7Ideal.nD Cert.Kernel7Ideal.τ).loc Cert.Kernel7Ideal.main_v13_1) = v1 c
          ∧ r.2.mem ((c.tc : Thread Cert.Kernel7Ideal.nD Cert.Kernel7Ideal.τ).loc Cert.Kernel7Ideal.main_v13_2) = v2 c
          ∧ r.2.mem ((c.tc : Thread Cert.Kernel7Ideal.nD Cert.Kernel7Ideal.τ).loc Cert.Kernel7Ideal.main_v13_3) = v3 c
          ∧ r.2.mem ((c.tc : Thread Cert.Kernel7Ideal.nD Cert.Kernel7Ideal.τ).loc Cert.Kernel7Ideal.main_v13_6) = v4 c
          ∧ r.2.mem ((c.tc : Thread Cert.Kernel7Ideal.nD Cert.Kernel7Ideal.τ).loc Cert.Kernel7Ideal.main_v13_7) = v5 c
          ∧ r.2.mem ((c.tc : Thread Cert.Kernel7Ideal.nD Cert.Kernel7Ideal.τ).loc Cert.Kernel7Ideal.main_v13_8) = v6 c
          ∧ r.2.mem ((c.tc : Thread Cert.Kernel7Ideal.nD Cert.Kernel7Ideal.τ).loc Cert.Kernel7Ideal.main_v13_9) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v47) = v1 c
          ∧ r.2.mem ((c.tc : Thread Cert.Reference7Ideal.nD Cert.Reference7Ideal.τ).loc Cert.Reference7Ideal.main_v45) = v2 c
          ∧ r.2.mem ((c.tc : Thread Cert.Reference7Ideal.nD Cert.Reference7Ideal.τ).loc Cert.Reference7Ideal.main_v15) = v3 c
          ∧ r.2.mem ((c.tc : Thread Cert.Reference7Ideal.nD Cert.Reference7Ideal.τ).loc Cert.Reference7Ideal.main_v2) = v4 c
          ∧ r.2.mem ((c.tc : Thread Cert.Reference7Ideal.nD Cert.Reference7Ideal.τ).loc Cert.Reference7Ideal.main_v3) = v5 c
          ∧ r.2.mem ((c.tc : Thread Cert.Reference7Ideal.nD Cert.Reference7Ideal.τ).loc Cert.Reference7Ideal.main_v4) = v6 c
          ∧ r.2.mem ((c.tc : Thread Cert.Reference7Ideal.nD Cert.Reference7Ideal.τ).loc Cert.Reference7Ideal.main_v48) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S4x8192x512 : Shape := ⟨3, ![4, 8192, 512]⟩
abbrev S8 : Shape := ⟨1, ![8]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S4x8192x512 .bf16) (main_arg1 : FVec F S4x8192x512 .bf16) (main_arg2 : FVec F S4x8192x512 .bf16) (main_arg3 : FVec F S4x8192x512 .f32) (main_arg4 : FVec F S8 .f32) : IVec S_ 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_c : IVec S_ 1 := constantI S_ 1 1#1
  let main_v4 : IVec S_ 1 := (fun x v => Host.reduce IntOp.andi x v reducesTo_S4x8192x512_S_d0_1_2 h_S_) main_v3 main_c
  let main_v5 : FVec F S4x8192x512 .f32 := (extf .f32 · bitsLt_bf16_f32) main_arg1
  let main_v6 : FVec F S4x8192x512 .f32 := Host.absf main_v5
  let main_cst_0 : FVec F S_ .f32 := constant S_ .f32 0x7F800000#32
  let main_v7 : FVec F S4x8192x512 .f32 := broadcastInDim S4x8192x512 ![] bcast_S_S4x8192x512 main_cst_0
  let main_v8 : IVec S4x8192x512 1 := cmpf .olt main_v6 main_v7
  let main_c_1 : IVec S_ 1 := constantI S_ 1 1#1
  let main_v9 : IVec S_ 1 := (fun x v => Host.reduce IntOp.andi x v reducesTo_S4x8192x512_S_d0_1_2 h_S_) main_v8 main_c_1
  let main_v10 : FVec F S8 .f32 := Host.absf main_arg4
  let main_cst_2 : FVec F S_ .f32 := constant S_ .f32 0x7F800000#32
  let main_v11 : FVec F S8 .f32 := broadcastInDim S8 ![] bcast_S_S8 main_cst_2
  let main_v12 : IVec S8 1 := cmpf .olt main_v10 main_v11
  let main_c_3 : IVec S_ 1 := constantI S_ 1 1#1
  let main_v13 : IVec S_ 1 := (fun x v => Host.reduce IntOp.andi x v reducesTo_S8_S_d0 h_S_) main_v12 main_c_3
  let main_v14 : IVec S_ 1 := andi main_v4 main_v9
  let main_v15 : IVec S_ 1 := andi main_v14 main_v13
  main_v15
-- ==== Kernel.lean ====
abbrev S4x8192x512 : Shape := ⟨3, ![4, 8192, 512]⟩
abbrev S8 : Shape := ⟨1, ![8]⟩
abbrev S256x256 : Shape := ⟨2, ![256, 256]⟩
abbrev S8x64 : Shape := ⟨2, ![8, 64]⟩
abbrev S512 : Shape := ⟨1, ![512]⟩
abbrev S1x1x512 : Shape := ⟨3, ![1, 1, 512]⟩
abbrev S1x256x512 : Shape := ⟨3, ![1, 256, 512]⟩
abbrev S1x8192x512 : Shape := ⟨3, ![1, 8192, 512]⟩
abbrev S8x256x128 : Shape := ⟨3, ![8, 256, 128]⟩
abbrev S8x256x1 : Shape := ⟨3, ![8, 256, 1]⟩
abbrev S256x512 : Shape := ⟨2, ![256, 512]⟩
abbrev S256x128 : Shape := ⟨2, ![256, 128]⟩
abbrev S1x512 : Shape := ⟨2, ![1, 512]⟩
abbrev S1x1 : Shape := ⟨2, ![1, 1]⟩
abbrev S1x256x128 : Shape := ⟨3, ![1, 256, 128]⟩
abbrev S256x1 : Shape := ⟨2, ![256, 1]⟩
abbrev S1x256x1 : Shape := ⟨3, ![1, 256, 1]⟩

abbrev nBuf : Space → Nat
  | .hbm => 10
  | .vmem => 14
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .f32⟩
  | .hbm, ⟨4, _⟩ => ⟨S8, .f32⟩
  | .hbm, ⟨5, _⟩ => ⟨S256x256, .bf16⟩
  | .hbm, ⟨6, _⟩ => ⟨S8x64, .f32⟩
  | .hbm, ⟨7, _⟩ => ⟨S512, .f32⟩
  | .hbm, ⟨8, _⟩ => ⟨S1x1x512, .f32⟩
  | .hbm, ⟨9, _⟩ => ⟨S4x8192x512, .f32⟩
  | .local _ .vmem, ⟨0, _⟩ => ⟨S1x256x512, .bf16⟩
  | .local _ .vmem, ⟨1, _⟩ => ⟨S1x256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x256x512, .f32⟩
  | .local _ .vmem, ⟨7, _⟩ => ⟨S1x256x512, .f32⟩
  | .local _ .vmem, ⟨8, _⟩ => ⟨S1x1x512, .f32⟩
  | .local _ .vmem, ⟨9, _⟩ => ⟨S256x256, .bf16⟩
  | .local _ .vmem, ⟨10, _⟩ => ⟨S1x256x512, .f32⟩
  | .local _ .vmem, ⟨11, _⟩ => ⟨S1x256x512, .f32⟩
  | .local _ .vmem, ⟨12, _⟩ => ⟨S8x256x128, .f32⟩
  | .local _ .vmem, ⟨13, _⟩ => ⟨S8x256x1, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 1, 32], ![false, false, false]⟩

def k0_mult1 (i : grid0.Coords) : BitVec 32 :=
  let arg2 : BitVec 32 := BitVec.ofNat 32 (i 2).val
  let c256_i32 : BitVec 32 := 256#32
  let v36 : BitVec 32 := Scalar.muli arg2 c256_i32
  v36
def k0_off1 (i : grid0.Coords) : Fin 3 → Nat :=
  let c0_7 : Index := 0#32
  let arg2 : BitVec 32 := BitVec.ofNat 32 (i 2).val
  let c256_i32 : BitVec 32 := 256#32
  let v36 : BitVec 32 := Scalar.muli arg2 c256_i32
  let v37 : BitVec 32 := v36
  let v38 : Index := Scalar.indexCast v37
  let c0_8 : Index := 0#32
  ![0, v38.toNat, 0]
@[reducible] def k0_t1_loop (i : grid0.Coords) : Scf.Loop 32 :=
  let c0_i32_120 : BitVec 32 := 0#32
  let arg2 : BitVec 32 := BitVec.ofNat 32 (i 2).val
  let c0_i32 : BitVec 32 := 0#32
  let v300 : BitVec 32 := Scalar.subi arg2 c0_i32
  let c1_i32 : BitVec 32 := 1#32
  let c1_i32_116 : BitVec 32 := 1#32
  let v301 : BitVec 32 := Scalar.subi c1_i32 c1_i32_116
  let v302 : BitVec 32 := Scalar.addi v300 v301
  let c1_i32_117 : BitVec 32 := 1#32
  let v303 : BitVec 32 := Scalar.divsi v302 c1_i32_117
  let v304 : BitVec 32 := Scalar.subi v303 c0_i32_120
  let c1_i32_121 : BitVec 32 := 1#32
  let v306 : BitVec 32 := Scalar.divsi v304 c1_i32_121
  let v307 : BitVec 32 := Scalar.muli v306 c1_i32_121
  let v308 : BitVec 32 := Scalar.addi c0_i32_120 v307
  let c1_i32_122 : BitVec 32 := 1#32
  ⟨c0_i32_120, v308, c1_i32_122⟩
def k0_mult2 (i : grid0.Coords) (k0_t1 : Fin (k0_t1_loop i).trips) : BitVec 32 :=
  let arg2 : BitVec 32 := BitVec.ofNat 32 (i 2).val
  let c1_i32_157 : BitVec 32 := 1#32
  let v346 : BitVec 32 := Scalar.subi arg2 c1_i32_157
  let c0_i32_119 : BitVec 32 := 0#32
  let c0_i32_120 : BitVec 32 := 0#32
  let c1_i32_122 : BitVec 32 := 1#32
  let arg12 : BitVec 32 := Scf.iv c0_i32_120 c1_i32_122 k0_t1
  let c1_i32_118 : BitVec 32 := 1#32
  let v344 : BitVec 32 := Scalar.muli arg12 c1_i32_118
  let v345 : BitVec 32 := Scalar.addi c0_i32_119 v344
  let v347 : BitVec 32 := Scalar.subi v346 v345
  let c256_i32_158 : BitVec 32 := 256#32
  let v348 : BitVec 32 := Scalar.muli v347 c256_i32_158
  v348
def k0_off2 (i : grid0.Coords) (k0_t1 : Fin (k0_t1_loop i).trips) : Fin 3 → Nat :=
  let c0_159 : Index := 0#32
  let arg2 : BitVec 32 := BitVec.ofNat 32 (i 2).val
  let c1_i32_157 : BitVec 32 := 1#32
  let v346 : BitVec 32 := Scalar.subi arg2 c1_i32_157
  let c0_i32_119 : BitVec 32 := 0#32
  let c0_i32_120 : BitVec 32 := 0#32
  let c1_i32_122 : BitVec 32 := 1#32
  let arg12 : BitVec 32 := Scf.iv c0_i32_120 c1_i32_122 k0_t1
  let c1_i32_118 : BitVec 32 := 1#32
  let v344 : BitVec 32 := Scalar.muli arg12 c1_i32_118
  let v345 : BitVec 32 := Scalar.addi c0_i32_119 v344
  let v347 : BitVec 32 := Scalar.subi v346 v345
  let c256_i32_158 : BitVec 32 := 256#32
  let v348 : BitVec 32 := Scalar.muli v347 c256_i32_158
  let v349 : BitVec 32 := v348
  let v350 : Index := Scalar.indexCast v349
  let c0_160 : Index := 0#32
  ![0, v350.toNat, 0]
@[reducible] def k0_t2_loop (i : grid0.Coords) : Scf.Loop 32 :=
  let c0_i32_120 : BitVec 32 := 0#32
  let arg2 : BitVec 32 := BitVec.ofNat 32 (i 2).val
  let c0_i32 : BitVec 32 := 0#32
  let v300 : BitVec 32 := Scalar.subi arg2 c0_i32
  let c1_i32 : BitVec 32 := 1#32
  let c1_i32_116 : BitVec 32 := 1#32
  let v301 : BitVec 32 := Scalar.subi c1_i32 c1_i32_116
  let v302 : BitVec 32 := Scalar.addi v300 v301
  let c1_i32_117 : BitVec 32 := 1#32
  let v303 : BitVec 32 := Scalar.divsi v302 c1_i32_117
  let v304 : BitVec 32 := Scalar.subi v303 c0_i32_120
  let c1_i32_121 : BitVec 32 := 1#32
  let v306 : BitVec 32 := Scalar.divsi v304 c1_i32_121
  let v307 : BitVec 32 := Scalar.muli v306 c1_i32_121
  let v308 : BitVec 32 := Scalar.addi c0_i32_120 v307
  let v305 : BitVec 32 := Scalar.addi c0_i32_120 v304
  let c1_i32_123 : BitVec 32 := 1#32
  ⟨v308, v305, c1_i32_123⟩
def k0_mult3 (i : grid0.Coords) (k0_t2 : Fin (k0_t2_loop i).trips) : BitVec 32 :=
  let arg2 : BitVec 32 := BitVec.ofNat 32 (i 2).val
  let c1_i32_157 : BitVec 32 := 1#32
  let v346 : BitVec 32 := Scalar.subi arg2 c1_i32_157
  let c0_i32_119 : BitVec 32 := 0#32
  let c0_i32_120 : BitVec 32 := 0#32
  let c0_i32 : BitVec 32 := 0#32
  let v300 : BitVec 32 := Scalar.subi arg2 c0_i32
  let c1_i32 : BitVec 32 := 1#32
  let c1_i32_116 : BitVec 32 := 1#32
  let v301 : BitVec 32 := Scalar.subi c1_i32 c1_i32_116
  let v302 : BitVec 32 := Scalar.addi v300 v301
  let c1_i32_117 : BitVec 32 := 1#32
  let v303 : BitVec 32 := Scalar.divsi v302 c1_i32_117
  let v304 : BitVec 32 := Scalar.subi v303 c0_i32_120
  let c1_i32_121 : BitVec 32 := 1#32
  let v306 : BitVec 32 := Scalar.divsi v304 c1_i32_121
  let v307 : BitVec 32 := Scalar.muli v306 c1_i32_121
  let v308 : BitVec 32 := Scalar.addi c0_i32_120 v307
  let c1_i32_123 : BitVec 32 := 1#32
  let arg12 : BitVec 32 := Scf.iv v308 c1_i32_123 k0_t2
  let c1_i32_118 : BitVec 32 := 1#32
  let v344 : BitVec 32 := Scalar.muli arg12 c1_i32_118
  let v345 : BitVec 32 := Scalar.addi c0_i32_119 v344
  let v347 : BitVec 32 := Scalar.subi v346 v345
  let c256_i32_158 : BitVec 32 := 256#32
  let v348 : BitVec 32 := Scalar.muli v347 c256_i32_158
  v348
def k0_off3 (i : grid0.Coords) (k0_t2 : Fin (k0_t2_loop i).trips) : Fin 3 → Nat :=
  let c0_159 : Index := 0#32
  let arg2 : BitVec 32 := BitVec.ofNat 32 (i 2).val
  let c1_i32_157 : BitVec 32 := 1#32
  let v346 : BitVec 32 := Scalar.subi arg2 c1_i32_157
  let c0_i32_119 : BitVec 32 := 0#32
  let c0_i32_120 : BitVec 32 := 0#32
  let c0_i32 : BitVec 32 := 0#32
  let v300 : BitVec 32 := Scalar.subi arg2 c0_i32
  let c1_i32 : BitVec 32 := 1#32
  let c1_i32_116 : BitVec 32 := 1#32
  let v301 : BitVec 32 := Scalar.subi c1_i32 c1_i32_116
  let v302 : BitVec 32 := Scalar.addi v300 v301
  let c1_i32_117 : BitVec 32 := 1#32
  let v303 : BitVec 32 := Scalar.divsi v302 c1_i32_117
  let v304 : BitVec 32 := Scalar.subi v303 c0_i32_120
  let c1_i32_121 : BitVec 32 := 1#32
  let v306 : BitVec 32 := Scalar.divsi v304 c1_i32_121
  let v307 : BitVec 32 := Scalar.muli v306 c1_i32_121
  let v308 : BitVec 32 := Scalar.addi c0_i32_120 v307
  let c1_i32_123 : BitVec 32 := 1#32
  let arg12 : BitVec 32 := Scf.iv v308 c1_i32_123 k0_t2
  let c1_i32_118 : BitVec 32 := 1#32
  let v344 : BitVec 32 := Scalar.muli arg12 c1_i32_118
  let v345 : BitVec 32 := Scalar.addi c0_i32_119 v344
  let v347 : BitVec 32 := Scalar.subi v346 v345
  let c256_i32_158 : BitVec 32 := 256#32
  let v348 : BitVec 32 := Scalar.muli v347 c256_i32_158
  let v349 : BitVec 32 := v348
  let v350 : Index := Scalar.indexCast v349
  let c0_160 : Index := 0#32
  ![0, v350.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S4x8192x512 : Shape := ⟨3, ![4, 8192, 512]⟩
abbrev S8 : Shape := ⟨1, ![8]⟩
abbrev S4x8192x8x64 : Shape := ⟨4, ![4, 8192, 8, 64]⟩
abbrev S4x8x8192x8192 : Shape := ⟨4, ![4, 8, 8192, 8192]⟩
abbrev S1x8x1x1 : Shape := ⟨4, ![1, 8, 1, 1]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x8x8192x8191 : Shape := ⟨4, ![4, 8, 8192, 8191]⟩
abbrev S4x8x8192x1 : Shape := ⟨4, ![4, 8, 8192, 1]⟩
abbrev S4x8x64x8192 : Shape := ⟨4, ![4, 8, 64, 8192]⟩

abbrev nBuf : Space → Nat
  | .hbm => 88
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x512, .f32⟩
  | .hbm, ⟨4, _⟩ => ⟨S8, .f32⟩
  | .hbm, ⟨5, _⟩ => ⟨S4x8192x512, .f32⟩
  | .hbm, ⟨6, _⟩ => ⟨S4x8192x8x64, .f32⟩
  | .hbm, ⟨7, _⟩ => ⟨S4x8192x512, .f32⟩
  | .hbm, ⟨8, _⟩ => ⟨S4x8192x8x64, .f32⟩
  | .hbm, ⟨9, _⟩ => ⟨S4x8x8192x8192, .f32⟩
  | .hbm, ⟨10, _⟩ => ⟨S1x8x1x1, .f32⟩
  | .hbm, ⟨11, _⟩ => ⟨S4x8x8192x8192, .f32⟩
  | .hbm, ⟨12, _⟩ => ⟨S4x8x8192x8192, .f32⟩
  | .hbm, ⟨13, _⟩ => ⟨S8192, .i32⟩
  | .hbm, ⟨14, _⟩ => ⟨S1x8192, .i32⟩
  | .hbm, ⟨15, _⟩ => ⟨S8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S4x8x8192x8192, .f32⟩
  | .hbm, ⟨21, _⟩ => ⟨S4x8x8192x8192, .f32⟩
  | .hbm, ⟨22, _⟩ => ⟨S_, .f32⟩
  | .hbm, ⟨23, _⟩ => ⟨S4x8x8192x8192, .f32⟩
  | .hbm, ⟨24, _⟩ => ⟨S4x8x8192x8192, .f32⟩
  | .hbm, ⟨25, _⟩ => ⟨S4x8x8192x8192, .f32⟩
  | .hbm, ⟨26, _⟩ => ⟨S4x8x8192x8192, .f32⟩
  | .hbm, ⟨27, _⟩ => ⟨S4x8x8192x8192, .i1⟩
  | .hbm, ⟨28, _⟩ => ⟨S4x8x8192x8192, .f32⟩
  | .hbm, ⟨29, _⟩ => ⟨S4x8x8192x8192, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S4x8x8192x8192, .f32⟩
  | .hbm, ⟨35, _⟩ => ⟨S4x8x8192x8192, .f32⟩
  | .hbm, ⟨36, _⟩ => ⟨S4x8x8192x8192, .f32⟩
  | .hbm, ⟨37, _⟩ => ⟨S_, .f32⟩
  | .hbm, ⟨38, _⟩ => ⟨S_, .f32⟩
  | .hbm, ⟨39, _⟩ => ⟨S4x8x8192x8192, .i1⟩
  | .hbm, ⟨40, _⟩ => ⟨S4x8x8192x8192, .f32⟩
  | .hbm, ⟨41, _⟩ => ⟨S4x8x8192x8192, .f32⟩
  | .hbm, ⟨42, _⟩ => ⟨S_, .f32⟩
  | .hbm, ⟨43, _⟩ => ⟨S_, .f32⟩
  | .hbm, ⟨44, _⟩ => ⟨S4x8x8192x8192, .f32⟩
  | .hbm, ⟨45, _⟩ => ⟨S4x8x8192x8191, .f32⟩
  | .hbm, ⟨46, _⟩ => ⟨S4x8x8192x1, .f32⟩
  | .hbm, ⟨47, _⟩ => ⟨S_, .f32⟩
  | .hbm, ⟨48, _⟩ => ⟨S4x8x8192x1, .f32⟩
  | .hbm, ⟨49, _⟩ => ⟨S4x8x8192x8192, .f32⟩
  | .hbm, ⟨50, _⟩ => ⟨S4x8x8192x8192, .f32⟩
  | .hbm, ⟨51, _⟩ => ⟨S_, .f32⟩
  | .hbm, ⟨52, _⟩ => ⟨S4x8x8192x8192, .f32⟩
  | .hbm, ⟨53, _⟩ => ⟨S4x8x8192x8192, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .i1⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S4x8x8192x8192, .f32⟩
  | .hbm, ⟨61, _⟩ => ⟨S4x8x8192x8192, .f32⟩
  | .hbm, ⟨62, _⟩ => ⟨S4x8x8192x8192, .f32⟩
  | .hbm, ⟨63, _⟩ => ⟨S4x8x8192x8192, .f32⟩
  | .hbm, ⟨64, _⟩ => ⟨S4x8x8192x8192, .f32⟩
  | .hbm, ⟨65, _⟩ => ⟨S4x8x8192x8192, .f32⟩
  | .hbm, ⟨66, _⟩ => ⟨S4x8x8192x8192, .f32⟩
  | .hbm, ⟨67, _⟩ => ⟨S4x8x8192x8192, .f32⟩
  | .hbm, ⟨68, _⟩ => ⟨S_, .f32⟩
  | .hbm, ⟨69, _⟩ => ⟨S_, .f32⟩
  | .hbm, ⟨70, _⟩ => ⟨S4x8x8192x8192, .i1⟩
  | .hbm, ⟨71, _⟩ => ⟨S4x8x8192x8192, .f32⟩
  | .hbm, ⟨72, _⟩ => ⟨S4x8x8192x8192, .f32⟩
  | .hbm, ⟨73, _⟩ => ⟨S4x8192x512, .f32⟩
  | .hbm, ⟨74, _⟩ => ⟨S4x8192x8x64, .f32⟩
  | .hbm, ⟨75, _⟩ => ⟨S4x8x64x8192, .f32⟩
  | .hbm, ⟨76, _⟩ => ⟨S4x8192x8x64, .f32⟩
  | .hbm, ⟨77, _⟩ => ⟨S4x8192x512, .f32⟩
  | .hbm, ⟨78, _⟩ => ⟨S4x8192x512, .f32⟩
  | .hbm, ⟨79, _⟩ => ⟨S4x8192x512, .f32⟩
  | .hbm, ⟨80, _⟩ => ⟨S_, .f32⟩
  | .hbm, ⟨81, _⟩ => ⟨S4x8192x512, .f32⟩
  | .hbm, ⟨82, _⟩ => ⟨S4x8192x512, .f32⟩
  | .hbm, ⟨83, _⟩ => ⟨S_, .f32⟩
  | .hbm, ⟨84, _⟩ => ⟨S4x8192x512, .f32⟩
  | .hbm, ⟨85, _⟩ => ⟨S4x8192x512, .f32⟩
  | .hbm, ⟨86, _⟩ => ⟨S4x8192x512, .f32⟩
  | .hbm, ⟨87, _⟩ => ⟨S4x8192x512, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_0 : Ref sig .tc := ⟨.hbm, 47, rfl⟩
abbrev main_v21 : Ref sig .tc := ⟨.hbm, 48, rfl⟩
abbrev main_v22 : Ref sig .tc := ⟨.hbm, 49, rfl⟩
abbrev main_call3_v0 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_v2 : Ref sig .tc := ⟨.hbm, 54, rfl⟩
abbrev main_call3_call0_v3 : Ref sig .tc := ⟨.hbm, 55, rfl⟩
abbrev main_call3_call0_v4 : Ref sig .tc := ⟨.hbm, 56, rfl⟩
abbrev main_call3_call0_v5 : Ref sig .tc := ⟨.hbm, 57, rfl⟩
abbrev main_call3_call0_v6 : Ref sig .tc := ⟨.hbm, 58, rfl⟩
abbrev main_call3_call0_v7 : Ref sig .tc := ⟨.hbm, 59, rfl⟩
abbrev main_call3_call0_v8 : Ref sig .tc := ⟨.hbm, 60, rfl⟩
abbrev main_call3_call0_v9 : Ref sig .tc := ⟨.hbm, 61, rfl⟩
abbrev main_call3_call0_v10 : Ref sig .tc := ⟨.hbm, 62, rfl⟩
abbrev main_call3_call0_v11 : Ref sig .tc := ⟨.hbm, 63, rfl⟩
abbrev main_call3_v1 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_call5_v0 : Ref sig .tc := ⟨.hbm, 78, rfl⟩
abbrev main_call5_v1 : Ref sig .tc := ⟨.hbm, 79, rfl⟩
abbrev main_call5_cst : Ref sig .tc := ⟨.hbm, 80, rfl⟩
abbrev main_call5_v2 : Ref sig .tc := ⟨.hbm, 81, rfl⟩
abbrev main_call5_v3 : Ref sig .tc := ⟨.hbm, 82, rfl⟩
abbrev main_call5_cst_0 : Ref sig .tc := ⟨.hbm, 83, rfl⟩
abbrev main_call5_v4 : Ref sig .tc := ⟨.hbm, 84, rfl⟩
abbrev main_call5_v5 : Ref sig .tc := ⟨.hbm, 85, rfl⟩
abbrev main_v32 : Ref sig .tc := ⟨.hbm, 86, rfl⟩
abbrev main_v33 : Ref sig .tc := ⟨.hbm, 87, rfl⟩

abbrev nD : Nat := 1
abbrev τ : Topo := Topo.v7x

variable {F : FTy → Type} [FloatOps F]
-- ==== Kernel2.lean ====
abbrev S4x8192x512 : Shape := ⟨3, ![4, 8192, 512]⟩
abbrev S4x8192x1024 : Shape := ⟨3, ![4, 8192, 1024]⟩
abbrev S1024x1024 : Shape := ⟨2, ![1024, 1024]⟩
abbrev S1024 : Shape := ⟨1, ![1024]⟩
abbrev S1024x3600 : Shape := ⟨2, ![1024, 3600]⟩
abbrev S16x256 : Shape := ⟨2, ![16, 256]⟩
abbrev S256 : Shape := ⟨1, ![256]⟩
abbrev S1024x3072 : Shape := ⟨2, ![1024, 3072]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x3712 : Shape := ⟨2, ![1024, 3712]⟩
abbrev S128x256 : Shape := ⟨2, ![128, 256]⟩
abbrev S1x1024 : Shape := ⟨2, ![1, 1024]⟩
abbrev S1x256 : Shape := ⟨2, ![1, 256]⟩
abbrev S4x8192x256 : Shape := ⟨3, ![4, 8192, 256]⟩
abbrev S1x512x512 : Shape := ⟨3, ![1, 512, 512]⟩
abbrev S1x512x1024 : Shape := ⟨3, ![1, 512, 1024]⟩
abbrev S1x512x256 : Shape := ⟨3, ![1, 512, 256]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x3712 : Shape := ⟨2, ![512, 3712]⟩
abbrev S512x256 : Shape := ⟨2, ![512, 256]⟩
abbrev S512x128 : Shape := ⟨2, ![512, 128]⟩

abbrev nBuf : Space → Nat
  | .hbm => 35
  | .vmem => 36
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x3600, .f32⟩
  | .hbm, ⟨7, _⟩ => ⟨S16x256, .f32⟩
  | .hbm, ⟨8, _⟩ => ⟨S256, .f32⟩
  | .hbm, ⟨9, _⟩ => ⟨S1024x1024, .bf16⟩
  | .hbm, ⟨10, _⟩ => ⟨S1024x3072, .f32⟩
  | .hbm, ⟨11, _⟩ => ⟨S1024x512, .f32⟩
  | .hbm, ⟨12, _⟩ => ⟨S1024x16, .f32⟩
  | .hbm, ⟨13, _⟩ => ⟨S_, .f32⟩
  | .hbm, ⟨14, _⟩ => ⟨S1024x112, .f32⟩
  | .hbm, ⟨15, _⟩ => ⟨S1024x3712, .f32⟩
  | .hbm, ⟨16, _⟩ => ⟨S1024x3712, .bf16⟩
  | .hbm, ⟨17, _⟩ => ⟨S_, .i32⟩
  | .hbm, ⟨18, _⟩ => ⟨S_, .f32⟩
  | .hbm, ⟨19, _⟩ => ⟨S128x256, .f32⟩
  | .hbm, ⟨20, _⟩ => ⟨S1x1024, .f32⟩
  | .hbm, ⟨21, _⟩ => ⟨S1x1024, .f32⟩
  | .hbm, ⟨22, _⟩ => ⟨S1x256, .f32⟩
  | .hbm, ⟨23, _⟩ => ⟨S4x8192x1024, .f32⟩
  | .hbm, ⟨24, _⟩ => ⟨S4x8192x512, .bf16⟩
  | .hbm, ⟨25, _⟩ => ⟨S4x8192x512, .f32⟩
  | .hbm, ⟨26, _⟩ => ⟨S4x8192x512, .f32⟩
  | .hbm, ⟨27, _⟩ => ⟨S4x8192x512, .bf16⟩
  | .hbm, ⟨28, _⟩ => ⟨S4x8192x512, .bf16⟩
  | .hbm, ⟨29, _⟩ => ⟨S4x8192x512, .f32⟩
  | .hbm, ⟨30, _⟩ => ⟨S4x8192x256, .f32⟩
  | .hbm, ⟨31, _⟩ => ⟨S4x8192x256, .f32⟩
  | .hbm, ⟨32, _⟩ => ⟨S4x8192x512, .f32⟩
  | .hbm, ⟨33, _⟩ => ⟨S4x8192x256, .f32⟩
  | .hbm, ⟨34, _⟩ => ⟨S4x8192x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x3712, .bf16⟩
  | .local _ .vmem, ⟨10, _⟩ => ⟨S128x256, .f32⟩
  | .local _ .vmem, ⟨11, _⟩ => ⟨S1x256, .f32⟩
  | .local _ .vmem, ⟨12, _⟩ => ⟨S1x512x1024, .f32⟩
  | .local _ .vmem, ⟨13, _⟩ => ⟨S1x512x1024, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .f32⟩
  | .local _ .vmem, ⟨25, _⟩ => ⟨S1x512x512, .f32⟩
  | .local _ .vmem, ⟨26, _⟩ => ⟨S1x512x256, .f32⟩
  | .local _ .vmem, ⟨27, _⟩ => ⟨S1x512x256, .f32⟩
  | .local _ .vmem, ⟨28, _⟩ => ⟨S1x512x256, .f32⟩
  | .local _ .vmem, ⟨29, _⟩ => ⟨S1x512x256, .f32⟩
  | .local _ .vmem, ⟨30, _⟩ => ⟨S1x512x512, .f32⟩
  | .local _ .vmem, ⟨31, _⟩ => ⟨S1x512x512, .f32⟩
  | .local _ .vmem, ⟨32, _⟩ => ⟨S1x512x256, .f32⟩
  | .local _ .vmem, ⟨33, _⟩ => ⟨S1x512x256, .f32⟩
  | .local _ .vmem, ⟨34, _⟩ => ⟨S1x512x512, .f32⟩
  | .local _ .vmem, ⟨35, _⟩ => ⟨S1x512x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev main_v11_7 : Ref sig .tc := ⟨.hbm, 30, rfl⟩
abbrev main_v11_8 : Ref sig .tc := ⟨.hbm, 31, rfl⟩
abbrev main_v11_9 : Ref sig .tc := ⟨.hbm, 32, rfl⟩
abbrev main_v11_10 : Ref sig .tc := ⟨.hbm, 33, rfl⟩
abbrev main_v11_11 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x3712 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S4x8192x512 : Shape := ⟨3, ![4, 8192, 512]⟩
abbrev S4x8192x1024 : Shape := ⟨3, ![4, 8192, 1024]⟩
abbrev S1024x1024 : Shape := ⟨2, ![1024, 1024]⟩
abbrev S1024 : Shape := ⟨1, ![1024]⟩
abbrev S1024x3600 : Shape := ⟨2, ![1024, 3600]⟩
abbrev S16x256 : Shape := ⟨2, ![16, 256]⟩
abbrev S256 : Shape := ⟨1, ![256]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3600 : Shape := ⟨3, ![4, 8192, 3600]⟩
abbrev S4x8192x256 : Shape := ⟨3, ![4, 8192, 256]⟩
abbrev S4x8192x16 : Shape := ⟨3, ![4, 8192, 16]⟩
abbrev S1x1x256 : Shape := ⟨3, ![1, 1, 256]⟩

abbrev nBuf : Space → Nat
  | .hbm => 86
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x3600, .f32⟩
  | .hbm, ⟨7, _⟩ => ⟨S16x256, .f32⟩
  | .hbm, ⟨8, _⟩ => ⟨S256, .f32⟩
  | .hbm, ⟨9, _⟩ => ⟨S_, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S4x8192x1, .f32⟩
  | .hbm, ⟨36, _⟩ => ⟨S4x8192x1024, .f32⟩
  | .hbm, ⟨37, _⟩ => ⟨S4x8192x1024, .f32⟩
  | .hbm, ⟨38, _⟩ => ⟨S1x1x1024, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S4x8192x3600, .f32⟩
  | .hbm, ⟨45, _⟩ => ⟨S4x8192x512, .f32⟩
  | .hbm, ⟨46, _⟩ => ⟨S4x8192x512, .f32⟩
  | .hbm, ⟨47, _⟩ => ⟨S4x8192x512, .f32⟩
  | .hbm, ⟨48, _⟩ => ⟨S4x8192x512, .f32⟩
  | .hbm, ⟨49, _⟩ => ⟨S4x8192x256, .f32⟩
  | .hbm, ⟨50, _⟩ => ⟨S4x8192x256, .f32⟩
  | .hbm, ⟨51, _⟩ => ⟨S4x8192x512, .f32⟩
  | .hbm, ⟨52, _⟩ => ⟨S4x8192x16, .f32⟩
  | .hbm, ⟨53, _⟩ => ⟨S4x8192x512, .f32⟩
  | .hbm, ⟨54, _⟩ => ⟨S4x8192x256, .f32⟩
  | .hbm, ⟨55, _⟩ => ⟨S1x1x256, .f32⟩
  | .hbm, ⟨56, _⟩ => ⟨S4x8192x256, .f32⟩
  | .hbm, ⟨57, _⟩ => ⟨S4x8192x256, .f32⟩
  | .hbm, ⟨58, _⟩ => ⟨S4x8192x256, .f32⟩
  | .hbm, ⟨59, _⟩ => ⟨S_, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S4x8192x256, .i1⟩
  | .hbm, ⟨65, _⟩ => ⟨S4x8192x256, .f32⟩
  | .hbm, ⟨66, _⟩ => ⟨S4x8192x256, .f32⟩
  | .hbm, ⟨67, _⟩ => ⟨S4x8192x256, .f32⟩
  | .hbm, ⟨68, _⟩ => ⟨S4x8192x256, .f32⟩
  | .hbm, ⟨69, _⟩ => ⟨S4x8192x256, .f32⟩
  | .hbm, ⟨70, _⟩ => ⟨S4x8192x256, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S_, .f32⟩
  | .hbm, ⟨78, _⟩ => ⟨S4x8192x512, .f32⟩
  | .hbm, ⟨79, _⟩ => ⟨S4x8192x512, .f32⟩
  | .hbm, ⟨80, _⟩ => ⟨S4x8192x512, .bf16⟩
  | .hbm, ⟨81, _⟩ => ⟨S4x8192x512, .bf16⟩
  | .hbm, ⟨82, _⟩ => ⟨S4x8192x512, .bf16⟩
  | .hbm, ⟨83, _⟩ => ⟨S_, .f32⟩
  | .hbm, ⟨84, _⟩ => ⟨S4x8192x256, .f32⟩
  | .hbm, ⟨85, _⟩ => ⟨S4x8192x256, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_call0_cst : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_call0_v2 : Ref sig .tc := ⟨.hbm, 62, rfl⟩
abbrev main_call0_call0_v3 : Ref sig .tc := ⟨.hbm, 63, rfl⟩
abbrev main_call0_call0_v4 : Ref sig .tc := ⟨.hbm, 64, rfl⟩
abbrev main_call0_call0_v5 : Ref sig .tc := ⟨.hbm, 65, rfl⟩
abbrev main_call0_call0_v6 : Ref sig .tc := ⟨.hbm, 66, rfl⟩
abbrev main_call0_call0_v7 : Ref sig .tc := ⟨.hbm, 67, rfl⟩
abbrev main_call0_call0_v8 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_v1 : Ref sig .tc := ⟨.hbm, 72, rfl⟩
abbrev main_v43 : Ref sig .tc := ⟨.hbm, 73, rfl⟩
abbrev main_cst_5 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_7 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]
-- ==== Kernel3.lean ====
abbrev S4x8192x512 : Shape := ⟨3, ![4, 8192, 512]⟩
abbrev S4x8192x1024 : Shape := ⟨3, ![4, 8192, 1024]⟩
abbrev S1024x1024 : Shape := ⟨2, ![1024, 1024]⟩
abbrev S1024 : Shape := ⟨1, ![1024]⟩
abbrev S1x1024 : Shape := ⟨2, ![1, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4x8192x1024, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x8192x512 : Shape := ⟨3, ![4, 8192, 512]⟩
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S1x1x1024, .f32⟩
  | .hbm, ⟨36, _⟩ => ⟨S4x8192x1024, .f32⟩
  | .hbm, ⟨37, _⟩ => ⟨S4x8192x1024, .f32⟩
  | .hbm, ⟨38, _⟩ => ⟨S1x1x1024, .f32⟩
  | .hbm, ⟨39, _⟩ => ⟨S4x8192x1024, .f32⟩
  | .hbm, ⟨40, _⟩ => ⟨S4x8192x1024, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel4.lean ====
abbrev S1x32x512 : Shape := ⟨3, ![1, 32, 512]⟩
abbrev S1x32x1024 : Shape := ⟨3, ![1, 32, 1024]⟩
abbrev S1024x1024 : Shape := ⟨2, ![1024, 1024]⟩
abbrev S1024 : Shape := ⟨1, ![1024]⟩
abbrev S1x1024 : Shape := ⟨2, ![1, 1024]⟩
abbrev S32x512 : Shape := ⟨2, ![32, 512]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 10
  | .vmem => 7
  | .smem => 0
  | _ => 0

abbrev bufTy : (tb : Table) → Fin (tcTables nBuf tb) → BufTy
  | .hbm, ⟨0, _⟩ => ⟨S1x32x512, .f32⟩
  | .hbm, ⟨1, _⟩ => ⟨S1x32x512, .f32⟩
  | .hbm, ⟨2, _⟩ => ⟨S1x32x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1x32x1024, .f32⟩
  | .local _ .vmem, ⟨0, _⟩ => ⟨S1x32x512, .f32⟩
  | .local _ .vmem, ⟨1, _⟩ => ⟨S1x32x512, .f32⟩
  | .local _ .vmem, ⟨2, _⟩ => ⟨S1x32x1024, .f32⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1x32x1024, .f32⟩
  | _, _ => ⟨S1x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference4Ideal.lean ====
abbrev S1x32x512 : Shape := ⟨3, ![1, 32, 512]⟩
abbrev S1x32x1024 : Shape := ⟨3, ![1, 32, 1024]⟩
abbrev S1024x1024 : Shape := ⟨2, ![1024, 1024]⟩
abbrev S1024 : Shape := ⟨1, ![1024]⟩
abbrev S_ : Shape := ⟨0, ![]⟩
abbrev S1x32 : Shape := ⟨2, ![1, 32]⟩
abbrev S1x32x1 : Shape := ⟨3, ![1, 32, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x32x512, .f32⟩
  | .hbm, ⟨1, _⟩ => ⟨S1x32x512, .f32⟩
  | .hbm, ⟨2, _⟩ => ⟨S1x32x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1x32x1024, .f32⟩
  | .hbm, ⟨8, _⟩ => ⟨S1x32x1024, .f32⟩
  | .hbm, ⟨9, _⟩ => ⟨S1x32x1024, .f32⟩
  | .hbm, ⟨10, _⟩ => ⟨S1x32x1024, .f32⟩
  | .hbm, ⟨11, _⟩ => ⟨S1x32x1024, .f32⟩
  | .hbm, ⟨12, _⟩ => ⟨S_, .f32⟩
  | .hbm, ⟨13, _⟩ => ⟨S1x32, .f32⟩
  | .hbm, ⟨14, _⟩ => ⟨S1x32x1, .f32⟩
  | .hbm, ⟨15, _⟩ => ⟨S_, .f32⟩
  | .hbm, ⟨16, _⟩ => ⟨S1x32x1, .f32⟩
  | .hbm, ⟨17, _⟩ => ⟨S1x32x1, .f32⟩
  | .hbm, ⟨18, _⟩ => ⟨S1x32x1024, .f32⟩
  | .hbm, ⟨19, _⟩ => ⟨S1x32x1024, .f32⟩
  | .hbm, ⟨20, _⟩ => ⟨S1x32x1024, .f32⟩
  | .hbm, ⟨21, _⟩ => ⟨S_, .f32⟩
  | .hbm, ⟨22, _⟩ => ⟨S1x32, .f32⟩
  | .hbm, ⟨23, _⟩ => ⟨S1x32x1, .f32⟩
  | .hbm, ⟨24, _⟩ => ⟨S_, .f32⟩
  | .hbm, ⟨25, _⟩ => ⟨S1x32x1, .f32⟩
  | .hbm, ⟨26, _⟩ => ⟨S1x32x1, .f32⟩
  | .hbm, ⟨27, _⟩ => ⟨S1x32x1024, .f32⟩
  | .hbm, ⟨28, _⟩ => ⟨S1x32x1024, .f32⟩
  | .hbm, ⟨29, _⟩ => ⟨S_, .f32⟩
  | .hbm, ⟨30, _⟩ => ⟨S1x32x1, .f32⟩
  | .hbm, ⟨31, _⟩ => ⟨S1x32x1, .f32⟩
  | .hbm, ⟨32, _⟩ => ⟨S1x32x1, .f32⟩
  | .hbm, ⟨33, _⟩ => ⟨S1x32x1024, .f32⟩
  | .hbm, ⟨34, _⟩ => ⟨S1x32x1024, .f32⟩
  | .hbm, ⟨35, _⟩ => ⟨S1x1x1024, .f32⟩
  | .hbm, ⟨36, _⟩ => ⟨S1x32x1024, .f32⟩
  | .hbm, ⟨37, _⟩ => ⟨S1x32x1024, .f32⟩
  | .hbm, ⟨38, _⟩ => ⟨S1x1x1024, .f32⟩
  | .hbm, ⟨39, _⟩ => ⟨S1x32x1024, .f32⟩
  | .hbm, ⟨40, _⟩ => ⟨S1x32x1024, .f32⟩
  | _, _ => ⟨S1x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel5.lean ====
abbrev S1x32x512 : Shape := ⟨3, ![1, 32, 512]⟩
abbrev S1x32x1024 : Shape := ⟨3, ![1, 32, 1024]⟩
abbrev S1024x1024 : Shape := ⟨2, ![1024, 1024]⟩
abbrev S1024 : Shape := ⟨1, ![1024]⟩
abbrev S1024x3600 : Shape := ⟨2, ![1024, 3600]⟩
abbrev S16x256 : Shape := ⟨2, ![16, 256]⟩
abbrev S256 : Shape := ⟨1, ![256]⟩
abbrev S1024x3072 : Shape := ⟨2, ![1024, 3072]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x3712 : Shape := ⟨2, ![1024, 3712]⟩
abbrev S128x256 : Shape := ⟨2, ![128, 256]⟩
abbrev S1x1024 : Shape := ⟨2, ![1, 1024]⟩
abbrev S1x256 : Shape := ⟨2, ![1, 256]⟩
abbrev S1x32x256 : Shape := ⟨3, ![1, 32, 256]⟩
abbrev S32x512 : Shape := ⟨2, ![32, 512]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩
abbrev S32x3712 : Shape := ⟨2, ![32, 3712]⟩
abbrev S32x256 : Shape := ⟨2, ![32, 256]⟩
abbrev S32x128 : Shape := ⟨2, ![32, 128]⟩

abbrev nBuf : Space → Nat
  | .hbm => 35
  | .vmem => 21
  | .smem => 0
  | _ => 0

abbrev bufTy : (tb : Table) → Fin (tcTables nBuf tb) → BufTy
  | .hbm, ⟨0, _⟩ => ⟨S1x32x512, .f32⟩
  | .hbm, ⟨1, _⟩ => ⟨S1x32x512, .f32⟩
  | .hbm, ⟨2, _⟩ => ⟨S1x32x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x3600, .f32⟩
  | .hbm, ⟨7, _⟩ => ⟨S16x256, .f32⟩
  | .hbm, ⟨8, _⟩ => ⟨S256, .f32⟩
  | .hbm, ⟨9, _⟩ => ⟨S1024x1024, .bf16⟩
  | .hbm, ⟨10, _⟩ => ⟨S1024x3072, .f32⟩
  | .hbm, ⟨11, _⟩ => ⟨S1024x512, .f32⟩
  | .hbm, ⟨12, _⟩ => ⟨S1024x16, .f32⟩
  | .hbm, ⟨13, _⟩ => ⟨S_, .f32⟩
  | .hbm, ⟨14, _⟩ => ⟨S1024x112, .f32⟩
  | .hbm, ⟨15, _⟩ => ⟨S1024x3712, .f32⟩
  | .hbm, ⟨16, _⟩ => ⟨S1024x3712, .bf16⟩
  | .hbm, ⟨17, _⟩ => ⟨S_, .i32⟩
  | .hbm, ⟨18, _⟩ => ⟨S_, .f32⟩
  | .hbm, ⟨19, _⟩ => ⟨S128x256, .f32⟩
  | .hbm, ⟨20, _⟩ => ⟨S1x1024, .f32⟩
  | .hbm, ⟨21, _⟩ => ⟨S1x1024, .f32⟩
  | .hbm, ⟨22, _⟩ => ⟨S1x256, .f32⟩
  | .hbm, ⟨23, _⟩ => ⟨S1x32x1024, .f32⟩
  | .hbm, ⟨24, _⟩ => ⟨S1x32x512, .bf16⟩
  | .hbm, ⟨25, _⟩ => ⟨S1x32x512, .f32⟩
  | .hbm, ⟨26, _⟩ => ⟨S1x32x512, .f32⟩
  | .hbm, ⟨27, _⟩ => ⟨S1x32x512, .bf16⟩
  | .hbm, ⟨28, _⟩ => ⟨S1x32x512, .bf16⟩
  | .hbm, ⟨29, _⟩ => ⟨S1x32x512, .f32⟩
  | .hbm, ⟨30, _⟩ => ⟨S1x32x256, .f32⟩
  | .hbm, ⟨31, _⟩ => ⟨S1x32x256, .f32⟩
  | .hbm, ⟨32, _⟩ => ⟨S1x32x512, .f32⟩
  | .hbm, ⟨33, _⟩ => ⟨S1x32x256, .f32⟩
  | .hbm, ⟨34, _⟩ => ⟨S1x32x512, .f32⟩
  | .local _ .vmem, ⟨0, _⟩ => ⟨S1x32x512, .f32⟩
  | .local _ .vmem, ⟨1, _⟩ => ⟨S1x32x512, .f32⟩
  | .local _ .vmem, ⟨2, _⟩ => ⟨S1x32x1024, .f32⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x3712, .bf16⟩
  | .local _ .vmem, ⟨7, _⟩ => ⟨S128x256, .f32⟩
  | .local _ .vmem, ⟨8, _⟩ => ⟨S1x256, .f32⟩
  | .local _ .vmem, ⟨9, _⟩ => ⟨S1x32x1024, .f32⟩
  | .local _ .vmem, ⟨10, _⟩ => ⟨S1x32x512, .bf16⟩
  | .local _ .vmem, ⟨11, _⟩ => ⟨S1x32x512, .f32⟩
  | .local _ .vmem, ⟨12, _⟩ => ⟨S1x32x512, .f32⟩
  | .local _ .vmem, ⟨13, _⟩ => ⟨S1x32x512, .bf16⟩
  | .local _ .vmem, ⟨14, _⟩ => ⟨S1x32x512, .bf16⟩
  | .local _ .vmem, ⟨15, _⟩ => ⟨S1x32x512, .f32⟩
  | .local _ .vmem, ⟨16, _⟩ => ⟨S1x32x256, .f32⟩
  | .local _ .vmem, ⟨17, _⟩ => ⟨S1x32x256, .f32⟩
  | .local _ .vmem, ⟨18, _⟩ => ⟨S1x32x512, .f32⟩
  | .local _ .vmem, ⟨19, _⟩ => ⟨S1x32x256, .f32⟩
  | .local _ .vmem, ⟨20, _⟩ => ⟨S1x32x512, .f32⟩
  | _, _ => ⟨S1x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev main_v11_7 : Ref sig .tc := ⟨.hbm, 30, rfl⟩
abbrev main_v11_8 : Ref sig .tc := ⟨.hbm, 31, rfl⟩
abbrev main_v11_9 : Ref sig .tc := ⟨.hbm, 32, rfl⟩
abbrev main_v11_10 : Ref sig .tc := ⟨.hbm, 33, rfl⟩
abbrev main_v11_11 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x3712 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x32x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x32x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x32x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x32x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x32x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x32x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x32x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x32x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]
-- ==== Kernel5Ideal.lean ====
variable {F : FTy → Type} [FloatOps F] [Named F]
def κ : String → Option EReal := fun
  | "neg_log2e" => some ((-((Real.log 2)⁻¹) : ℝ) : EReal)
  | _ => none
-- ==== Reference5Ideal.lean ====
abbrev S1x32x512 : Shape := ⟨3, ![1, 32, 512]⟩
abbrev S1x32x1024 : Shape := ⟨3, ![1, 32, 1024]⟩
abbrev S1024x1024 : Shape := ⟨2, ![1024, 1024]⟩
abbrev S1024 : Shape := ⟨1, ![1024]⟩
abbrev S1024x3600 : Shape := ⟨2, ![1024, 3600]⟩
abbrev S16x256 : Shape := ⟨2, ![16, 256]⟩
abbrev S256 : Shape := ⟨1, ![256]⟩
abbrev S_ : Shape := ⟨0, ![]⟩
abbrev S1x32 : Shape := ⟨2, ![1, 32]⟩
abbrev S1x32x1 : Shape := ⟨3, ![1, 32, 1]⟩
abbrev S1x1x1024 : Shape := ⟨3, ![1, 1, 1024]⟩
abbrev S1x32x3600 : Shape := ⟨3, ![1, 32, 3600]⟩
abbrev S1x32x256 : Shape := ⟨3, ![1, 32, 256]⟩
abbrev S1x32x16 : Shape := ⟨3, ![1, 32, 16]⟩
abbrev S1x1x256 : Shape := ⟨3, ![1, 1, 256]⟩

abbrev nBuf : Space → Nat
  | .hbm => 86
  | .vmem => 0
  | .smem => 0
  | _ => 0

abbrev bufTy : (tb : Table) → Fin (tcTables nBuf tb) → BufTy
  | .hbm, ⟨0, _⟩ => ⟨S1x32x512, .f32⟩
  | .hbm, ⟨1, _⟩ => ⟨S1x32x512, .f32⟩
  | .hbm, ⟨2, _⟩ => ⟨S1x32x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x3600, .f32⟩
  | .hbm, ⟨7, _⟩ => ⟨S16x256, .f32⟩
  | .hbm, ⟨8, _⟩ => ⟨S256, .f32⟩
  | .hbm, ⟨9, _⟩ => ⟨S_, .f32⟩
  | .hbm, ⟨10, _⟩ => ⟨S1x32x1024, .f32⟩
  | .hbm, ⟨11, _⟩ => ⟨S1x32x1024, .f32⟩
  | .hbm, ⟨12, _⟩ => ⟨S1x32x1024, .f32⟩
  | .hbm, ⟨13, _⟩ => ⟨S1x32x1024, .f32⟩
  | .hbm, ⟨14, _⟩ => ⟨S1x32x1024, .f32⟩
  | .hbm, ⟨15, _⟩ => ⟨S_, .f32⟩
  | .hbm, ⟨16, _⟩ => ⟨S1x32, .f32⟩
  | .hbm, ⟨17, _⟩ => ⟨S1x32x1, .f32⟩
  | .hbm, ⟨18, _⟩ => ⟨S_, .f32⟩
  | .hbm, ⟨19, _⟩ => ⟨S1x32x1, .f32⟩
  | .hbm, ⟨20, _⟩ => ⟨S1x32x1, .f32⟩
  | .hbm, ⟨21, _⟩ => ⟨S1x32x1024, .f32⟩
  | .hbm, ⟨22, _⟩ => ⟨S1x32x1024, .f32⟩
  | .hbm, ⟨23, _⟩ => ⟨S1x32x1024, .f32⟩
  | .hbm, ⟨24, _⟩ => ⟨S_, .f32⟩
  | .hbm, ⟨25, _⟩ => ⟨S1x32, .f32⟩
  | .hbm, ⟨26, _⟩ => ⟨S1x32x1, .f32⟩
  | .hbm, ⟨27, _⟩ => ⟨S_, .f32⟩
  | .hbm, ⟨28, _⟩ => ⟨S1x32x1, .f32⟩
  | .hbm, ⟨29, _⟩ => ⟨S1x32x1, .f32⟩
  | .hbm, ⟨30, _⟩ => ⟨S1x32x1024, .f32⟩
  | .hbm, ⟨31, _⟩ => ⟨S1x32x1024, .f32⟩
  | .hbm, ⟨32, _⟩ => ⟨S_, .f32⟩
  | .hbm, ⟨33, _⟩ => ⟨S1x32x1, .f32⟩
  | .hbm, ⟨34, _⟩ => ⟨S1x32x1, .f32⟩
  | .hbm, ⟨35, _⟩ => ⟨S1x32x1, .f32⟩
  | .hbm, ⟨36, _⟩ => ⟨S1x32x1024, .f32⟩
  | .hbm, ⟨37, _⟩ => ⟨S1x32x1024, .f32⟩
  | .hbm, ⟨38, _⟩ => ⟨S1x1x1024, .f32⟩
  | .hbm, ⟨39, _⟩ => ⟨S1x32x1024, .f32⟩
  | .hbm, ⟨40, _⟩ => ⟨S1x32x1024, .f32⟩
  | .hbm, ⟨41, _⟩ => ⟨S1x1x1024, .f32⟩
  | .hbm, ⟨42, _⟩ => ⟨S1x32x1024, .f32⟩
  | .hbm, ⟨43, _⟩ => ⟨S1x32x1024, .f32⟩
  | .hbm, ⟨44, _⟩ => ⟨S1x32x3600, .f32⟩
  | .hbm, ⟨45, _⟩ => ⟨S1x32x512, .f32⟩
  | .hbm, ⟨46, _⟩ => ⟨S1x32x512, .f32⟩
  | .hbm, ⟨47, _⟩ => ⟨S1x32x512, .f32⟩
  | .hbm, ⟨48, _⟩ => ⟨S1x32x512, .f32⟩
  | .hbm, ⟨49, _⟩ => ⟨S1x32x256, .f32⟩
  | .hbm, ⟨50, _⟩ => ⟨S1x32x256, .f32⟩
  | .hbm, ⟨51, _⟩ => ⟨S1x32x512, .f32⟩
  | .hbm, ⟨52, _⟩ => ⟨S1x32x16, .f32⟩
  | .hbm, ⟨53, _⟩ => ⟨S1x32x512, .f32⟩
  | .hbm, ⟨54, _⟩ => ⟨S1x32x256, .f32⟩
  | .hbm, ⟨55, _⟩ => ⟨S1x1x256, .f32⟩
  | .hbm, ⟨56, _⟩ => ⟨S1x32x256, .f32⟩
  | .hbm, ⟨57, _⟩ => ⟨S1x32x256, .f32⟩
  | .hbm, ⟨58, _⟩ => ⟨S1x32x256, .f32⟩
  | .hbm, ⟨59, _⟩ => ⟨S_, .f32⟩
  | .hbm, ⟨60, _⟩ => ⟨S1x32x256, .f32⟩
  | .hbm, ⟨61, _⟩ => ⟨S1x32x256, .f32⟩
  | .hbm, ⟨62, _⟩ => ⟨S1x32x256, .f32⟩
  | .hbm, ⟨63, _⟩ => ⟨S1x32x256, .f32⟩
  | .hbm, ⟨64, _⟩ => ⟨S1x32x256, .i1⟩
  | .hbm, ⟨65, _⟩ => ⟨S1x32x256, .f32⟩
  | .hbm, ⟨66, _⟩ => ⟨S1x32x256, .f32⟩
  | .hbm, ⟨67, _⟩ => ⟨S1x32x256, .f32⟩
  | .hbm, ⟨68, _⟩ => ⟨S1x32x256, .f32⟩
  | .hbm, ⟨69, _⟩ => ⟨S1x32x256, .f32⟩
  | .hbm, ⟨70, _⟩ => ⟨S1x32x256, .f32⟩
  | .hbm, ⟨71, _⟩ => ⟨S1x32x256, .f32⟩
  | .hbm, ⟨72, _⟩ => ⟨S1x32x256, .f32⟩
  | .hbm, ⟨73, _⟩ => ⟨S1x32x256, .f32⟩
  | .hbm, ⟨74, _⟩ => ⟨S_, .f32⟩
  | .hbm, ⟨75, _⟩ => ⟨S1x32x256, .f32⟩
  | .hbm, ⟨76, _⟩ => ⟨S1x32x256, .f32⟩
  | .hbm, ⟨77, _⟩ => ⟨S_, .f32⟩
  | .hbm, ⟨78, _⟩ => ⟨S1x32x512, .f32⟩
  | .hbm, ⟨79, _⟩ => ⟨S1x32x512, .f32⟩
  | .hbm, ⟨80, _⟩ => ⟨S1x32x512, .bf16⟩
  | .hbm, ⟨81, _⟩ => ⟨S1x32x512, .bf16⟩
  | .hbm, ⟨82, _⟩ => ⟨S1x32x512, .bf16⟩
  | .hbm, ⟨83, _⟩ => ⟨S_, .f32⟩
  | .hbm, ⟨84, _⟩ => ⟨S1x32x256, .f32⟩
  | .hbm, ⟨85, _⟩ => ⟨S1x32x256, .f32⟩
  | _, _ => ⟨S1x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_call0_cst : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_call0_v2 : Ref sig .tc := ⟨.hbm, 62, rfl⟩
abbrev main_call0_call0_v3 : Ref sig .tc := ⟨.hbm, 63, rfl⟩
abbrev main_call0_call0_v4 : Ref sig .tc := ⟨.hbm, 64, rfl⟩
abbrev main_call0_call0_v5 : Ref sig .tc := ⟨.hbm, 65, rfl⟩
abbrev main_call0_call0_v6 : Ref sig .tc := ⟨.hbm, 66, rfl⟩
abbrev main_call0_call0_v7 : Ref sig .tc := ⟨.hbm, 67, rfl⟩
abbrev main_call0_call0_v8 : Ref sig .tc := ⟨.hbm, 68, rfl⟩
abbrev main_call0_call0_v9 : Ref sig .tc := ⟨.hbm, 69, rfl⟩
abbrev main_call0_call0_v10 : Ref sig .tc := ⟨.hbm, 70, rfl⟩
abbrev main_call0_call0_v11 : Ref sig .tc := ⟨.hbm, 71, rfl⟩
abbrev main_call0_v1 : Ref sig .tc := ⟨.hbm, 72, rfl⟩
abbrev main_v43 : Ref sig .tc := ⟨.hbm, 73, rfl⟩
abbrev main_cst_5 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_7 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]
-- ==== Kernel6.lean ====
abbrev S1x32x1024 : Shape := ⟨3, ![1, 32, 1024]⟩
abbrev S1x32x1664 : Shape := ⟨3, ![1, 32, 1664]⟩
abbrev S1024x3200 : Shape := ⟨2, ![1024, 3200]⟩
abbrev S1664 : Shape := ⟨1, ![1664]⟩
abbrev S512 : Shape := ⟨1, ![512]⟩
abbrev S64x512 : Shape := ⟨2, ![64, 512]⟩
abbrev S8x64x8x64 : Shape := ⟨4, ![8, 64, 8, 64]⟩
abbrev S512x512 : Shape := ⟨2, ![512, 512]⟩
abbrev S1x1664 : Shape := ⟨2, ![1, 1664]⟩
abbrev S1x512 : Shape := ⟨2, ![1, 512]⟩
abbrev S1x32x512 : Shape := ⟨3, ![1, 32, 512]⟩
abbrev S32x1024 : Shape := ⟨2, ![32, 1024]⟩
abbrev S32x3200 : Shape := ⟨2, ![32, 3200]⟩
abbrev S32x1664 : Shape := ⟨2, ![32, 1664]⟩
abbrev S32x512 : Shape := ⟨2, ![32, 512]⟩
abbrev S32x64 : Shape := ⟨2, ![32, 64]⟩

abbrev nBuf : Space → Nat
  | .hbm => 32
  | .vmem => 22
  | .smem => 0
  | _ => 0

abbrev bufTy : (tb : Table) → Fin (tcTables nBuf tb) → BufTy
  | .hbm, ⟨0, _⟩ => ⟨S1x32x1024, .f32⟩
  | .hbm, ⟨1, _⟩ => ⟨S1x32x1664, .f32⟩
  | .hbm, ⟨2, _⟩ => ⟨S1024x3200, .f32⟩
  | .hbm, ⟨3, _⟩ => ⟨S1664, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S512, .f32⟩
  | .hbm, ⟨9, _⟩ => ⟨S512, .f32⟩
  | .hbm, ⟨10, _⟩ => ⟨S1024x3200, .bf16⟩
  | .hbm, ⟨11, _⟩ => ⟨S8x64x8x64, .i32⟩
  | .hbm, ⟨12, _⟩ => ⟨S8x64x8x64, .i32⟩
  | .hbm, ⟨13, _⟩ => ⟨S8x64x8x64, .i1⟩
  | .hbm, ⟨14, _⟩ => ⟨S8x64x8x64, .f32⟩
  | .hbm, ⟨15, _⟩ => ⟨S512x512, .f32⟩
  | .hbm, ⟨16, _⟩ => ⟨S512x512, .bf16⟩
  | .hbm, ⟨17, _⟩ => ⟨S1x1664, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x32x512, .f32⟩
  | .hbm, ⟨23, _⟩ => ⟨S1x32x512, .f32⟩
  | .hbm, ⟨24, _⟩ => ⟨S1x32x512, .f32⟩
  | .hbm, ⟨25, _⟩ => ⟨S1x32x512, .f32⟩
  | .hbm, ⟨26, _⟩ => ⟨S1x32x512, .f32⟩
  | .hbm, ⟨27, _⟩ => ⟨S1x32x512, .f32⟩
  | .hbm, ⟨28, _⟩ => ⟨S1x32x512, .f32⟩
  | .hbm, ⟨29, _⟩ => ⟨S1x32x512, .f32⟩
  | .hbm, ⟨30, _⟩ => ⟨S1x32x512, .f32⟩
  | .hbm, ⟨31, _⟩ => ⟨S1x32x1664, .f32⟩
  | .local _ .vmem, ⟨0, _⟩ => ⟨S1x32x1024, .f32⟩
  | .local _ .vmem, ⟨1, _⟩ => ⟨S1x32x1664, .f32⟩
  | .local _ .vmem, ⟨2, _⟩ => ⟨S1024x3200, .bf16⟩
  | .local _ .vmem, ⟨3, _⟩ => ⟨S1x1664, .f32⟩
  | .local _ .vmem, ⟨4, _⟩ => ⟨S1x512, .f32⟩
  | .local _ .vmem, ⟨5, _⟩ => ⟨S64x512, .f32⟩
  | .local _ .vmem, ⟨6, _⟩ => ⟨S1x512, .f32⟩
  | .local _ .vmem, ⟨7, _⟩ => ⟨S64x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S1x32x512, .f32⟩
  | .local _ .vmem, ⟨12, _⟩ => ⟨S1x32x512, .f32⟩
  | .local _ .vmem, ⟨13, _⟩ => ⟨S1x32x512, .f32⟩
  | .local _ .vmem, ⟨14, _⟩ => ⟨S1x32x512, .f32⟩
  | .local _ .vmem, ⟨15, _⟩ => ⟨S1x32x512, .f32⟩
  | .local _ .vmem, ⟨16, _⟩ => ⟨S1x32x512, .f32⟩
  | .local _ .vmem, ⟨17, _⟩ => ⟨S1x32x512, .f32⟩
  | .local _ .vmem, ⟨18, _⟩ => ⟨S1x32x512, .f32⟩
  | .local _ .vmem, ⟨19, _⟩ => ⟨S1x32x512, .f32⟩
  | .local _ .vmem, ⟨20, _⟩ => ⟨S1x32x1664, .f32⟩
  | .local _ .vmem, ⟨21, _⟩ => ⟨S1x1664, .f32⟩
  | _, _ => ⟨S1x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v12_5 : Ref sig .tc := ⟨.hbm, 27, rfl⟩
abbrev main_v12_6 : Ref sig .tc := ⟨.hbm, 28, rfl⟩
abbrev main_v12_7 : Ref sig .tc := ⟨.hbm, 29, rfl⟩
abbrev main_v12_8 : Ref sig .tc := ⟨.hbm, 30, rfl⟩
abbrev main_v12_9 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x1664 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x32x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x32x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x32x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x32x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x32x1664 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, false]
-- ==== Kernel6Ideal.lean ====
variable {F : FTy → Type} [FloatOps F] [Named F]
def κ : String → Option EReal := fun
  | "neg_log2e" => some ((-((Real.log 2)⁻¹) : ℝ) : EReal)
  | _ => none
-- ==== Reference6Ideal.lean ====
abbrev S1x32x1024 : Shape := ⟨3, ![1, 32, 1024]⟩
abbrev S1x32x1664 : Shape := ⟨3, ![1, 32, 1664]⟩
abbrev S1024x3200 : Shape := ⟨2, ![1024, 3200]⟩
abbrev S1664 : Shape := ⟨1, ![1664]⟩
abbrev S512 : Shape := ⟨1, ![512]⟩
abbrev S64x512 : Shape := ⟨2, ![64, 512]⟩
abbrev S1x32x3200 : Shape := ⟨3, ![1, 32, 3200]⟩
abbrev S1x32x512 : Shape := ⟨3, ![1, 32, 512]⟩
abbrev S1x1x1664 : Shape := ⟨3, ![1, 1, 1664]⟩
abbrev S1x32x64 : Shape := ⟨3, ![1, 32, 64]⟩
abbrev S1x1x512 : Shape := ⟨3, ![1, 1, 512]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S1x32x1024, .f32⟩
  | .hbm, ⟨1, _⟩ => ⟨S1x32x1664, .f32⟩
  | .hbm, ⟨2, _⟩ => ⟨S1024x3200, .f32⟩
  | .hbm, ⟨3, _⟩ => ⟨S1664, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S512, .f32⟩
  | .hbm, ⟨9, _⟩ => ⟨S512, .f32⟩
  | .hbm, ⟨10, _⟩ => ⟨S1x32x3200, .f32⟩
  | .hbm, ⟨11, _⟩ => ⟨S1x32x1664, .f32⟩
  | .hbm, ⟨12, _⟩ => ⟨S1x32x512, .f32⟩
  | .hbm, ⟨13, _⟩ => ⟨S1x32x512, .f32⟩
  | .hbm, ⟨14, _⟩ => ⟨S1x32x512, .f32⟩
  | .hbm, ⟨15, _⟩ => ⟨S1x32x1664, .f32⟩
  | .hbm, ⟨16, _⟩ => ⟨S1x1x1664, .f32⟩
  | .hbm, ⟨17, _⟩ => ⟨S1x32x1664, .f32⟩
  | .hbm, ⟨18, _⟩ => ⟨S1x32x1664, .f32⟩
  | .hbm, ⟨19, _⟩ => ⟨S1x32x1664, .f32⟩
  | .hbm, ⟨20, _⟩ => ⟨S1x32x512, .f32⟩
  | .hbm, ⟨21, _⟩ => ⟨S1x32x512, .f32⟩
  | .hbm, ⟨22, _⟩ => ⟨S1x32x512, .f32⟩
  | .hbm, ⟨23, _⟩ => ⟨S1x32x64, .f32⟩
  | .hbm, ⟨24, _⟩ => ⟨S1x32x64, .f32⟩
  | .hbm, ⟨25, _⟩ => ⟨S1x32x64, .f32⟩
  | .hbm, ⟨26, _⟩ => ⟨S1x32x512, .f32⟩
  | .hbm, ⟨27, _⟩ => ⟨S1x1x512, .f32⟩
  | .hbm, ⟨28, _⟩ => ⟨S1x32x512, .f32⟩
  | .hbm, ⟨29, _⟩ => ⟨S1x32x512, .f32⟩
  | .hbm, ⟨30, _⟩ => ⟨S1x32x512, .f32⟩
  | .hbm, ⟨31, _⟩ => ⟨S_, .f32⟩
  | .hbm, ⟨32, _⟩ => ⟨S1x32x512, .f32⟩
  | .hbm, ⟨33, _⟩ => ⟨S1x32x512, .f32⟩
  | .hbm, ⟨34, _⟩ => ⟨S1x32x512, .f32⟩
  | .hbm, ⟨35, _⟩ => ⟨S1x32x512, .f32⟩
  | .hbm, ⟨36, _⟩ => ⟨S1x32x512, .i1⟩
  | .hbm, ⟨37, _⟩ => ⟨S1x32x512, .f32⟩
  | .hbm, ⟨38, _⟩ => ⟨S1x32x512, .f32⟩
  | .hbm, ⟨39, _⟩ => ⟨S1x32x512, .f32⟩
  | .hbm, ⟨40, _⟩ => ⟨S1x32x512, .f32⟩
  | .hbm, ⟨41, _⟩ => ⟨S1x32x512, .f32⟩
  | .hbm, ⟨42, _⟩ => ⟨S1x32x512, .f32⟩
  | .hbm, ⟨43, _⟩ => ⟨S1x32x512, .f32⟩
  | .hbm, ⟨44, _⟩ => ⟨S1x32x512, .f32⟩
  | .hbm, ⟨45, _⟩ => ⟨S1x32x512, .f32⟩
  | .hbm, ⟨46, _⟩ => ⟨S_, .f32⟩
  | .hbm, ⟨47, _⟩ => ⟨S1x32x512, .f32⟩
  | .hbm, ⟨48, _⟩ => ⟨S1x32x512, .f32⟩
  | .hbm, ⟨49, _⟩ => ⟨S1x32x512, .f32⟩
  | .hbm, ⟨50, _⟩ => ⟨S1x1x512, .f32⟩
  | .hbm, ⟨51, _⟩ => ⟨S1x32x512, .f32⟩
  | .hbm, ⟨52, _⟩ => ⟨S1x32x512, .f32⟩
  | .hbm, ⟨53, _⟩ => ⟨S1x32x512, .f32⟩
  | .hbm, ⟨54, _⟩ => ⟨S1x32x512, .f32⟩
  | .hbm, ⟨55, _⟩ => ⟨S_, .f32⟩
  | .hbm, ⟨56, _⟩ => ⟨S1x32x512, .f32⟩
  | .hbm, ⟨57, _⟩ => ⟨S1x32x512, .f32⟩
  | .hbm, ⟨58, _⟩ => ⟨S_, .f32⟩
  | .hbm, ⟨59, _⟩ => ⟨S1x32x512, .f32⟩
  | .hbm, ⟨60, _⟩ => ⟨S1x32x512, .f32⟩
  | .hbm, ⟨61, _⟩ => ⟨S_, .f32⟩
  | .hbm, ⟨62, _⟩ => ⟨S1x32x512, .f32⟩
  | .hbm, ⟨63, _⟩ => ⟨S1x32x512, .f32⟩
  | .hbm, ⟨64, _⟩ => ⟨S1x1x512, .f32⟩
  | .hbm, ⟨65, _⟩ => ⟨S1x32x512, .f32⟩
  | .hbm, ⟨66, _⟩ => ⟨S1x32x512, .f32⟩
  | .hbm, ⟨67, _⟩ => ⟨S_, .f32⟩
  | .hbm, ⟨68, _⟩ => ⟨S1x32x512, .f32⟩
  | .hbm, ⟨69, _⟩ => ⟨S1x32x512, .f32⟩
  | .hbm, ⟨70, _⟩ => ⟨S1x32x512, .f32⟩
  | .hbm, ⟨71, _⟩ => ⟨S1x32x512, .f32⟩
  | .hbm, ⟨72, _⟩ => ⟨S1x32x512, .f32⟩
  | _, _ => ⟨S1x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v21 : Ref sig .tc := ⟨.hbm, 44, rfl⟩
abbrev main_v22 : Ref sig .tc := ⟨.hbm, 45, rfl⟩
abbrev main_cst : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_0 : Ref sig .tc := ⟨.hbm, 55, rfl⟩
abbrev main_v31 : Ref sig .tc := ⟨.hbm, 56, rfl⟩
abbrev main_v32 : Ref sig .tc := ⟨.hbm, 57, rfl⟩
abbrev main_cst_1 : Ref sig .tc := ⟨.hbm, 58, rfl⟩
abbrev main_v33 : Ref sig .tc := ⟨.hbm, 59, rfl⟩
abbrev main_v34 : Ref sig .tc := ⟨.hbm, 60, rfl⟩
abbrev main_cst_2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩

abbrev nD : Nat := 1
abbrev τ : Topo := Topo.v7x

variable {F : FTy → Type} [FloatOps F]
-- ==== Kernel7.lean ====
abbrev S4x8192x1024 : Shape := ⟨3, ![4, 8192, 1024]⟩
abbrev S1024x3200 : Shape := ⟨2, ![1024, 3200]⟩
abbrev S1664 : Shape := ⟨1, ![1664]⟩
abbrev S512 : Shape := ⟨1, ![512]⟩
abbrev S64x512 : Shape := ⟨2, ![64, 512]⟩
abbrev S_ : Shape := ⟨0, ![]⟩
abbrev S4x1x1664 : Shape := ⟨3, ![4, 1, 1664]⟩
abbrev S8x64x8x64 : Shape := ⟨4, ![8, 64, 8, 64]⟩
abbrev S512x512 : Shape := ⟨2, ![512, 512]⟩
abbrev S1x1664 : Shape := ⟨2, ![1, 1664]⟩
abbrev S1x512 : Shape := ⟨2, ![1, 512]⟩
abbrev S4x8192x512 : Shape := ⟨3, ![4, 8192, 512]⟩
abbrev S1x512x1024 : Shape := ⟨3, ![1, 512, 1024]⟩
abbrev S1x1x1664 : Shape := ⟨3, ![1, 1, 1664]⟩
abbrev S1x512x512 : Shape := ⟨3, ![1, 512, 512]⟩
abbrev S512x1024 : Shape := ⟨2, ![512, 1024]⟩
abbrev S512x3200 : Shape := ⟨2, ![512, 3200]⟩
abbrev S512x1664 : Shape := ⟨2, ![512, 1664]⟩
abbrev S512x64 : Shape := ⟨2, ![512, 64]⟩

abbrev nBuf : Space → Nat
  | .hbm => 33
  | .vmem => 34
  | .smem => 0
  | _ => 0

abbrev bufTy : (tb : Table) → Fin (tcTables nBuf tb) → BufTy
  | .hbm, ⟨0, _⟩ => ⟨S4x8192x1024, .f32⟩
  | .hbm, ⟨1, _⟩ => ⟨S1024x3200, .f32⟩
  | .hbm, ⟨2, _⟩ => ⟨S1664, .f32⟩
  | .hbm, ⟨3, _⟩ => ⟨S512, .f32⟩
  | .hbm, ⟨4, _⟩ => ⟨S64x512, .f32⟩
  | .hbm, ⟨5, _⟩ => ⟨S512, .f32⟩
  | .hbm, ⟨6, _⟩ => ⟨S64x512, .f32⟩
  | .hbm, ⟨7, _⟩ => ⟨S512, .f32⟩
  | .hbm, ⟨8, _⟩ => ⟨S512, .f32⟩
  | .hbm, ⟨9, _⟩ => ⟨S_, .f32⟩
  | .hbm, ⟨10, _⟩ => ⟨S4x1x1664, .f32⟩
  | .hbm, ⟨11, _⟩ => ⟨S1024x3200, .bf16⟩
  | .hbm, ⟨12, _⟩ => ⟨S8x64x8x64, .i32⟩
  | .hbm, ⟨13, _⟩ => ⟨S8x64x8x64, .i32⟩
  | .hbm, ⟨14, _⟩ => ⟨S8x64x8x64, .i1⟩
  | .hbm, ⟨15, _⟩ => ⟨S8x64x8x64, .f32⟩
  | .hbm, ⟨16, _⟩ => ⟨S512x512, .f32⟩
  | .hbm, ⟨17, _⟩ => ⟨S512x512, .bf16⟩
  | .hbm, ⟨18, _⟩ => ⟨S1x1664, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S4x8192x512, .f32⟩
  | .hbm, ⟨30, _⟩ => ⟨S4x8192x512, .f32⟩
  | .hbm, ⟨31, _⟩ => ⟨S4x8192x512, .f32⟩
  | .hbm, ⟨32, _⟩ => ⟨S4x1x1664, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1664, .f32⟩
  | .local _ .vmem, ⟨3, _⟩ => ⟨S1x1x1664, .f32⟩
  | .local _ .vmem, ⟨4, _⟩ => ⟨S1024x3200, .bf16⟩
  | .local _ .vmem, ⟨5, _⟩ => ⟨S1x1664, .f32⟩
  | .local _ .vmem, ⟨6, _⟩ => ⟨S1x512, .f32⟩
  | .local _ .vmem, ⟨7, _⟩ => ⟨S64x512, .f32⟩
  | .local _ .vmem, ⟨8, _⟩ => ⟨S1x512, .f32⟩
  | .local _ .vmem, ⟨9, _⟩ => ⟨S64x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x1x1664, .f32⟩
  | .local _ .vmem, ⟨32, _⟩ => ⟨S1x1x1664, .f32⟩
  | .local _ .vmem, ⟨33, _⟩ => ⟨S1x1664, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev main_v13_7 : Ref sig .tc := ⟨.hbm, 30, rfl⟩
abbrev main_v13_8 : Ref sig .tc := ⟨.hbm, 31, rfl⟩
abbrev main_v13_9 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1664 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x1664 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== Kernel7Ideal.lean ====
variable {F : FTy → Type} [FloatOps F] [Named F]
def κ : String → Option EReal := fun
  | "neg_log2e" => some ((-((Real.log 2)⁻¹) : ℝ) : EReal)
  | _ => none
-- ==== Reference7Ideal.lean ====
abbrev S4x8192x1024 : Shape := ⟨3, ![4, 8192, 1024]⟩
abbrev S1024x3200 : Shape := ⟨2, ![1024, 3200]⟩
abbrev S1664 : Shape := ⟨1, ![1664]⟩
abbrev S512 : Shape := ⟨1, ![512]⟩
abbrev S64x512 : Shape := ⟨2, ![64, 512]⟩
abbrev S4x8192x3200 : Shape := ⟨3, ![4, 8192, 3200]⟩
abbrev S4x8192x1664 : Shape := ⟨3, ![4, 8192, 1664]⟩
abbrev S4x8192x512 : Shape := ⟨3, ![4, 8192, 512]⟩
abbrev S_ : Shape := ⟨0, ![]⟩
abbrev S4x1x1664 : Shape := ⟨3, ![4, 1, 1664]⟩
abbrev S4x8191x1664 : Shape := ⟨3, ![4, 8191, 1664]⟩
abbrev S1x1x1664 : Shape := ⟨3, ![1, 1, 1664]⟩
abbrev S4x8192x64 : Shape := ⟨3, ![4, 8192, 64]⟩
abbrev S1x1x512 : Shape := ⟨3, ![1, 1, 512]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x3200, .f32⟩
  | .hbm, ⟨2, _⟩ => ⟨S1664, .f32⟩
  | .hbm, ⟨3, _⟩ => ⟨S512, .f32⟩
  | .hbm, ⟨4, _⟩ => ⟨S64x512, .f32⟩
  | .hbm, ⟨5, _⟩ => ⟨S512, .f32⟩
  | .hbm, ⟨6, _⟩ => ⟨S64x512, .f32⟩
  | .hbm, ⟨7, _⟩ => ⟨S512, .f32⟩
  | .hbm, ⟨8, _⟩ => ⟨S512, .f32⟩
  | .hbm, ⟨9, _⟩ => ⟨S4x8192x3200, .f32⟩
  | .hbm, ⟨10, _⟩ => ⟨S4x8192x1664, .f32⟩
  | .hbm, ⟨11, _⟩ => ⟨S4x8192x512, .f32⟩
  | .hbm, ⟨12, _⟩ => ⟨S4x8192x512, .f32⟩
  | .hbm, ⟨13, _⟩ => ⟨S4x8192x512, .f32⟩
  | .hbm, ⟨14, _⟩ => ⟨S_, .f32⟩
  | .hbm, ⟨15, _⟩ => ⟨S4x1x1664, .f32⟩
  | .hbm, ⟨16, _⟩ => ⟨S4x8191x1664, .f32⟩
  | .hbm, ⟨17, _⟩ => ⟨S4x8192x1664, .f32⟩
  | .hbm, ⟨18, _⟩ => ⟨S4x8192x1664, .f32⟩
  | .hbm, ⟨19, _⟩ => ⟨S1x1x1664, .f32⟩
  | .hbm, ⟨20, _⟩ => ⟨S4x8192x1664, .f32⟩
  | .hbm, ⟨21, _⟩ => ⟨S4x8192x1664, .f32⟩
  | .hbm, ⟨22, _⟩ => ⟨S4x8192x1664, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x64, .f32⟩
  | .hbm, ⟨27, _⟩ => ⟨S4x8192x64, .f32⟩
  | .hbm, ⟨28, _⟩ => ⟨S4x8192x64, .f32⟩
  | .hbm, ⟨29, _⟩ => ⟨S4x8192x512, .f32⟩
  | .hbm, ⟨30, _⟩ => ⟨S1x1x512, .f32⟩
  | .hbm, ⟨31, _⟩ => ⟨S4x8192x512, .f32⟩
  | .hbm, ⟨32, _⟩ => ⟨S4x8192x512, .f32⟩
  | .hbm, ⟨33, _⟩ => ⟨S4x8192x512, .f32⟩
  | .hbm, ⟨34, _⟩ => ⟨S_, .f32⟩
  | .hbm, ⟨35, _⟩ => ⟨S4x8192x512, .f32⟩
  | .hbm, ⟨36, _⟩ => ⟨S4x8192x512, .f32⟩
  | .hbm, ⟨37, _⟩ => ⟨S4x8192x512, .f32⟩
  | .hbm, ⟨38, _⟩ => ⟨S4x8192x512, .f32⟩
  | .hbm, ⟨39, _⟩ => ⟨S4x8192x512, .i1⟩
  | .hbm, ⟨40, _⟩ => ⟨S4x8192x512, .f32⟩
  | .hbm, ⟨41, _⟩ => ⟨S4x8192x512, .f32⟩
  | .hbm, ⟨42, _⟩ => ⟨S4x8192x512, .f32⟩
  | .hbm, ⟨43, _⟩ => ⟨S4x8192x512, .f32⟩
  | .hbm, ⟨44, _⟩ => ⟨S4x8192x512, .f32⟩
  | .hbm, ⟨45, _⟩ => ⟨S4x8192x512, .f32⟩
  | .hbm, ⟨46, _⟩ => ⟨S4x8192x512, .f32⟩
  | .hbm, ⟨47, _⟩ => ⟨S4x8192x512, .f32⟩
  | .hbm, ⟨48, _⟩ => ⟨S4x8192x512, .f32⟩
  | .hbm, ⟨49, _⟩ => ⟨S_, .f32⟩
  | .hbm, ⟨50, _⟩ => ⟨S4x8192x512, .f32⟩
  | .hbm, ⟨51, _⟩ => ⟨S4x8192x512, .f32⟩
  | .hbm, ⟨52, _⟩ => ⟨S4x8192x512, .f32⟩
  | .hbm, ⟨53, _⟩ => ⟨S1x1x512, .f32⟩
  | .hbm, ⟨54, _⟩ => ⟨S4x8192x512, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S_, .f32⟩
  | .hbm, ⟨59, _⟩ => ⟨S4x8192x512, .f32⟩
  | .hbm, ⟨60, _⟩ => ⟨S4x8192x512, .f32⟩
  | .hbm, ⟨61, _⟩ => ⟨S_, .f32⟩
  | .hbm, ⟨62, _⟩ => ⟨S4x8192x512, .f32⟩
  | .hbm, ⟨63, _⟩ => ⟨S4x8192x512, .f32⟩
  | .hbm, ⟨64, _⟩ => ⟨S_, .f32⟩
  | .hbm, ⟨65, _⟩ => ⟨S4x8192x512, .f32⟩
  | .hbm, ⟨66, _⟩ => ⟨S4x8192x512, .f32⟩
  | .hbm, ⟨67, _⟩ => ⟨S1x1x512, .f32⟩
  | .hbm, ⟨68, _⟩ => ⟨S4x8192x512, .f32⟩
  | .hbm, ⟨69, _⟩ => ⟨S4x8192x512, .f32⟩
  | .hbm, ⟨70, _⟩ => ⟨S_, .f32⟩
  | .hbm, ⟨71, _⟩ => ⟨S4x8192x512, .f32⟩
  | .hbm, ⟨72, _⟩ => ⟨S4x8192x512, .f32⟩
  | .hbm, ⟨73, _⟩ => ⟨S4x8192x512, .f32⟩
  | .hbm, ⟨74, _⟩ => ⟨S4x8192x512, .f32⟩
  | .hbm, ⟨75, _⟩ => ⟨S4x8192x512, .f32⟩
  | .hbm, ⟨76, _⟩ => ⟨S4x1x1664, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_v24 : Ref sig .tc := ⟨.hbm, 47, rfl⟩
abbrev main_v25 : Ref sig .tc := ⟨.hbm, 48, rfl⟩
abbrev main_cst_0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_1 : Ref sig .tc := ⟨.hbm, 58, rfl⟩
abbrev main_v34 : Ref sig .tc := ⟨.hbm, 59, rfl⟩
abbrev main_v35 : Ref sig .tc := ⟨.hbm, 60, rfl⟩
abbrev main_cst_2 : Ref sig .tc := ⟨.hbm, 61, rfl⟩
abbrev main_v36 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_4 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== Proof.Math.lean ====
/- Stick-breaking weights as mathematics: the softplus of a real score in the kernel's form (base-2 exponential and a
   logarithm) and in the reference's form (`log1p` of an exponential), the weight a query puts on a key, and how sums of
   them over ranges of keys grow by one tile. Everything here is about real and extended real numbers; no program occurs. -/
module

public import Idealize.ShloMosaic.PureOps.Ideal.Laws
public import Mathlib.Analysis.SpecialFunctions.Pow.Real

@[expose] public section

noncomputable section

namespace Cert.Sb

open Idealize.ShloMosaic Finset

/-- The inclusion of the reals as a map of additive monoids, to carry it through finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem coe_max (x y : ℝ) : max (x : EReal) (y : EReal) = ((max x y : ℝ) : EReal) :=
  (EReal.coe_strictMono.monotone.map_max (a := x) (b := y)).symm

theorem max_neg_coe (x : ℝ) : max (x : EReal) (-(x : EReal)) = ((|x| : ℝ) : EReal) := by
  rw [← EReal.coe_neg, coe_max, abs_eq_max_neg]

/-- `log (1 + e^x)`, in the form that both programs evaluate. -/
def sp (x : ℝ) : ℝ := max x 0 + Real.log (1 + Real.exp (-|x|))

theorem sp_neg (x : ℝ) : sp (-x) = sp x - x := by
  unfold sp
  rw [abs_neg]
  rcases le_total 0 x with h | h
  · rw [max_eq_right (by linarith), max_eq_left h]; ring
  · rw [max_eq_left (by linarith), max_eq_right h]; ring

/-- `2 ^ (|x| · (-1 / log 2)) = e^{-|x|}`. -/
theorem rpow_two (x : ℝ) : Real.rpow 2 (x * -(Real.log 2)⁻¹) = Real.exp (-x) := by
  show (2 : ℝ) ^ (x * -(Real.log 2)⁻¹) = _
  rw [Real.rpow_def_of_pos (by norm_num)]
  congr 1
  have : Real.log 2 ≠ 0 := (Real.log_pos (by norm_num)).ne'
  field_simp

theorem log_one_add_exp (x : ℝ) : Ideal.log (1 + ((Real.exp x : ℝ) : EReal)) = ((Real.log (1 + Real.exp x) : ℝ) : EReal) := by
  rw [← EReal.coe_one, ← EReal.coe_add, Ideal.log_coe, if_neg (by have := Real.exp_pos x; linarith)]

/-- The kernel's softplus of a real score. -/
theorem kernel_sp (x : ℝ) :
    max (x : EReal) 0 + Ideal.log (1 + Ideal.exp2 (max (x : EReal) (-(x : EReal)) * ((-((Real.log 2)⁻¹) : ℝ) : EReal)))
      = ((sp x : ℝ) : EReal) := by
  rw [max_neg_coe, ← EReal.coe_mul, Ideal.exp2_coe, rpow_two, log_one_add_exp, ← EReal.coe_zero, coe_max, ← EReal.coe_add]
  rfl

/-- The reference's softplus of a real score. -/
theorem reference_sp (x : ℝ) :
    max (x : EReal) 0 + Ideal.log1p (Ideal.exp (-(max ((x : EReal) - 0) (-((x : EReal) - 0))))) = ((sp x : ℝ) : EReal) := by
  rw [sub_zero, max_neg_coe, ← EReal.coe_neg, Ideal.exp_coe, Ideal.log1p, log_one_add_exp, ← EReal.coe_zero, coe_max, ← EReal.coe_add]
  rfl

/-- The sum of the softplus of the scores `z` of the keys `s, …, T - 1`. -/
def tail (z : ℕ → ℝ) (T s : ℕ) : ℝ := ∑ j ∈ Ico s T, sp (z j)

/-- The weight of key `s` for a query at position `T`: `σ(z s) ∏_{s < j < T} (1 - σ(z j))`, as one exponential. -/
def wt (z : ℕ → ℝ) (T s : ℕ) : ℝ := Real.exp (z s - tail z T s)

/-- The values `v` of the keys `s, …, T - 1`, weighted. -/
def mix (z : ℕ → ℝ) (v : ℕ → EReal) (T s : ℕ) : EReal := ∑ j ∈ Ico s T, ((wt z T j : ℝ) : EReal) * v j

theorem tail_append (z : ℕ → ℝ) {a b T : ℕ} (h : a ≤ b) (h' : b ≤ T) : tail z b a + tail z T b = tail z T a :=
  sum_Ico_consecutive _ h h'

/-- The reference's exponent: `log σ(z s)` less the softplus of the later keys is the kernel's exponent. -/
theorem wt_reference (z : ℕ → ℝ) {T s : ℕ} (h : s < T) : -sp (-z s) + -tail z T (s + 1) = z s - tail z T s := by
  have : tail z T s = sp (z s) + tail z T (s + 1) := sum_eq_sum_Ico_succ_bot h _
  rw [this, sp_neg]; ring

/-- A sum over the 256 places of a tile with the places before `c` struck out. -/
theorem tile_suffix (f : ℕ → ℝ) (a c : ℕ) (hc : c ≤ 256) :
    ∑ k : Fin 256, ((f (a + k.val) : ℝ) : EReal) * (if c ≤ k.val then 1 else 0) = ((∑ j ∈ Ico (a + c) (a + 256), f j : ℝ) : EReal) := by
  rw [coe_sum, Finset.sum_Ico_eq_sum_range, show a + 256 - (a + c) = 256 - c by omega]
  rw [Fin.sum_univ_eq_sum_range (fun k => ((f (a + k) : ℝ) : EReal) * (if c ≤ k then 1 else 0)) 256]
  rw [← Finset.sum_range_add_sum_Ico _ hc, Finset.sum_eq_zero, zero_add, Finset.sum_Ico_eq_sum_range]
  · refine sum_congr rfl fun k _ => ?_
    rw [if_pos (by omega), mul_one, Nat.add_assoc]
  · intro k hk
    rw [if_neg (by have := mem_range.1 hk; omega), mul_zero]

/-- The same where the places from `r` on count nothing: the tile on the diagonal. -/
theorem tile_suffix_masked (f : ℕ → ℝ) (a c r : ℕ) (hr : r ≤ 256) :
    ∑ k : Fin 256, (if k.val < r then ((f (a + k.val) : ℝ) : EReal) else 0) * (if c ≤ k.val then 1 else 0)
      = ((∑ j ∈ Ico (a + c) (a + r), f j : ℝ) : EReal) := by
  rw [coe_sum, Finset.sum_Ico_eq_sum_range]
  rw [Fin.sum_univ_eq_sum_range (fun k => (if k < r then ((f (a + k) : ℝ) : EReal) else 0) * (if c ≤ k then 1 else 0)) 256]
  rw [← Finset.sum_range_add_sum_Ico _ hr, Finset.sum_eq_zero (s := Ico r 256), add_zero]
  · rcases le_or_gt c r with hc | hc
    · rw [← Finset.sum_range_add_sum_Ico _ hc, Finset.sum_eq_zero, zero_add, Finset.sum_Ico_eq_sum_range, show a + r - (a + c) = r - c by omega]
      · refine sum_congr rfl fun k hk => ?_
        have := mem_range.1 hk
        rw [if_pos (by omega), if_pos (by omega), mul_one, Nat.add_assoc]
      · intro k hk
        rw [if_neg (c := c ≤ k) (by have := mem_range.1 hk; omega), mul_zero]
    · rw [show a + r - (a + c) = 0 by omega, range_zero, sum_empty]
      refine sum_eq_zero fun k hk => ?_
      rw [if_neg (c := c ≤ k) (by have := mem_range.1 hk; omega), mul_zero]
  · intro k hk
    rw [if_neg (c := k < r) (by have := mem_Ico.1 hk; omega), zero_mul]

/-- The weight of place `c` of the tile `a, …, a + 255`, from the sum within the tile and the sum of the later tiles. -/
theorem exp_tile (z : ℕ → ℝ) {a c T : ℕ} (hc : c ≤ 256) (hT : a + 256 ≤ T) :
    Ideal.exp (((z (a + c) : ℝ) : EReal) - ((tail z (a + 256) (a + c) : ℝ) : EReal) - ((tail z T (a + 256) : ℝ) : EReal))
      = ((wt z T (a + c) : ℝ) : EReal) := by
  rw [← EReal.coe_sub, ← EReal.coe_sub, Ideal.exp_coe, sub_sub, tail_append z (by omega) hT]
  rfl

/-- The weight of place `c` of the diagonal tile. -/
theorem exp_diag (z : ℕ → ℝ) (T s : ℕ) :
    Ideal.exp (((z s : ℝ) : EReal) - ((tail z T s : ℝ) : EReal)) = ((wt z T s : ℝ) : EReal) := by
  rw [← EReal.coe_sub, Ideal.exp_coe]
  rfl

/-- One more tile of weighted values. -/
theorem mix_tile (z : ℕ → ℝ) (v : ℕ → EReal) {a T : ℕ} (hT : a + 256 ≤ T) :
    mix z v T (a + 256) + ∑ c : Fin 256, ((wt z T (a + c.val) : ℝ) : EReal) * v (a + c.val) = mix z v T a := by
  unfold mix
  rw [Fin.sum_univ_eq_sum_range (fun c => ((wt z T (a + c) : ℝ) : EReal) * v (a + c)) 256, add_comm,
    ← Finset.sum_Ico_consecutive _ (Nat.le_add_right a 256) hT, Finset.sum_Ico_eq_sum_range _ a (a + 256), Nat.add_sub_cancel_left]

/-- The diagonal tile's weighted values. -/
theorem mix_diag (z : ℕ → ℝ) (v : ℕ → EReal) (a r : ℕ) (hr : r ≤ 256) :
    ∑ c : Fin 256, (if c.val < r then ((wt z (a + r) (a + c.val) : ℝ) : EReal) else 0) * v (a + c.val) = mix z v (a + r) a := by
  unfold mix
  rw [Fin.sum_univ_eq_sum_range (fun c => (if c < r then ((wt z (a + r) (a + c) : ℝ) : EReal) else 0) * v (a + c)) 256,
    ← Finset.sum_range_add_sum_Ico _ hr, Finset.sum_eq_zero (s := Ico r 256), add_zero, Finset.sum_Ico_eq_sum_range _ a (a + r),
    Nat.add_sub_cancel_left]
  · exact sum_congr rfl fun k hk => by rw [if_pos (mem_range.1 hk)]
  · intro k hk
    rw [if_neg (by have := mem_Ico.1 hk; omega), zero_mul]

/-- All keys, the ones at and after the query struck out. -/
theorem mix_all (z : ℕ → ℝ) (v : ℕ → EReal) (N T : ℕ) (hT : T ≤ N) :
    ∑ s : Fin N, v s.val * (if s.val < T then ((wt z T s.val : ℝ) : EReal) else 0) = mix z v T 0 := by
  unfold mix
  rw [Fin.sum_univ_eq_sum_range (fun s => v s * (if s < T then ((wt z T s : ℝ) : EReal) else 0)) N,
    ← Finset.sum_range_add_sum_Ico _ hT, Finset.sum_eq_zero (s := Ico T N), add_zero, Nat.Ico_zero_eq_range]
  · exact sum_congr rfl fun k hk => by rw [if_pos (mem_range.1 hk), mul_comm]
  · intro k hk
    rw [if_neg (by have := mem_Ico.1 hk; omega), mul_zero]

end Cert.Sb

end
-- ==== Proof.Decay.lean ====
/- The logarithm of a decay: the logarithm of a sigmoid, over sixteen, as the kernel and as the reference evaluate it. They
   agree at every extended real number. -/
module

public import proofs.«01_k».proof.Proof.Math

@[expose] public section

noncomputable section

namespace Cert.Decay

open Idealize.ShloMosaic Cert.Sb

/-- The softplus through a base-2 exponential. -/
def softplus2 (a : EReal) : EReal := max a 0 + Ideal.log (1 + Ideal.exp2 (max a (-a) * ((-((Real.log 2)⁻¹) : ℝ) : EReal)))

/-- The softplus through `log1p`. -/
def softplus1 (a : EReal) : EReal := max a 0 + Ideal.log1p (Ideal.exp (-(max a (-a))))

/-- The decay as the kernel evaluates it. -/
def kernelForm (z : EReal) : EReal := (0 - softplus2 (0 - z)) * Ideal.ofBits .f32 0x3D800000#32

/-- The decay as the reference evaluates it. -/
def logDecay (z : EReal) : EReal := Ideal.div (-(softplus1 (-z))) (Ideal.ofBits .f32 0x41800000#32)

theorem neg_const : (-((Real.log 2)⁻¹) : ℝ) < 0 := neg_lt_zero.2 (inv_pos.2 (Real.log_pos (by norm_num)))

/-- The two softpluses agree, at the infinities too. -/
theorem softplus_eq (a : EReal) : softplus2 a = softplus1 a := by
  unfold softplus2 softplus1
  induction a using EReal.rec with
  | bot =>
    rw [EReal.neg_bot, max_eq_right bot_le, max_eq_right bot_le, EReal.top_mul_coe_of_neg neg_const, Ideal.exp2_bot, EReal.neg_top, Ideal.exp_bot]
    rfl
  | top =>
    rw [max_eq_left le_top, max_eq_left le_top, EReal.top_mul_coe_of_neg neg_const, Ideal.exp2_bot, EReal.neg_top, Ideal.exp_bot]
    rfl
  | coe x =>
    refine (kernel_sp x).trans ?_
    have e := reference_sp x
    rw [sub_zero] at e
    exact e.symm

theorem sixteen : Ideal.ofBits .f32 0x41800000#32 = ((16 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

/-- The two decays agree. -/
theorem kernelForm_eq (z : EReal) : kernelForm z = logDecay z := by
  unfold kernelForm logDecay
  rw [sixteen, Ideal.div_coe (by norm_num), sixteenth, softplus_eq, zero_sub, zero_sub]

end Cert.Decay

end
-- ==== Proof.Norm.lean ====
/- The output projection of a pair of heads' groups, the scaled residual and the layer norm, as functions of the rows they
   are computed from. -/
module

public import Idealize.ShloMosaic.Lib.Pointwise

@[expose] public section

noncomputable section

namespace Cert.Norm

open Idealize.ShloMosaic

/-- Row `512 * h + k` of a matrix of 1024 rows. -/
def half (h : Fin 2) (k : Fin 512) : Fin 1024 := ⟨512 * h.val + k.val, by omega⟩

/-- One entry of the product of two joined rows with a matrix. -/
def proj (a b : Fin 512 → EReal) (w : Fin 1024 → Fin 1024 → EReal) (e : Fin 1024) : EReal :=
  ∑ k, a k * w (half 0 k) e + ∑ k, b k * w (half 1 k) e

/-- The residual, scaled, plus the projection. -/
def mixed (a b : Fin 512 → EReal) (x : Fin 1024 → EReal) (w : Fin 1024 → Fin 1024 → EReal) (e : Fin 1024) : EReal :=
  Ideal.ofBits .f32 0x3FB504F3#32 * x e + proj a b w e

/-- The mean of a row. -/
def mean (u : Fin 1024 → EReal) : EReal := Ideal.div (∑ j, u j) (Ideal.ofBits .f32 0x44800000#32)

/-- The layer norm of a row, without its scale and offset. -/
def unit (u : Fin 1024 → EReal) (e : Fin 1024) : EReal :=
  (u e - mean u) * Ideal.rsqrt (mean (fun j => (u j - mean u) * (u j - mean u)) + Ideal.ofBits .f32 0x3727C5AC#32)

/-- The layer norm of a row. -/
def layer (u g b : Fin 1024 → EReal) (e : Fin 1024) : EReal := unit u e * g e + b e

/-- One column of the product of a row with a matrix of 3600 columns. -/
def col (x : Fin 1024 → EReal) (w : Fin 1024 → Fin 3600 → EReal) (j : Fin 3600) : EReal := ∑ k, x k * w k j

/-- Column `e` of the columns from `a` on. -/
def colFrom {n : ℕ} (a : ℕ) (e : Fin n) (h : a + n ≤ 3600 := by decide) : Fin 3600 := ⟨a + e.val, by omega⟩

end Cert.Norm

end
-- ==== Proof.OddPay.lean ====
/- The pieces of the second layer's projections kernel, each read at an index. -/
module

public import proofs.«01_k».proof.Proof.Decay
public import proofs.«01_k».proof.Proof.Norm
public import proofs.«01_k».proof.Proof.Gen.Kernel2Ideal.Skeleton
public import Idealize.ShloMosaic.Lib.Pointwise

@[expose] public section

set_option maxRecDepth 16384

noncomputable section

namespace Cert.Kernel2Ideal.Odd

open Idealize.ShloMosaic Idealize.ShloMosaic.TcCoe Idealize.ShloMosaic.Tactic
open Idealize.SL.Sem
open Cert.Norm Cert.Kernel2Ideal.Gen

theorem pay2_at (a b : FVec Ideal S1x512x512 .f32) (w0 w1 : FVec Ideal S512x1024 .bf16) (x : FVec Ideal S1x512x1024 .f32) (r : Fin 512) (e : Fin 1024) :
    k0_pay2 (F := Ideal) a w0 b w1 x (ix2 r e) = unit (fun j => Ideal.ofBits .f32 0x3FB504F3#32 * x (ix3 (0 : Fin 1) r j)
      + (∑ k, a (ix3 (0 : Fin 1) r k) * w0 (ix2 k j) + ∑ k, b (ix3 (0 : Fin 1) r k) * w1 (ix2 k j))) e := by
  pointwise [k0_pay2]
  simp only [unit, mean]

theorem pay3_at (u : FVec Ideal S512x1024 .f32) (g b : FVec Ideal S1x1024 .f32) (r : Fin 512) (e : Fin 1024) :
    k0_pay3 (F := Ideal) u g b (ix3 (0 : Fin 1) r e) = u (ix2 r e) * g (ix2 (0 : Fin 1) e) + b (ix2 (0 : Fin 1) e) := by
  pointwise [k0_pay3]

variable (x : FVec Ideal S1x512x1024 .f32) (w : FVec Ideal S1024x3712 .bf16) (r : Fin 512)

/-- One staged column of the projection of row `r`. -/
def staged (j : Fin 3712) : EReal := ∑ k, x (ix3 (0 : Fin 1) r k) * w (ix2 k j)

theorem pay4_at (j : Fin 3712) : k0_pay4 (F := Ideal) x w (ix2 r j) = staged x w r j := by
  pointwise [k0_pay4]
  rfl

theorem pay7_at (e : Fin 512) : k0_pay7 (F := Ideal) x w (ix3 (0 : Fin 1) r e) = staged x w r ⟨e.val, by omega⟩ * Ideal.ofBits .f32 0x3E000000#32 := by
  pointwise [k0_pay7, pay4_at]

theorem pay8_at (e : Fin 512) : k0_pay8 (F := Ideal) x w (ix3 (0 : Fin 1) r e) = staged x w r ⟨512 + e.val, by omega⟩ := by
  pointwise [k0_pay8, k0_pay5, pay4_at]

theorem pay9_at (e : Fin 512) : k0_pay9 (F := Ideal) x w (ix3 (0 : Fin 1) r e) = staged x w r ⟨1024 + e.val, by omega⟩ := by
  pointwise [k0_pay9, k0_pay6, pay4_at]

theorem pay11_at (e : Fin 512) : k0_pay11 (F := Ideal) (k0_pay10 (F := Ideal) x w) (ix3 (0 : Fin 1) r e) = staged x w r ⟨512 + e.val, by omega⟩ := by
  pointwise [k0_pay11, k0_pay10, k0_pay5, pay4_at]

theorem pay12_at (e : Fin 512) : k0_pay12 (F := Ideal) (k0_pay6 (F := Ideal) x w) (ix3 (0 : Fin 1) r e) = staged x w r ⟨1024 + e.val, by omega⟩ := by
  pointwise [k0_pay12, k0_pay6, pay4_at]

theorem pay13_at (e : Fin 512) : k0_pay13 (F := Ideal) (k0_pay4 (F := Ideal) x w) (ix3 (0 : Fin 1) r e) = staged x w r ⟨1536 + e.val, by omega⟩ := by
  pointwise [k0_pay13, pay4_at]

theorem pay14_at (e : Fin 256) : k0_pay14 (F := Ideal) (k0_pay4 (F := Ideal) x w) (ix3 (0 : Fin 1) r e)
    = staged x w r ⟨2048 + e.val, by omega⟩ * Ideal.ofBits .f32 0x3E000000#32 := by
  pointwise [k0_pay14, pay4_at]

theorem pay15_at (e : Fin 256) : k0_pay15 (F := Ideal) (k0_pay4 (F := Ideal) x w) (ix3 (0 : Fin 1) r e) = staged x w r ⟨2304 + e.val, by omega⟩ := by
  pointwise [k0_pay15, pay4_at]

theorem pay16_at (e : Fin 512) : k0_pay16 (F := Ideal) (k0_pay4 (F := Ideal) x w) (ix3 (0 : Fin 1) r e) = staged x w r ⟨2560 + e.val, by omega⟩ := by
  pointwise [k0_pay16, pay4_at]

theorem pay17_at (e : Fin 512) : k0_pay17 (F := Ideal) (k0_pay4 (F := Ideal) x w) (ix3 (0 : Fin 1) r e) = staged x w r ⟨3072 + e.val, by omega⟩ := by
  pointwise [k0_pay17, pay4_at]

theorem pay1_at (a : FVec Ideal S128x256 .f32) (b : FVec Ideal S1x256 .f32) (e : Fin 256) :
    k0_pay1 (F := Ideal) (k0_pay18 (F := Ideal) (k0_pay4 (F := Ideal) x w)) a b (ix3 (0 : Fin 1) r e)
      = Cert.Decay.kernelForm (∑ l : Fin 128, staged x w r ⟨3584 + l.val, by omega⟩ * a (ix2 l e) + b (ix2 (0 : Fin 1) e)) := by
  have h : (Named.named (F := Ideal) (φ := .f32) κ "neg_log2e" 0xBFB8AA3B#32 : EReal) = ((-((Real.log 2)⁻¹) : ℝ) : EReal) :=
    IdealRules.named_const.ideal_named_scalar _ _ _ _ rfl
  pointwise [k0_pay1, k0_pay18, pay4_at]
  rw [h]
  rfl

end Cert.Kernel2Ideal.Odd

end
-- ==== Proof.OddBlocks.lean ====
/- The blocks a grid point of the second layer's projections reads, as entries of the arguments: the staged weight holds the
   argument's columns in another order and zeros after them. -/
module

public import proofs.«01_k».proof.Proof.OddPay
public import proofs.«01_k».proof.Proof.Gen.Kernel2Ideal.Frame
public import Idealize.ShloMosaic.Lib.Pointwise
public import Idealize.ShloMosaic.Lib.Pipeline.ValueKit

@[expose] public section

set_option maxRecDepth 16384

noncomputable section

namespace Cert.Kernel2Ideal.Odd

open Idealize.ShloMosaic Idealize.ShloMosaic.TcCoe Idealize.ShloMosaic.Tactic
open Idealize.SL.Sem
open Cert.Norm Cert.Kernel2Ideal Cert.Kernel2Ideal.Gen

variable (m : (ℓ : Loc nD τ sig) → Buf (Elt Ideal) ℓ)

/-- Where the windows' blocks lie. -/
theorem idx : ∀ t : Fin cfg0.N, win0_0.index t = ![(grid0.coords t 0).val, (grid0.coords t 1).val, 0] ∧ win0_1.index t = ![(grid0.coords t 0).val, (grid0.coords t 1).val, 0] ∧ win0_2.index t = ![(grid0.coords t 0).val, (grid0.coords t 1).val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0]
    ∧ win0_17.index t = ![(grid0.coords t 0).val, (grid0.coords t 1).val, 0]
    ∧ win0_18.index t = ![(grid0.coords t 0).val, (grid0.coords t 1).val, 0]
    ∧ win0_19.index t = ![(grid0.coords t 0).val, (grid0.coords t 1).val, 0]
    ∧ win0_20.index t = ![(grid0.coords t 0).val, (grid0.coords t 1).val, 0] :=
  (by decide +kernel : ∀ t : Fin grid0.N, _)

/-- The sequence a grid point works on. -/
def seqOf (t : Fin cfg0.N) : Fin 4 := ⟨(grid0.coords t 0).val, (grid0.coords t 0).isLt⟩

/-- The position of row `r` of a grid point's block. -/
def posOf (t : Fin cfg0.N) (r : Fin 512) : Fin 8192 := ⟨(grid0.coords t 1).val * 512 + r.val, by
  have : (grid0.coords t 1).val < 16 := (grid0.coords t 1).isLt
  omega⟩

theorem blk_a (c : Dev nD) (t : Fin cfg0.N) (r : Fin 512) (d : Fin 512) :
    (iblk m c 0 t : Vec Ideal S1x512x512 .f32) (ix3 (0 : Fin 1) r d)
      = (m ((c : Thread nD τ).loc main_arg0) : FVec Ideal S4x8192x512 .f32) (ix3 (seqOf t) (posOf t r) d) := by
  blk_ext [iblk, V, idx t, seqOf, posOf]

theorem blk_b (c : Dev nD) (t : Fin cfg0.N) (r : Fin 512) (d : Fin 512) :
    (iblk m c 1 t : Vec Ideal S1x512x512 .f32) (ix3 (0 : Fin 1) r d)
      = (m ((c : Thread nD τ).loc main_arg1) : FVec Ideal S4x8192x512 .f32) (ix3 (seqOf t) (posOf t r) d) := by
  blk_ext [iblk, V, idx t, seqOf, posOf]

theorem blk_x (c : Dev nD) (t : Fin cfg0.N) (r : Fin 512) (d : Fin 1024) :
    (iblk m c 2 t : Vec Ideal S1x512x1024 .f32) (ix3 (0 : Fin 1) r d)
      = (m ((c : Thread nD τ).loc main_arg2) : FVec Ideal S4x8192x1024 .f32) (ix3 (seqOf t) (posOf t r) d) := by
  blk_ext [iblk, V, idx t, seqOf, posOf]

theorem blk_w (c : Dev nD) (t : Fin cfg0.N) (k e : Fin 1024) :
    (iblk m c 3 t : Vec Ideal S1024x1024 .bf16) (ix2 k e) = (m ((c : Thread nD τ).loc main_arg3) : FVec Ideal S1024x1024 .f32) (ix2 k e) := by
  have h : (iblk m c 3 t : Vec Ideal S1024x1024 .bf16) (ix2 k e) = (V m c main_v0 : FVec Ideal S1024x1024 .bf16) (ix2 k e) := by
    blk_ext [iblk, idx t]
  rw [h]
  simp only [V, hostOps0, hostOps0_1, hostOps0_2, List.flatten_cons, List.flatten_nil, List.cons_append, List.nil_append, List.append_nil]
  entry_read
  rfl

theorem blk_g (c : Dev nD) (t : Fin cfg0.N) (e : Fin 1024) :
    (iblk m c 4 t : Vec Ideal S1x1024 .f32) (ix2 (0 : Fin 1) e) = (m ((c : Thread nD τ).loc main_arg4) : FVec Ideal S1024 .f32) (ix1 e) := by
  have h : (iblk m c 4 t : Vec Ideal S1x1024 .f32) (ix2 (0 : Fin 1) e) = (V m c main_v8 : FVec Ideal S1x1024 .f32) (ix2 (0 : Fin 1) e) := by
    blk_ext [iblk, idx t]
  rw [h]
  simp only [V, hostOps0, hostOps0_1, hostOps0_2, List.flatten_cons, List.flatten_nil, List.cons_append, List.nil_append, List.append_nil]
  entry_read
  pointwise

theorem blk_o (c : Dev nD) (t : Fin cfg0.N) (e : Fin 1024) :
    (iblk m c 5 t : Vec Ideal S1x1024 .f32) (ix2 (0 : Fin 1) e) = (m ((c : Thread nD τ).loc main_arg5) : FVec Ideal S1024 .f32) (ix1 e) := by
  have h : (iblk m c 5 t : Vec Ideal S1x1024 .f32) (ix2 (0 : Fin 1) e) = (V m c main_v9 : FVec Ideal S1x1024 .f32) (ix2 (0 : Fin 1) e) := by
    blk_ext [iblk, idx t]
  rw [h]
  simp only [V, hostOps0, hostOps0_1, hostOps0_2, List.flatten_cons, List.flatten_nil, List.cons_append, List.nil_append, List.append_nil]
  entry_read
  pointwise

theorem blk_d (c : Dev nD) (t : Fin cfg0.N) (e : Fin 256) :
    (iblk m c 8 t : Vec Ideal S1x256 .f32) (ix2 (0 : Fin 1) e) = (m ((c : Thread nD τ).loc main_arg8) : FVec Ideal S256 .f32) (ix1 e) := by
  have h : (iblk m c 8 t : Vec Ideal S1x256 .f32) (ix2 (0 : Fin 1) e) = (V m c main_v10 : FVec Ideal S1x256 .f32) (ix2 (0 : Fin 1) e) := by
    blk_ext [iblk, idx t]
  rw [h]
  simp only [V, hostOps0, hostOps0_1, hostOps0_2, List.flatten_cons, List.flatten_nil, List.cons_append, List.nil_append, List.append_nil]
  entry_read
  pointwise

/-- The staged weight: the projections read at full width first, then the gate, then the decay's columns, then zeros. -/
def stage (w : Fin 1024 → Fin 3600 → EReal) (k : Fin 1024) (j : Fin 3712) : EReal :=
  if h : j.val < 3072 then w k ⟨j.val, by omega⟩
  else if h : j.val < 3584 then w k ⟨3088 + (j.val - 3072), by omega⟩
  else if h : j.val < 3600 then w k ⟨3072 + (j.val - 3584), by omega⟩ else 0

/-- The decay's weight under zero rows. -/
def padded (a : Fin 16 → Fin 256 → EReal) (l : Fin 128) (e : Fin 256) : EReal := if h : l.val < 16 then a ⟨l.val, h⟩ e else 0

/-- The four pieces side by side, read at a column. -/
theorem cat_at (w : FVec Ideal S1024x3600 .f32) (k : Fin 1024) (j : Fin 3712) :
    concatenate S1024x3712 1 [⟨S1024x3072, extractStridedSlice S1024x3072 ![0, 0] w slices_S1024x3600_S1024x3072_0_0⟩,
      ⟨S1024x512, extractStridedSlice S1024x512 ![0, 3088] w slices_S1024x3600_S1024x512_0_3088⟩,
      ⟨S1024x16, extractStridedSlice S1024x16 ![0, 3072] w slices_S1024x3600_S1024x16_0_3072⟩,
      ⟨S1024x112, broadcastInDim S1024x112 ![] bcast_S_S1024x112 (constant (F := Ideal) S_ .f32 0x00000000#32)⟩] concatenates_S1024x3072_S1024x512_S1024x16_S1024x112_S1024x3712_d1 (ix2 k j)
      = stage (fun k j => w (ix2 k j)) k j := by
  pointwise
  unfold stage
  by_cases h1 : j.val < 3072
  · rw [dif_pos h1, dif_pos h1]
  rw [dif_neg h1, dif_neg h1]
  by_cases h2 : j.val < 3584
  · rw [dif_pos (show j.val - 3072 < 512 by omega), dif_pos h2]
  rw [dif_neg (show ¬ j.val - 3072 < 512 by omega), dif_neg h2]
  by_cases h3 : j.val < 3600
  · rw [dif_pos (show j.val - 3072 - 512 < 16 by omega), dif_pos h3]
    exact congrArg (fun x => w (ix2 k x)) (Fin.ext (by show 3072 + (j.val - 3072 - 512) = 3072 + (j.val - 3584); omega))
  · rw [dif_neg (show ¬ j.val - 3072 - 512 < 16 by omega), dif_neg h3]

/-- The zero rows under a matrix, read at a row. -/
theorem pad_at (a : FVec Ideal S16x256 .f32) (l : Fin 128) (e : Fin 256) :
    pad S128x256 ![0, 0] ![112, 0] ![0, 0] a (sitofp (F := Ideal) .f32 (constantI S_ 32 0#32)) pads_S16x256_S128x256_01120_000 h_S_ (ix2 l e)
      = padded (fun l e => a (ix2 l e)) l e := by
  pointwise
  have z : (FloatOps.sitofp (F := Ideal) (.f32 : FTy) (0#32 : BitVec 32) : EReal) = 0 := by
    show (((0#32 : BitVec 32).toInt : ℝ) : EReal) = 0
    norm_num
  rw [z]
  rfl

theorem blk_p (c : Dev nD) (t : Fin cfg0.N) (k : Fin 1024) (j : Fin 3712) :
    (iblk m c 6 t : Vec Ideal S1024x3712 .bf16) (ix2 k j)
      = stage (fun k j => (m ((c : Thread nD τ).loc main_arg6) : FVec Ideal S1024x3600 .f32) (ix2 k j)) k j := by
  have h : (iblk m c 6 t : Vec Ideal S1024x3712 .bf16) (ix2 k j) = (V m c main_v6 : FVec Ideal S1024x3712 .bf16) (ix2 k j) := by
    blk_ext [iblk, idx t]
  rw [h]
  exact Eq.trans rfl (cat_at (m ((c : Thread nD τ).loc main_arg6)) k j)

theorem blk_l (c : Dev nD) (t : Fin cfg0.N) (l : Fin 128) (e : Fin 256) :
    (iblk m c 7 t : Vec Ideal S128x256 .f32) (ix2 l e)
      = padded (fun l e => (m ((c : Thread nD τ).loc main_arg7) : FVec Ideal S16x256 .f32) (ix2 l e)) l e := by
  have h : (iblk m c 7 t : Vec Ideal S128x256 .f32) (ix2 l e) = (V m c main_v7 : FVec Ideal S128x256 .f32) (ix2 l e) := by
    blk_ext [iblk, idx t]
  rw [h]
  simp only [V, hostOps0, hostOps0_1, hostOps0_2, List.flatten_cons, List.flatten_nil, List.cons_append, List.nil_append, List.append_nil]
  entry_read
  exact pad_at _ l e

end Cert.Kernel2Ideal.Odd

end
-- ==== Proof.OddOut.lean ====
/- What a grid point of the second layer's projections leaves in the twelve outputs' buffers, over the arguments. -/
module

public import proofs.«01_k».proof.Proof.OddBlocks
public import proofs.«01_k».proof.Proof.Gen.Kernel2Ideal.Frame
public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Kernel2Ideal.Odd

open Idealize.ShloMosaic Idealize.ShloMosaic.TcCoe Idealize.ShloMosaic.Tactic
open Idealize.SL.Sem
open Cert.Norm Cert.Kernel2Ideal Cert.Kernel2Ideal.Gen

variable (m : (ℓ : Loc nD τ sig) → Buf (Elt Ideal) ℓ)

/-- The normed row of a position. -/
def normed (c : Dev nD) (n : Fin 4) (t : Fin 8192) : Fin 1024 → EReal :=
  layer (mixed (fun k => (m ((c : Thread nD τ).loc main_arg0) : FVec Ideal S4x8192x512 .f32) (ix3 n t k))
      (fun k => (m ((c : Thread nD τ).loc main_arg1) : FVec Ideal S4x8192x512 .f32) (ix3 n t k))
      (fun j => (m ((c : Thread nD τ).loc main_arg2) : FVec Ideal S4x8192x1024 .f32) (ix3 n t j))
      (fun k j => (m ((c : Thread nD τ).loc main_arg3) : FVec Ideal S1024x1024 .f32) (ix2 k j)))
    (fun j => (m ((c : Thread nD τ).loc main_arg4) : FVec Ideal S1024 .f32) (ix1 j))
    (fun j => (m ((c : Thread nD τ).loc main_arg5) : FVec Ideal S1024 .f32) (ix1 j))

/-- One column of the projection of a position's normed row. -/
def colOf (c : Dev nD) (n : Fin 4) (t : Fin 8192) (j : Fin 3600) : EReal :=
  col (normed m c n t) (fun k j => (m ((c : Thread nD τ).loc main_arg6) : FVec Ideal S1024x3600 .f32) (ix2 k j)) j

/-- The columns from `a` on. -/
def cols {w : ℕ} (c : Dev nD) (a : ℕ) (n : Fin 4) (t : Fin 8192) (e : Fin w) (h : a + w ≤ 3600 := by decide) : EReal := colOf m c n t (colFrom a e h)

/-- The columns from `a` on, scaled by an eighth. -/
def scaled {w : ℕ} (c : Dev nD) (a : ℕ) (n : Fin 4) (t : Fin 8192) (e : Fin w) (h : a + w ≤ 3600 := by decide) : EReal :=
  cols m c a n t e h * Ideal.ofBits .f32 0x3E000000#32

/-- The logarithm of a position's decays. -/
def decay (c : Dev nD) (n : Fin 4) (t : Fin 8192) (e : Fin 256) : EReal :=
  Cert.Decay.logDecay (∑ l : Fin 16, cols m c 3072 n t l * (m ((c : Thread nD τ).loc main_arg7) : FVec Ideal S16x256 .f32) (ix2 l e)
    + (m ((c : Thread nD τ).loc main_arg8) : FVec Ideal S256 .f32) (ix1 e))

/-- The block of normed rows of a grid point, as the body computes it. -/
abbrev block (c : Dev nD) (t : Fin cfg0.N) : FVec Ideal S1x512x1024 .f32 :=
  k0_pay3 (F := Ideal) (k0_pay2 (F := Ideal) (iblk m c 0 t) (View.ld (iblk m c 3 t) (Rect.unit ![0, 0] ![512, 1024] inb_S1024x1024_S512x1024_0_0))
    (iblk m c 1 t) (View.ld (iblk m c 3 t) (Rect.unit ![512, 0] ![512, 1024] inb_S1024x1024_S512x1024_512_0)) (iblk m c 2 t)) (iblk m c 4 t) (iblk m c 5 t)

theorem block_at (c : Dev nD) (t : Fin cfg0.N) (r : Fin 512) (e : Fin 1024) :
    block m c t (ix3 (0 : Fin 1) r e) = normed m c (seqOf t) (posOf t r) e := by
  rw [block, pay3_at, pay2_at]
  pointwise [normed, layer]
  simp only [unit, mixed, proj, blk_a, blk_b, blk_x, blk_w, blk_g, blk_o]
  rfl

/-- A staged column of a grid point's row is the projection of the normed row with the staged weight's column. -/
theorem staged_at (c : Dev nD) (t : Fin cfg0.N) (r : Fin 512) (j : Fin 3712) :
    staged (block m c t) (iblk m c 6 t) r j
      = ∑ k, normed m c (seqOf t) (posOf t r) k * stage (fun k j => (m ((c : Thread nD τ).loc main_arg6) : FVec Ideal S1024x3600 .f32) (ix2 k j)) k j :=
  Finset.sum_congr rfl fun k _ => congr (congrArg HMul.hMul (block_at m c t r k)) (blk_p m c t k j)

/-- The first columns are staged where they are. -/
theorem staged_main (c : Dev nD) (t : Fin cfg0.N) (r : Fin 512) (j : Fin 3712) (h : j.val < 3072) :
    staged (block m c t) (iblk m c 6 t) r j = colOf m c (seqOf t) (posOf t r) ⟨j.val, by omega⟩ := by
  refine (staged_at m c t r j).trans ?_
  unfold colOf col
  refine Finset.sum_congr rfl fun k _ => ?_
  rw [stage, dif_pos h]

/-- The gate's columns are staged before the decay's. -/
theorem staged_gate (c : Dev nD) (t : Fin cfg0.N) (r : Fin 512) (e : Fin 512) :
    staged (block m c t) (iblk m c 6 t) r ⟨3072 + e.val, by omega⟩ = cols m c 3088 (seqOf t) (posOf t r) e := by
  refine (staged_at m c t r _).trans ?_
  unfold cols colOf col
  refine Finset.sum_congr rfl fun k _ => ?_
  rw [stage, dif_neg (by dsimp only; omega), dif_pos (by dsimp only; omega)]
  exact congrArg (fun j => normed m c (seqOf t) (posOf t r) k * (m ((c : Thread nD τ).loc main_arg6) : FVec Ideal S1024x3600 .f32) (ix2 k j))
    (Fin.ext (by show 3088 + (3072 + e.val - 3072) = 3088 + e.val; omega))

/-- The decay's columns are staged last. -/
theorem staged_last (c : Dev nD) (t : Fin cfg0.N) (r : Fin 512) (l : Fin 16) :
    staged (block m c t) (iblk m c 6 t) r ⟨3584 + l.val, by omega⟩ = cols m c 3072 (seqOf t) (posOf t r) l := by
  refine (staged_at m c t r _).trans ?_
  unfold cols colOf col
  refine Finset.sum_congr rfl fun k _ => ?_
  rw [stage, dif_neg (by dsimp only; omega), dif_neg (by dsimp only; omega), dif_pos (by dsimp only; omega)]
  exact congrArg (fun j => normed m c (seqOf t) (posOf t r) k * (m ((c : Thread nD τ).loc main_arg6) : FVec Ideal S1024x3600 .f32) (ix2 k j))
    (Fin.ext (by show 3072 + (3584 + l.val - 3584) = 3072 + l.val; omega))

/-- The decay's product over the padded weight is the one over its sixteen rows. -/
theorem staged_decay (c : Dev nD) (t : Fin cfg0.N) (r : Fin 512) (e : Fin 256) :
    ∑ l : Fin 128, staged (block m c t) (iblk m c 6 t) r ⟨3584 + l.val, by omega⟩ * (iblk m c 7 t : Vec Ideal S128x256 .f32) (ix2 l e)
      = ∑ l : Fin 16, cols m c 3072 (seqOf t) (posOf t r) l * (m ((c : Thread nD τ).loc main_arg7) : FVec Ideal S16x256 .f32) (ix2 l e) := by
  refine (Fin.sum_univ_add (a := 16) (b := 112) (fun l : Fin 128 =>
    staged (block m c t) (iblk m c 6 t) r ⟨3584 + l.val, by omega⟩ * (iblk m c 7 t : Vec Ideal S128x256 .f32) (ix2 l e))).trans ?_
  have low : ∀ l : Fin 16, (iblk m c 7 t : Vec Ideal S128x256 .f32) (ix2 (Fin.castAdd 112 l) e)
      = (m ((c : Thread nD τ).loc main_arg7) : FVec Ideal S16x256 .f32) (ix2 l e) := fun l =>
    (blk_l m c t (Fin.castAdd 112 l) e).trans (dif_pos l.isLt)
  have high : ∀ l : Fin 112, (iblk m c 7 t : Vec Ideal S128x256 .f32) (ix2 (Fin.natAdd 16 l) e) = (0 : EReal) := fun l =>
    (blk_l m c t (Fin.natAdd 16 l) e).trans (dif_neg (by show ¬ 16 + l.val < 16; omega))
  rw [Finset.sum_congr rfl fun l _ => congrArg (_ * ·) (high l)]
  simp only [mul_zero, Finset.sum_const_zero, add_zero]
  exact Finset.sum_congr rfl fun l _ => congr (congrArg HMul.hMul (staged_last m c t r l)) (low l)

theorem after9_at (c : Dev nD) (t : Fin cfg0.N) (r : Fin 512) (e : Fin 1024) :
    (outsAt0 (F := Ideal) m c t).1 (ix3 (0 : Fin 1) r e) = normed m c (seqOf t) (posOf t r) e := by
  simp only [outsAt0]
  frame_out
  exact block_at m c t r e

theorem after10_at (c : Dev nD) (t : Fin cfg0.N) (r : Fin 512) (e : Fin 512) :
    (outsAt0 (F := Ideal) m c t).2.1 (ix3 (0 : Fin 1) r e) = scaled m c 0 (seqOf t) (posOf t r) e := by
  simp only [outsAt0]
  frame_out
  exact (pay7_at _ _ r e).trans (congrArg (· * Ideal.ofBits .f32 0x3E000000#32) ((staged_main m c t r _ (show e.val < 3072 by omega)).trans
    (congrArg (colOf m c (seqOf t) (posOf t r)) (Fin.ext (Nat.zero_add _).symm))))

theorem after11_at (c : Dev nD) (t : Fin cfg0.N) (r : Fin 512) (e : Fin 512) :
    (outsAt0 (F := Ideal) m c t).2.2.1 (ix3 (0 : Fin 1) r e) = cols m c 512 (seqOf t) (posOf t r) e := by
  simp only [outsAt0]
  frame_out
  exact (pay8_at _ _ r e).trans (staged_main m c t r _ (by dsimp only; omega))

theorem after12_at (c : Dev nD) (t : Fin cfg0.N) (r : Fin 512) (e : Fin 512) :
    (outsAt0 (F := Ideal) m c t).2.2.2.1 (ix3 (0 : Fin 1) r e) = cols m c 1024 (seqOf t) (posOf t r) e := by
  simp only [outsAt0]
  frame_out
  exact (pay9_at _ _ r e).trans (staged_main m c t r _ (by dsimp only; omega))

theorem after13_at (c : Dev nD) (t : Fin cfg0.N) (r : Fin 512) (e : Fin 512) :
    (outsAt0 (F := Ideal) m c t).2.2.2.2.1 (ix3 (0 : Fin 1) r e) = cols m c 512 (seqOf t) (posOf t r) e := by
  simp only [outsAt0]
  frame_out
  exact (pay11_at _ _ r e).trans (staged_main m c t r _ (by dsimp only; omega))

theorem after14_at (c : Dev nD) (t : Fin cfg0.N) (r : Fin 512) (e : Fin 512) :
    (outsAt0 (F := Ideal) m c t).2.2.2.2.2.1 (ix3 (0 : Fin 1) r e) = cols m c 1024 (seqOf t) (posOf t r) e := by
  simp only [outsAt0]
  frame_out
  exact (pay12_at _ _ r e).trans (staged_main m c t r _ (by dsimp only; omega))

theorem after15_at (c : Dev nD) (t : Fin cfg0.N) (r : Fin 512) (e : Fin 512) :
    (outsAt0 (F := Ideal) m c t).2.2.2.2.2.2.1 (ix3 (0 : Fin 1) r e) = cols m c 1536 (seqOf t) (posOf t r) e := by
  simp only [outsAt0]
  frame_out
  exact (pay13_at _ _ r e).trans (staged_main m c t r _ (by dsimp only; omega))

theorem after16_at (c : Dev nD) (t : Fin cfg0.N) (r : Fin 512) (e : Fin 256) :
    (outsAt0 (F := Ideal) m c t).2.2.2.2.2.2.2.1 (ix3 (0 : Fin 1) r e) = scaled m c 2048 (seqOf t) (posOf t r) e := by
  simp only [outsAt0]
  frame_out
  exact (pay14_at _ _ r e).trans (congrArg (· * Ideal.ofBits .f32 0x3E000000#32) (staged_main m c t r _ (by dsimp only; omega)))

theorem after17_at (c : Dev nD) (t : Fin cfg0.N) (r : Fin 512) (e : Fin 256) :
    (outsAt0 (F := Ideal) m c t).2.2.2.2.2.2.2.2.1 (ix3 (0 : Fin 1) r e) = cols m c 2304 (seqOf t) (posOf t r) e := by
  simp only [outsAt0]
  frame_out
  exact (pay15_at _ _ r e).trans (staged_main m c t r _ (by dsimp only; omega))

theorem after18_at (c : Dev nD) (t : Fin cfg0.N) (r : Fin 512) (e : Fin 512) :
    (outsAt0 (F := Ideal) m c t).2.2.2.2.2.2.2.2.2.1 (ix3 (0 : Fin 1) r e) = cols m c 2560 (seqOf t) (posOf t r) e := by
  simp only [outsAt0]
  frame_out
  exact (pay16_at _ _ r e).trans (staged_main m c t r _ (by dsimp only; omega))

theorem after19_at (c : Dev nD) (t : Fin cfg0.N) (r : Fin 512) (e : Fin 256) :
    (outsAt0 (F := Ideal) m c t).2.2.2.2.2.2.2.2.2.2.1 (ix3 (0 : Fin 1) r e) = decay m c (seqOf t) (posOf t r) e := by
  simp only [outsAt0]
  frame_out
  refine (pay1_at _ _ r _ _ e).trans ((Cert.Decay.kernelForm_eq _).trans ?_)
  exact congrArg Cert.Decay.logDecay (congr (congrArg HAdd.hAdd (staged_decay m c t r e)) (blk_d m c t e))

theorem after20_at (c : Dev nD) (t : Fin cfg0.N) (r : Fin 512) (e : Fin 512) :
    (outsAt0 (F := Ideal) m c t).2.2.2.2.2.2.2.2.2.2.2 (ix3 (0 : Fin 1) r e) = cols m c 3088 (seqOf t) (posOf t r) e := by
  simp only [outsAt0]
  frame_out
  exact (pay17_at _ _ r e).trans (staged_gate m c t r e)

end Cert.Kernel2Ideal.Odd

end
-- ==== Proof.OddArray.lean ====
/- The twelve arrays the second layer's projections kernel leaves, over the arguments. -/
module

public import proofs.«01_k».proof.Proof.OddOut

@[expose] public section

set_option maxRecDepth 16384

noncomputable section

namespace Cert.Kernel2Ideal.Odd

open Idealize.ShloMosaic Idealize.ShloMosaic.TcCoe Idealize.ShloMosaic.Tactic
open Idealize.SL.Sem
open Cert.Norm Cert.Kernel2Ideal Cert.Kernel2Ideal.Gen

variable (m : (ℓ : Loc nD τ sig) → Buf (Elt Ideal) ℓ)

/-- An index of a block of one sequence's rows. -/
theorem at_row {n : ℕ} (y : (⟨3, ![1, 512, n]⟩ : Shape).Idx) : y = ix3 (0 : Fin 1) (y 1) (y 2) :=
  (eq_ix3 y).trans (congrArg (fun z : Fin 1 => ix3 z (y 1) (y 2)) (Subsingleton.elim (α := Fin 1) _ _))

/-- A function of a sequence, a position and a column at equal indices. -/
theorem at_cell {w : ℕ} {f : Fin 4 → Fin 8192 → Fin w → EReal} {a a' : Fin 4} {b b' : Fin 8192} {d d' : Fin w} (ha : a.val = a'.val) (hb : b.val = b'.val)
    (hd : d.val = d'.val) : f a b d = f a' b' d' := by
  cases Fin.ext ha
  cases Fin.ext hb
  cases Fin.ext hd
  rfl

theorem final9 (c : Dev nD) : (dats m 0 c).arrAt 9 cfg0.N = (fun y => normed m c (y 0) (y 1) (y 2) : S4x8192x1024.Idx → EReal) := by
  refine (dats m 0 c).arrAt_eq_of_covers 9 _ (by decide +kernel) fun t _ y => ?_
  blk_simp
  rw [after0_9]
  refine (congrArg _ (at_row y)).trans ((after9_at m c t (y 1) (y 2)).trans (at_cell (f := fun n t e => normed m c n t e) ?_ ?_ ?_)) <;> blk_simp [idx t, seqOf, posOf]

theorem final10 (c : Dev nD) : (dats m 0 c).arrAt 10 cfg0.N = (fun y => scaled m c 0 (y 0) (y 1) (y 2) : S4x8192x512.Idx → EReal) := by
  refine (dats m 0 c).arrAt_eq_of_covers 10 _ (by decide +kernel) fun t _ y => ?_
  blk_simp
  rw [after0_10]
  refine (congrArg _ (at_row y)).trans ((after10_at m c t (y 1) (y 2)).trans (at_cell (f := fun n t e => scaled m c 0 n t e) ?_ ?_ ?_)) <;> blk_simp [idx t, seqOf, posOf]

theorem final11 (c : Dev nD) : (dats m 0 c).arrAt 11 cfg0.N = (fun y => cols m c 512 (y 0) (y 1) (y 2) : S4x8192x512.Idx → EReal) := by
  refine (dats m 0 c).arrAt_eq_of_covers 11 _ (by decide +kernel) fun t _ y => ?_
  blk_simp
  rw [after0_11]
  refine (congrArg _ (at_row y)).trans ((after11_at m c t (y 1) (y 2)).trans (at_cell (f := fun n t e => cols m c 512 n t e) ?_ ?_ ?_)) <;> blk_simp [idx t, seqOf, posOf]

theorem final12 (c : Dev nD) : (dats m 0 c).arrAt 12 cfg0.N = (fun y => cols m c 1024 (y 0) (y 1) (y 2) : S4x8192x512.Idx → EReal) := by
  refine (dats m 0 c).arrAt_eq_of_covers 12 _ (by decide +kernel) fun t _ y => ?_
  blk_simp
  rw [after0_12]
  refine (congrArg _ (at_row y)).trans ((after12_at m c t (y 1) (y 2)).trans (at_cell (f := fun n t e => cols m c 1024 n t e) ?_ ?_ ?_)) <;> blk_simp [idx t, seqOf, posOf]

theorem final13 (c : Dev nD) : (dats m 0 c).arrAt 13 cfg0.N = (fun y => cols m c 512 (y 0) (y 1) (y 2) : S4x8192x512.Idx → EReal) := by
  refine (dats m 0 c).arrAt_eq_of_covers 13 _ (by decide +kernel) fun t _ y => ?_
  blk_simp
  rw [after0_13]
  refine (congrArg _ (at_row y)).trans ((after13_at m c t (y 1) (y 2)).trans (at_cell (f := fun n t e => cols m c 512 n t e) ?_ ?_ ?_)) <;> blk_simp [idx t, seqOf, posOf]

theorem final14 (c : Dev nD) : (dats m 0 c).arrAt 14 cfg0.N = (fun y => cols m c 1024 (y 0) (y 1) (y 2) : S4x8192x512.Idx → EReal) := by
  refine (dats m 0 c).arrAt_eq_of_covers 14 _ (by decide +kernel) fun t _ y => ?_
  blk_simp
  rw [after0_14]
  refine (congrArg _ (at_row y)).trans ((after14_at m c t (y 1) (y 2)).trans (at_cell (f := fun n t e => cols m c 1024 n t e) ?_ ?_ ?_)) <;> blk_simp [idx t, seqOf, posOf]

theorem final15 (c : Dev nD) : (dats m 0 c).arrAt 15 cfg0.N = (fun y => cols m c 1536 (y 0) (y 1) (y 2) : S4x8192x512.Idx → EReal) := by
  refine (dats m 0 c).arrAt_eq_of_covers 15 _ (by decide +kernel) fun t _ y => ?_
  blk_simp
  rw [after0_15]
  refine (congrArg _ (at_row y)).trans ((after15_at m c t (y 1) (y 2)).trans (at_cell (f := fun n t e => cols m c 1536 n t e) ?_ ?_ ?_)) <;> blk_simp [idx t, seqOf, posOf]

theorem final16 (c : Dev nD) : (dats m 0 c).arrAt 16 cfg0.N = (fun y => scaled m c 2048 (y 0) (y 1) (y 2) : S4x8192x256.Idx → EReal) := by
  refine (dats m 0 c).arrAt_eq_of_covers 16 _ (by decide +kernel) fun t _ y => ?_
  blk_simp
  rw [after0_16]
  refine (congrArg _ (at_row y)).trans ((after16_at m c t (y 1) (y 2)).trans (at_cell (f := fun n t e => scaled m c 2048 n t e) ?_ ?_ ?_)) <;> blk_simp [idx t, seqOf, posOf]

theorem final17 (c : Dev nD) : (dats m 0 c).arrAt 17 cfg0.N = (fun y => cols m c 2304 (y 0) (y 1) (y 2) : S4x8192x256.Idx → EReal) := by
  refine (dats m 0 c).arrAt_eq_of_covers 17 _ (by decide +kernel) fun t _ y => ?_
  blk_simp
  rw [after0_17]
  refine (congrArg _ (at_row y)).trans ((after17_at m c t (y 1) (y 2)).trans (at_cell (f := fun n t e => cols m c 2304 n t e) ?_ ?_ ?_)) <;> blk_simp [idx t, seqOf, posOf]

theorem final18 (c : Dev nD) : (dats m 0 c).arrAt 18 cfg0.N = (fun y => cols m c 2560 (y 0) (y 1) (y 2) : S4x8192x512.Idx → EReal) := by
  refine (dats m 0 c).arrAt_eq_of_covers 18 _ (by decide +kernel) fun t _ y => ?_
  blk_simp
  rw [after0_18]
  refine (congrArg _ (at_row y)).trans ((after18_at m c t (y 1) (y 2)).trans (at_cell (f := fun n t e => cols m c 2560 n t e) ?_ ?_ ?_)) <;> blk_simp [idx t, seqOf, posOf]

theorem final19 (c : Dev nD) : (dats m 0 c).arrAt 19 cfg0.N = (fun y => decay m c (y 0) (y 1) (y 2) : S4x8192x256.Idx → EReal) := by
  refine (dats m 0 c).arrAt_eq_of_covers 19 _ (by decide +kernel) fun t _ y => ?_
  blk_simp
  rw [after0_19]
  refine (congrArg _ (at_row y)).trans ((after19_at m c t (y 1) (y 2)).trans (at_cell (f := fun n t e => decay m c n t e) ?_ ?_ ?_)) <;> blk_simp [idx t, seqOf, posOf]

theorem final20 (c : Dev nD) : (dats m 0 c).arrAt 20 cfg0.N = (fun y => cols m c 3088 (y 0) (y 1) (y 2) : S4x8192x512.Idx → EReal) := by
  refine (dats m 0 c).arrAt_eq_of_covers 20 _ (by decide +kernel) fun t _ y => ?_
  blk_simp
  rw [after0_20]
  refine (congrArg _ (at_row y)).trans ((after20_at m c t (y 1) (y 2)).trans (at_cell (f := fun n t e => cols m c 3088 n t e) ?_ ?_ ?_)) <;> blk_simp [idx t, seqOf, posOf]

end Cert.Kernel2Ideal.Odd

end
-- ==== Proof.OddReference.lean ====
/- The reference of the second layer's projections, read at an index. -/
module

public import proofs.«01_k».proof.Proof.Decay
public import proofs.«01_k».proof.Proof.Norm
public import proofs.«01_k».proof.Proof.Gen.Reference2Ideal.Read
public import Idealize.ShloMosaic.Lib.Pointwise

@[expose] public section

set_option maxRecDepth 16384

noncomputable section

namespace Cert.Reference2Ideal.Odd

open Idealize.ShloMosaic Idealize.ShloMosaic.TcCoe Idealize.ShloMosaic.Tactic
open Idealize.SL.Sem
open Cert.Norm Cert.Reference2Ideal Cert.Reference2Ideal.Gen Cert.Reference2Ideal.Read

variable (x0 x1 : FVec Ideal S4x8192x512 .f32) (x2 : FVec Ideal S4x8192x1024 .f32) (x3 : FVec Ideal S1024x1024 .f32) (x4 x5 : FVec Ideal S1024 .f32)
  (x6 : FVec Ideal S1024x3600 .f32) (x7 : FVec Ideal S16x256 .f32) (x8 : FVec Ideal S256 .f32)

/-- The row the layer norm takes. -/
abbrev row (n : Fin 4) (t : Fin 8192) : Fin 1024 → EReal :=
  mixed (fun k => x0 (ix3 n t k)) (fun k => x1 (ix3 n t k)) (fun j => x2 (ix3 n t j)) (fun k j => x3 (ix2 k j))

theorem row_at (n : Fin 4) (t : Fin 8192) (j : Fin 1024) : val_main_v4 (F := Ideal) x0 x1 x2 x3 (ix3 n t j) = row x0 x1 x2 x3 n t j := by
  pointwise [val_main_v4, val_main_v3, val_main_v2, val_main_v1, val_main_v0, val_main_cst]
  simp only [mixed, proj]
  rfl

theorem mean_at (n : Fin 4) (t : Fin 8192) : val_main_v8 (F := Ideal) x0 x1 x2 x3 (ix3 n t (0 : Fin 1)) = mean (row x0 x1 x2 x3 n t) := by
  pointwise [val_main_v8, val_main_v7, val_main_v6, val_main_v5, val_main_cst_0, val_main_cst_1, row_at]
  rfl

theorem var_at (n : Fin 4) (t : Fin 8192) : val_main_v15 (F := Ideal) x0 x1 x2 x3 (ix3 n t (0 : Fin 1))
    = mean (fun j => (row x0 x1 x2 x3 n t j - mean (row x0 x1 x2 x3 n t)) * (row x0 x1 x2 x3 n t j - mean (row x0 x1 x2 x3 n t))) := by
  pointwise [val_main_v15, val_main_v14, val_main_v13, val_main_v12, val_main_v11, val_main_v10, val_main_v9, val_main_cst_2, val_main_cst_3, row_at, mean_at]
  rfl

/-- The normed row. -/
abbrev normed (n : Fin 4) (t : Fin 8192) : Fin 1024 → EReal := layer (row x0 x1 x2 x3 n t) (fun j => x4 (ix1 j)) (fun j => x5 (ix1 j))

theorem v28_at (n : Fin 4) (t : Fin 8192) (e : Fin 1024) : val_main_v28 (F := Ideal) x0 x1 x2 x3 x4 x5 (ix3 n t e) = normed x0 x1 x2 x3 x4 x5 n t e := by
  pointwise [val_main_v28, val_main_v27, val_main_v26, val_main_v25, val_main_v24, val_main_v23, val_main_v22, val_main_v21, val_main_v20, val_main_v19,
    val_main_v18, val_main_v17, val_main_v16, val_main_cst_4, row_at, mean_at, var_at]
  rfl

/-- One column of the projection of a normed row. -/
abbrev colOf (n : Fin 4) (t : Fin 8192) (j : Fin 3600) : EReal := col (normed x0 x1 x2 x3 x4 x5 n t) (fun k j => x6 (ix2 k j)) j

theorem v29_at (n : Fin 4) (t : Fin 8192) (j : Fin 3600) :
    val_main_v29 (F := Ideal) x0 x1 x2 x3 x4 x5 x6 (ix3 n t j) = colOf x0 x1 x2 x3 x4 x5 x6 n t j := by
  pointwise [val_main_v29, v28_at]
  rfl

section
variable (n : Fin 4) (t : Fin 8192)

theorem v48_at (e : Fin 512) : val_main_v48 (F := Ideal) x0 x1 x2 x3 x4 x5 x6 (ix3 n t e)
    = colOf x0 x1 x2 x3 x4 x5 x6 n t (colFrom 0 e) * Ideal.ofBits .f32 0x3E000000#32 := by
  pointwise [val_main_v48, val_main_v47, val_main_v46, val_main_cst_6, val_main_v30, v29_at, colFrom]

theorem v31_at (e : Fin 512) : val_main_v31 (F := Ideal) x0 x1 x2 x3 x4 x5 x6 (ix3 n t e) = colOf x0 x1 x2 x3 x4 x5 x6 n t (colFrom 512 e) := by
  pointwise [val_main_v31, v29_at, colFrom]

theorem v32_at (e : Fin 512) : val_main_v32 (F := Ideal) x0 x1 x2 x3 x4 x5 x6 (ix3 n t e) = colOf x0 x1 x2 x3 x4 x5 x6 n t (colFrom 1024 e) := by
  pointwise [val_main_v32, v29_at, colFrom]

theorem v49_at (e : Fin 512) : val_main_v49 (F := Ideal) x0 x1 x2 x3 x4 x5 x6 (ix3 n t e) = colOf x0 x1 x2 x3 x4 x5 x6 n t (colFrom 512 e) := by
  pointwise [val_main_v49, v31_at]

theorem v50_at (e : Fin 512) : val_main_v50 (F := Ideal) x0 x1 x2 x3 x4 x5 x6 (ix3 n t e) = colOf x0 x1 x2 x3 x4 x5 x6 n t (colFrom 1024 e) := by
  pointwise [val_main_v50, v32_at]

theorem v33_at (e : Fin 512) : val_main_v33 (F := Ideal) x0 x1 x2 x3 x4 x5 x6 (ix3 n t e) = colOf x0 x1 x2 x3 x4 x5 x6 n t (colFrom 1536 e) := by
  pointwise [val_main_v33, v29_at, colFrom]

theorem v52_at (e : Fin 256) : val_main_v52 (F := Ideal) x0 x1 x2 x3 x4 x5 x6 (ix3 n t e)
    = colOf x0 x1 x2 x3 x4 x5 x6 n t (colFrom 2048 e) * Ideal.ofBits .f32 0x3E000000#32 := by
  pointwise [val_main_v52, val_main_v51, val_main_cst_7, val_main_v34, v29_at, colFrom]

theorem v35_at (e : Fin 256) : val_main_v35 (F := Ideal) x0 x1 x2 x3 x4 x5 x6 (ix3 n t e) = colOf x0 x1 x2 x3 x4 x5 x6 n t (colFrom 2304 e) := by
  pointwise [val_main_v35, v29_at, colFrom]

theorem v36_at (e : Fin 512) : val_main_v36 (F := Ideal) x0 x1 x2 x3 x4 x5 x6 (ix3 n t e) = colOf x0 x1 x2 x3 x4 x5 x6 n t (colFrom 2560 e) := by
  pointwise [val_main_v36, v29_at, colFrom]

theorem v38_at (e : Fin 512) : val_main_v38 (F := Ideal) x0 x1 x2 x3 x4 x5 x6 (ix3 n t e) = colOf x0 x1 x2 x3 x4 x5 x6 n t (colFrom 3088 e) := by
  pointwise [val_main_v38, v29_at, colFrom]

theorem v42_at (e : Fin 256) : val_main_v42 (F := Ideal) x0 x1 x2 x3 x4 x5 x6 x7 x8 (ix3 n t e)
    = ∑ l : Fin 16, colOf x0 x1 x2 x3 x4 x5 x6 n t (colFrom 3072 l) * x7 (ix2 l e) + x8 (ix1 e) := by
  pointwise [val_main_v42, val_main_v41, val_main_v40, val_main_v39, val_main_v37, v29_at, colFrom]

theorem v45_at (e : Fin 256) : val_main_v45 (F := Ideal) x0 x1 x2 x3 x4 x5 x6 x7 x8 (ix3 n t e)
    = Cert.Decay.logDecay (∑ l : Fin 16, colOf x0 x1 x2 x3 x4 x5 x6 n t (colFrom 3072 l) * x7 (ix2 l e) + x8 (ix1 e)) := by
  pointwise [val_main_v45, val_main_v44, val_main_cst_5, val_main_v43, val_main_call0_v1, val_main_call0_v0, val_main_call0_call0_v4, val_main_call0_call0_v6, val_main_call0_call0_v11,
    val_main_call0_call0_v10, val_main_call0_call0_v9, val_main_call0_call0_v8, val_main_call0_call0_v7, val_main_call0_call0_v3, val_main_call0_call0_v2,
    val_main_call0_call0_v1, val_main_call0_call0_v0, val_main_call0_call0_v5, val_main_call0_call0_cst, v42_at]
  simp only [ne_eq, not_true_eq_false, if_false]
  rfl

end

end Cert.Reference2Ideal.Odd

end
-- ==== Proof.Odd.lean ====
/- The claims of the second layer's projections: the kernel's twelve arrays are the reference's twelve results. -/
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Gen.Kernel2Ideal.Value
public import proofs.«01_k».proof.Proof.OddArray
public import proofs.«01_k».proof.Proof.OddReference
public import Idealize.ShloMosaic.Lib.Quiescent
public import Idealize.ShloMosaic.Adequacy
public import Idealize.ShloMosaic.Init

@[expose] public section

set_option maxRecDepth 16384

noncomputable section

namespace Cert.Odd

open Idealize.ShloMosaic Idealize.ShloMosaic.TcCoe Idealize.ShloMosaic.Tactic Idealize.SL.Sem

/-- The reference's frame: it uses no semaphore. -/
theorem frame_reference : Cert.quiescent_Reference2Ideal (hReference2Ideal := Cert.Reference2Ideal.Gen.facts) := fun m ρ _ =>
  (θ_run Cert.Reference2Ideal.defs _ _).mono (fun r h => ⟨fun c => (h c).2.2.2.2.2.2.2.2.2.2.2.2, Idealize.ShloMosaic.sem_eq_zero_of_no_sems (by decide) r.2⟩)
    (Cert.Reference2Ideal.Value.run (F := Ideal) m ρ)

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

/-- The two memories hold the same arguments. -/
def Agree : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
    ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
    ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
    ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
    ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
    ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
    ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
    ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
    ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)

variable {m m' c}

open Cert.Kernel2Ideal.Odd

theorem end_v28 (h : Agree m m' c) :
    (Cert.Reference2Ideal.Value.res_main_v28 (F := Ideal) m' c : Cert.Reference2Ideal.S4x8192x1024.Idx → EReal) = (fun y => normed m c (y 0) (y 1) (y 2) : Cert.Reference2Ideal.S4x8192x1024.Idx → EReal) := by
  obtain ⟨e0, e1, e2, e3, e4, e5, e6, e7, e8⟩ := h
  rw [Cert.Reference2Ideal.Read.val_main_v28_eq, e0, e1, e2, e3, e4, e5]
  funext y
  exact (congrArg _ (eq_ix3 y)).trans (Cert.Reference2Ideal.Odd.v28_at _ _ _ _ _ _ (y 0) (y 1) (y 2))

theorem end_v48 (h : Agree m m' c) :
    (Cert.Reference2Ideal.Value.res_main_v48 (F := Ideal) m' c : Cert.Reference2Ideal.S4x8192x512.Idx → EReal) = (fun y => scaled m c 0 (y 0) (y 1) (y 2) : Cert.Reference2Ideal.S4x8192x512.Idx → EReal) := by
  obtain ⟨e0, e1, e2, e3, e4, e5, e6, e7, e8⟩ := h
  rw [Cert.Reference2Ideal.Read.val_main_v48_eq, e0, e1, e2, e3, e4, e5, e6]
  funext y
  exact (congrArg _ (eq_ix3 y)).trans (Cert.Reference2Ideal.Odd.v48_at _ _ _ _ _ _ _ (y 0) (y 1) (y 2))

theorem end_v31 (h : Agree m m' c) :
    (Cert.Reference2Ideal.Value.res_main_v31 (F := Ideal) m' c : Cert.Reference2Ideal.S4x8192x512.Idx → EReal) = (fun y => cols m c 512 (y 0) (y 1) (y 2) : Cert.Reference2Ideal.S4x8192x512.Idx → EReal) := by
  obtain ⟨e0, e1, e2, e3, e4, e5, e6, e7, e8⟩ := h
  rw [Cert.Reference2Ideal.Read.val_main_v31_eq, e0, e1, e2, e3, e4, e5, e6]
  funext y
  exact (congrArg _ (eq_ix3 y)).trans (Cert.Reference2Ideal.Odd.v31_at _ _ _ _ _ _ _ (y 0) (y 1) (y 2))

theorem end_v32 (h : Agree m m' c) :
    (Cert.Reference2Ideal.Value.res_main_v32 (F := Ideal) m' c : Cert.Reference2Ideal.S4x8192x512.Idx → EReal) = (fun y => cols m c 1024 (y 0) (y 1) (y 2) : Cert.Reference2Ideal.S4x8192x512.Idx → EReal) := by
  obtain ⟨e0, e1, e2, e3, e4, e5, e6, e7, e8⟩ := h
  rw [Cert.Reference2Ideal.Read.val_main_v32_eq, e0, e1, e2, e3, e4, e5, e6]
  funext y
  exact (congrArg _ (eq_ix3 y)).trans (Cert.Reference2Ideal.Odd.v32_at _ _ _ _ _ _ _ (y 0) (y 1) (y 2))

theorem end_v49 (h : Agree m m' c) :
    (Cert.Reference2Ideal.Value.res_main_v49 (F := Ideal) m' c : Cert.Reference2Ideal.S4x8192x512.Idx → EReal) = (fun y => cols m c 512 (y 0) (y 1) (y 2) : Cert.Reference2Ideal.S4x8192x512.Idx → EReal) := by
  obtain ⟨e0, e1, e2, e3, e4, e5, e6, e7, e8⟩ := h
  rw [Cert.Reference2Ideal.Read.val_main_v49_eq, e0, e1, e2, e3, e4, e5, e6]
  funext y
  exact (congrArg _ (eq_ix3 y)).trans (Cert.Reference2Ideal.Odd.v49_at _ _ _ _ _ _ _ (y 0) (y 1) (y 2))

theorem end_v50 (h : Agree m m' c) :
    (Cert.Reference2Ideal.Value.res_main_v50 (F := Ideal) m' c : Cert.Reference2Ideal.S4x8192x512.Idx → EReal) = (fun y => cols m c 1024 (y 0) (y 1) (y 2) : Cert.Reference2Ideal.S4x8192x512.Idx → EReal) := by
  obtain ⟨e0, e1, e2, e3, e4, e5, e6, e7, e8⟩ := h
  rw [Cert.Reference2Ideal.Read.val_main_v50_eq, e0, e1, e2, e3, e4, e5, e6]
  funext y
  exact (congrArg _ (eq_ix3 y)).trans (Cert.Reference2Ideal.Odd.v50_at _ _ _ _ _ _ _ (y 0) (y 1) (y 2))

theorem end_v33 (h : Agree m m' c) :
    (Cert.Reference2Ideal.Value.res_main_v33 (F := Ideal) m' c : Cert.Reference2Ideal.S4x8192x512.Idx → EReal) = (fun y => cols m c 1536 (y 0) (y 1) (y 2) : Cert.Reference2Ideal.S4x8192x512.Idx → EReal) := by
  obtain ⟨e0, e1, e2, e3, e4, e5, e6, e7, e8⟩ := h
  rw [Cert.Reference2Ideal.Read.val_main_v33_eq, e0, e1, e2, e3, e4, e5, e6]
  funext y
  exact (congrArg _ (eq_ix3 y)).trans (Cert.Reference2Ideal.Odd.v33_at _ _ _ _ _ _ _ (y 0) (y 1) (y 2))

theorem end_v52 (h : Agree m m' c) :
    (Cert.Reference2Ideal.Value.res_main_v52 (F := Ideal) m' c : Cert.Reference2Ideal.S4x8192x256.Idx → EReal) = (fun y => scaled m c 2048 (y 0) (y 1) (y 2) : Cert.Reference2Ideal.S4x8192x256.Idx → EReal) := by
  obtain ⟨e0, e1, e2, e3, e4, e5, e6, e7, e8⟩ := h
  rw [Cert.Reference2Ideal.Read.val_main_v52_eq, e0, e1, e2, e3, e4, e5, e6]
  funext y
  exact (congrArg _ (eq_ix3 y)).trans (Cert.Reference2Ideal.Odd.v52_at _ _ _ _ _ _ _ (y 0) (y 1) (y 2))

theorem end_v35 (h : Agree m m' c) :
    (Cert.Reference2Ideal.Value.res_main_v35 (F := Ideal) m' c : Cert.Reference2Ideal.S4x8192x256.Idx → EReal) = (fun y => cols m c 2304 (y 0) (y 1) (y 2) : Cert.Reference2Ideal.S4x8192x256.Idx → EReal) := by
  obtain ⟨e0, e1, e2, e3, e4, e5, e6, e7, e8⟩ := h
  rw [Cert.Reference2Ideal.Read.val_main_v35_eq, e0, e1, e2, e3, e4, e5, e6]
  funext y
  exact (congrArg _ (eq_ix3 y)).trans (Cert.Reference2Ideal.Odd.v35_at _ _ _ _ _ _ _ (y 0) (y 1) (y 2))

theorem end_v36 (h : Agree m m' c) :
    (Cert.Reference2Ideal.Value.res_main_v36 (F := Ideal) m' c : Cert.Reference2Ideal.S4x8192x512.Idx → EReal) = (fun y => cols m c 2560 (y 0) (y 1) (y 2) : Cert.Reference2Ideal.S4x8192x512.Idx → EReal) := by
  obtain ⟨e0, e1, e2, e3, e4, e5, e6, e7, e8⟩ := h
  rw [Cert.Reference2Ideal.Read.val_main_v36_eq, e0, e1, e2, e3, e4, e5, e6]
  funext y
  exact (congrArg _ (eq_ix3 y)).trans (Cert.Reference2Ideal.Odd.v36_at _ _ _ _ _ _ _ (y 0) (y 1) (y 2))

theorem end_v45 (h : Agree m m' c) :
    (Cert.Reference2Ideal.Value.res_main_v45 (F := Ideal) m' c : Cert.Reference2Ideal.S4x8192x256.Idx → EReal) = (fun y => decay m c (y 0) (y 1) (y 2) : Cert.Reference2Ideal.S4x8192x256.Idx → EReal) := by
  obtain ⟨e0, e1, e2, e3, e4, e5, e6, e7, e8⟩ := h
  rw [Cert.Reference2Ideal.Read.val_main_v45_eq, e0, e1, e2, e3, e4, e5, e6, e7, e8]
  funext y
  exact (congrArg _ (eq_ix3 y)).trans (Cert.Reference2Ideal.Odd.v45_at _ _ _ _ _ _ _ _ _ (y 0) (y 1) (y 2))

theorem end_v38 (h : Agree m m' c) :
    (Cert.Reference2Ideal.Value.res_main_v38 (F := Ideal) m' c : Cert.Reference2Ideal.S4x8192x512.Idx → EReal) = (fun y => cols m c 3088 (y 0) (y 1) (y 2) : Cert.Reference2Ideal.S4x8192x512.Idx → EReal) := by
  obtain ⟨e0, e1, e2, e3, e4, e5, e6, e7, e8⟩ := h
  rw [Cert.Reference2Ideal.Read.val_main_v38_eq, e0, e1, e2, e3, e4, e5, e6]
  funext y
  exact (congrArg _ (eq_ix3 y)).trans (Cert.Reference2Ideal.Odd.v38_at _ _ _ _ _ _ _ (y 0) (y 1) (y 2))

/-- Both programs end with the normed rows and their projections. -/
theorem algebraic : Cert.algebraic_Kernel2Ideal_Reference2Ideal (hKernel2Ideal := Cert.Kernel2Ideal.Gen.facts)
    (hReference2Ideal := Cert.Reference2Ideal.Gen.facts) := by
  intro m g m' g' hpre hargs
  refine ⟨fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    fun c => (Cert.Kernel2Ideal.Gen.dats m 0 c).arrAt 16 Cert.Kernel2Ideal.cfg0.N,
    fun c => (Cert.Kernel2Ideal.Gen.dats m 0 c).arrAt 17 Cert.Kernel2Ideal.cfg0.N,
    fun c => (Cert.Kernel2Ideal.Gen.dats m 0 c).arrAt 18 Cert.Kernel2Ideal.cfg0.N,
    fun c => (Cert.Kernel2Ideal.Gen.dats m 0 c).arrAt 19 Cert.Kernel2Ideal.cfg0.N,
    fun c => (Cert.Kernel2Ideal.Gen.dats m 0 c).arrAt 20 Cert.Kernel2Ideal.cfg0.N,
    Cert.Kernel2Ideal.Value.run_blocks m g, ?_⟩
  refine (θ_run Cert.Reference2Ideal.defs _ _).mono (fun r h c => ?_) (Cert.Reference2Ideal.Value.run (F := Ideal) m' g')
  have H := h c
  have a : Agree m m' c := hargs c
  exact ⟨(H.1).trans ((end_v28 a).trans (final9 m c).symm),
    (H.2.1).trans ((end_v48 a).trans (final10 m c).symm),
    (H.2.2.1).trans ((end_v31 a).trans (final11 m c).symm),
    (H.2.2.2.1).trans ((end_v32 a).trans (final12 m c).symm),
    (H.2.2.2.2.1).trans ((end_v49 a).trans (final13 m c).symm),
    (H.2.2.2.2.2.1).trans ((end_v50 a).trans (final14 m c).symm),
    (H.2.2.2.2.2.2.1).trans ((end_v33 a).trans (final15 m c).symm),
    (H.2.2.2.2.2.2.2.1).trans ((end_v52 a).trans (final16 m c).symm),
    (H.2.2.2.2.2.2.2.2.1).trans ((end_v35 a).trans (final17 m c).symm),
    (H.2.2.2.2.2.2.2.2.2.1).trans ((end_v36 a).trans (final18 m c).symm),
    (H.2.2.2.2.2.2.2.2.2.2.1).trans ((end_v45 a).trans (final19 m c).symm),
    (H.2.2.2.2.2.2.2.2.2.2.2.1).trans ((end_v38 a).trans (final20 m c).symm),
    H.2.2.2.2.2.2.2.2.2.2.2.2⟩

end Cert.Odd

end
-- ==== Proof.OutNorm.lean ====
/- The second output projection and its layer norm: what the kernel leaves and what the reference computes are the same function of
   the arguments. -/
module

public import proofs.«01_k».proof.Proof.Norm
public import proofs.«01_k».proof.Proof.Gen.Kernel3Ideal.Value
public import Idealize.ShloMosaic.Lib.Pipeline.ValueKit

@[expose] public section

set_option maxRecDepth 16384

noncomputable section

namespace Cert.Kernel3Ideal.Out

open Idealize.ShloMosaic Idealize.ShloMosaic.TcCoe Idealize.ShloMosaic.Tactic
open Idealize.SL.Sem
open Cert.Norm Cert.Kernel3Ideal.Gen

open Idealize.ShloMosaic.Pipeline (Dat)

theorem pay2_at (a b : FVec Ideal S1x1024x512 .f32) (w0 w1 : FVec Ideal S512x1024 .bf16) (x : FVec Ideal S1x1024x1024 .f32) (r e : Fin 1024) :
    k0_pay2 (F := Ideal) a w0 b w1 x (ix2 r e) = unit (fun j => Ideal.ofBits .f32 0x3FB504F3#32 * x (ix3 (0 : Fin 1) r j)
      + (∑ k, a (ix3 (0 : Fin 1) r k) * w0 (ix2 k j) + ∑ k, b (ix3 (0 : Fin 1) r k) * w1 (ix2 k j))) e := by
  pointwise [k0_pay2]
  simp only [unit, mean]

theorem pay1_at (u : FVec Ideal S1024x1024 .f32) (g b : FVec Ideal S1x1024 .f32) (r e : Fin 1024) :
    k0_pay1 (F := Ideal) u g b (ix3 (0 : Fin 1) r e) = u (ix2 r e) * g (ix2 (0 : Fin 1) e) + b (ix2 (0 : Fin 1) e) := by
  pointwise [k0_pay1]

variable (m : (ℓ : Loc nD τ sig) → Buf (Elt Ideal) ℓ)

/-- Where the windows' blocks lie. -/
theorem idx : ∀ t : Fin cfg0.N, win0_0.index t = ![(grid0.coords t 0).val, (grid0.coords t 1).val, 0]
    ∧ win0_1.index t = ![(grid0.coords t 0).val, (grid0.coords t 1).val, 0] ∧ win0_2.index t = ![(grid0.coords t 0).val, (grid0.coords t 1).val, 0]
    ∧ win0_3.index t = ![0, 0] ∧ win0_4.index t = ![0, 0] ∧ win0_5.index t = ![0, 0]
    ∧ win0_6.index t = ![(grid0.coords t 0).val, (grid0.coords t 1).val, 0] :=
  (by decide +kernel : ∀ t : Fin grid0.N, _)

/-- The sequence a grid point works on. -/
def seqOf (t : Fin cfg0.N) : Fin 4 := ⟨(grid0.coords t 0).val, (grid0.coords t 0).isLt⟩

/-- The position of row `r` of a grid point's block. -/
def posOf (t : Fin cfg0.N) (r : Fin 1024) : Fin 8192 := ⟨1024 * (grid0.coords t 1).val + r.val, by
  have : (grid0.coords t 1).val < 8 := (grid0.coords t 1).isLt
  omega⟩

theorem blk_a (c : Dev nD) (t : Fin cfg0.N) (r : Fin 1024) (d : Fin 512) :
    (iblk m c 0 t : Vec Ideal S1x1024x512 .f32) (ix3 (0 : Fin 1) r d)
      = (m ((c : Thread nD τ).loc main_arg0) : FVec Ideal S4x8192x512 .f32) (ix3 (seqOf t) (posOf t r) d) := by
  blk_ext [iblk, V, idx t, seqOf, posOf]

theorem blk_b (c : Dev nD) (t : Fin cfg0.N) (r : Fin 1024) (d : Fin 512) :
    (iblk m c 1 t : Vec Ideal S1x1024x512 .f32) (ix3 (0 : Fin 1) r d)
      = (m ((c : Thread nD τ).loc main_arg1) : FVec Ideal S4x8192x512 .f32) (ix3 (seqOf t) (posOf t r) d) := by
  blk_ext [iblk, V, idx t, seqOf, posOf]

theorem blk_x (c : Dev nD) (t : Fin cfg0.N) (r e : Fin 1024) :
    (iblk m c 2 t : Vec Ideal S1x1024x1024 .f32) (ix3 (0 : Fin 1) r e)
      = (m ((c : Thread nD τ).loc main_arg2) : FVec Ideal S4x8192x1024 .f32) (ix3 (seqOf t) (posOf t r) e) := by
  blk_ext [iblk, V, idx t, seqOf, posOf]

theorem blk_w (c : Dev nD) (t : Fin cfg0.N) (k e : Fin 1024) :
    (iblk m c 3 t : Vec Ideal S1024x1024 .bf16) (ix2 k e) = (m ((c : Thread nD τ).loc main_arg3) : FVec Ideal S1024x1024 .f32) (ix2 k e) := by
  have h : (iblk m c 3 t : Vec Ideal S1024x1024 .bf16) (ix2 k e) = (V m c main_v0 : FVec Ideal S1024x1024 .bf16) (ix2 k e) := by
    blk_ext [iblk, idx t]
  rw [h]
  entry_read
  rfl

theorem blk_g (c : Dev nD) (t : Fin cfg0.N) (e : Fin 1024) :
    (iblk m c 4 t : Vec Ideal S1x1024 .f32) (ix2 (0 : Fin 1) e) = (m ((c : Thread nD τ).loc main_arg4) : FVec Ideal S1024 .f32) (ix1 e) := by
  have h : (iblk m c 4 t : Vec Ideal S1x1024 .f32) (ix2 (0 : Fin 1) e) = (V m c main_v1 : FVec Ideal S1x1024 .f32) (ix2 (0 : Fin 1) e) := by
    blk_ext [iblk, idx t]
  rw [h]
  entry_read
  pointwise

theorem blk_o (c : Dev nD) (t : Fin cfg0.N) (e : Fin 1024) :
    (iblk m c 5 t : Vec Ideal S1x1024 .f32) (ix2 (0 : Fin 1) e) = (m ((c : Thread nD τ).loc main_arg5) : FVec Ideal S1024 .f32) (ix1 e) := by
  have h : (iblk m c 5 t : Vec Ideal S1x1024 .f32) (ix2 (0 : Fin 1) e) = (V m c main_v2 : FVec Ideal S1x1024 .f32) (ix2 (0 : Fin 1) e) := by
    blk_ext [iblk, idx t]
  rw [h]
  entry_read
  pointwise

/-- The layer norm of a position's row, over the arguments as launched. -/
def result (c : Dev nD) (n : Fin 4) (t : Fin 8192) : Fin 1024 → EReal :=
  layer (mixed (fun k => (m ((c : Thread nD τ).loc main_arg0) : FVec Ideal S4x8192x512 .f32) (ix3 n t k))
      (fun k => (m ((c : Thread nD τ).loc main_arg1) : FVec Ideal S4x8192x512 .f32) (ix3 n t k))
      (fun j => (m ((c : Thread nD τ).loc main_arg2) : FVec Ideal S4x8192x1024 .f32) (ix3 n t j))
      (fun k j => (m ((c : Thread nD τ).loc main_arg3) : FVec Ideal S1024x1024 .f32) (ix2 k j)))
    (fun j => (m ((c : Thread nD τ).loc main_arg4) : FVec Ideal S1024 .f32) (ix1 j))
    (fun j => (m ((c : Thread nD τ).loc main_arg5) : FVec Ideal S1024 .f32) (ix1 j))

/-- What the body leaves in the output's buffer, over its blocks. -/
theorem out_at (a b : Vec Ideal S1x1024x512 .f32) (x : Vec Ideal S1x1024x1024 .f32) (w : Vec Ideal S1024x1024 .bf16) (g o : Vec Ideal S1x1024 .f32) (r e : Fin 1024) :
    out0_6 (F := Ideal) a b x w g o (ix3 (0 : Fin 1) r e)
      = layer (mixed (fun k => a (ix3 (0 : Fin 1) r k)) (fun k => b (ix3 (0 : Fin 1) r k)) (fun j => x (ix3 (0 : Fin 1) r j)) (fun k j => w (ix2 k j)))
          (fun j => g (ix2 (0 : Fin 1) j)) (fun j => o (ix2 (0 : Fin 1) j)) e := by
  frame_out
  rw [pay1_at, pay2_at]
  pointwise [layer]
  simp only [unit, mixed, proj]
  rfl

/-- What a grid point leaves in the output's buffer. -/
theorem after_at (c : Dev nD) (t : Fin cfg0.N) (r e : Fin 1024) :
    out0_6 (F := Ideal) (iblk m c 0 t) (iblk m c 1 t) (iblk m c 2 t) (iblk m c 3 t) (iblk m c 4 t) (iblk m c 5 t) (ix3 (0 : Fin 1) r e)
      = result m c (seqOf t) (posOf t r) e := by
  refine (out_at _ _ _ _ _ _ r e).trans ?_
  simp only [blk_a, blk_b, blk_x, blk_w, blk_g, blk_o]
  rfl

/-- The result array after the run. -/
theorem final (c : Dev nD) :
    (dats m 0 c).arrAt 6 cfg0.N = (fun y => result m c (y 0) (y 1) (y 2) : S4x8192x1024.Idx → EReal) := by
  refine (dats m 0 c).arrAt_eq_of_covers 6 _ (by decide +kernel) fun t _ y => ?_
  blk_simp
  rw [after0_6]
  have hy : (y : S1x1024x1024.Idx) = ix3 (0 : Fin 1) (y 1) (y 2) := by
    funext a
    fin_cases a
    · exact Fin.ext (by have := (y 0).isLt; exact Nat.lt_one_iff.1 this)
    · rfl
    · rfl
  refine (congrArg (out0_6 (F := Ideal) (iblk m c 0 t) (iblk m c 1 t) (iblk m c 2 t) (iblk m c 3 t) (iblk m c 4 t) (iblk m c 5 t)) hy).trans
    ((after_at m c t (y 1) (y 2)).trans ?_)
  have e1 : posOf t (y 1) = (win0_6.blk t).view.emb y 1 := Fin.ext (by
    blk_simp [idx t, posOf]
    show 1024 * (grid0.coords t 1).val + (y 1).val = (grid0.coords t 1).val * 1024 + (y 1).val
    omega)
  refine congr (congr (congrArg (result m c) (Fin.ext ?_)) e1) (Fin.ext ?_)
  all_goals blk_simp [idx t, seqOf]

end Cert.Kernel3Ideal.Out

end
-- ==== Proof.OutReference.lean ====
/- The reference of the second output projection and its layer norm, read at an index. -/
module

public import proofs.«01_k».proof.Proof.Norm
public import proofs.«01_k».proof.Proof.Gen.Reference3Ideal.Read
public import Idealize.ShloMosaic.Lib.Pointwise

@[expose] public section

set_option maxRecDepth 16384

noncomputable section

namespace Cert.Reference3Ideal.Out

open Idealize.ShloMosaic Idealize.ShloMosaic.TcCoe Idealize.ShloMosaic.Tactic
open Idealize.SL.Sem
open Cert.Norm Cert.Reference3Ideal Cert.Reference3Ideal.Gen Cert.Reference3Ideal.Read

variable (x0 x1 : FVec Ideal S4x8192x512 .f32) (x2 : FVec Ideal S4x8192x1024 .f32) (x3 : FVec Ideal S1024x1024 .f32) (x4 x5 : FVec Ideal S1024 .f32)

/-- The row the layer norm takes. -/
abbrev row (n : Fin 4) (t : Fin 8192) : Fin 1024 → EReal :=
  mixed (fun k => x0 (ix3 n t k)) (fun k => x1 (ix3 n t k)) (fun j => x2 (ix3 n t j)) (fun k j => x3 (ix2 k j))

theorem row_at (n : Fin 4) (t : Fin 8192) (j : Fin 1024) : val_main_v4 (F := Ideal) x0 x1 x2 x3 (ix3 n t j) = row x0 x1 x2 x3 n t j := by
  pointwise [val_main_v4, val_main_v3, val_main_v2, val_main_v1, val_main_v0, val_main_cst]
  simp only [mixed, proj]
  rfl

theorem mean_at (n : Fin 4) (t : Fin 8192) : val_main_v8 (F := Ideal) x0 x1 x2 x3 (ix3 n t (0 : Fin 1)) = mean (row x0 x1 x2 x3 n t) := by
  pointwise [val_main_v8, val_main_v7, val_main_v6, val_main_v5, val_main_cst_0, val_main_cst_1, row_at]
  rfl

theorem var_at (n : Fin 4) (t : Fin 8192) : val_main_v15 (F := Ideal) x0 x1 x2 x3 (ix3 n t (0 : Fin 1))
    = mean (fun j => (row x0 x1 x2 x3 n t j - mean (row x0 x1 x2 x3 n t)) * (row x0 x1 x2 x3 n t j - mean (row x0 x1 x2 x3 n t))) := by
  pointwise [val_main_v15, val_main_v14, val_main_v13, val_main_v12, val_main_v11, val_main_v10, val_main_v9, val_main_cst_2, val_main_cst_3, row_at, mean_at]
  rfl

theorem result_at (n : Fin 4) (t : Fin 8192) (e : Fin 1024) : val_main_v28 (F := Ideal) x0 x1 x2 x3 x4 x5 (ix3 n t e)
    = layer (row x0 x1 x2 x3 n t) (fun j => x4 (ix1 j)) (fun j => x5 (ix1 j)) e := by
  pointwise [val_main_v28, val_main_v27, val_main_v26, val_main_v25, val_main_v24, val_main_v23, val_main_v22, val_main_v21, val_main_v20, val_main_v19,
    val_main_v18, val_main_v17, val_main_v16, val_main_cst_4, row_at, mean_at, var_at]
  rfl

end Cert.Reference3Ideal.Out

end
-- ==== Proof.Out.lean ====
/- The claims of the last output projection and layer norm: the kernel's array is the reference's result. -/
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.Gen.Kernel3Ideal.Value
public import proofs.«01_k».proof.Proof.OutNorm
public import proofs.«01_k».proof.Proof.OutReference
public import Idealize.ShloMosaic.Lib.Quiescent
public import Idealize.ShloMosaic.Adequacy
public import Idealize.ShloMosaic.Init

@[expose] public section

set_option maxRecDepth 16384

noncomputable section

namespace Cert.Out

open Idealize.ShloMosaic Idealize.ShloMosaic.TcCoe Idealize.ShloMosaic.Tactic Idealize.SL.Sem

/-- The reference's frame: it uses no semaphore. -/
theorem frame_reference : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Both programs end with the layer norm of the residual and the projection. -/
theorem algebraic : Cert.algebraic_Kernel3Ideal_Reference3Ideal (hKernel3Ideal := Cert.Kernel3Ideal.Gen.facts)
    (hReference3Ideal := Cert.Reference3Ideal.Gen.facts) := by
  intro m g m' g' hpre hargs
  refine ⟨fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  refine Eq.trans ?_ (Cert.Kernel3Ideal.Out.final m c).symm
  rw [Cert.Reference3Ideal.Read.val_main_v28_eq]
  obtain ⟨e0, e1, e2, e3, e4, e5⟩ := hargs c
  rw [e0, e1, e2, e3, e4, e5]
  funext y
  rw [eq_ix3 y]
  exact Cert.Reference3Ideal.Out.result_at _ _ _ _ _ _ (y 0) (y 1) (y 2)

end Cert.Out

end
-- ==== Proof.SampleOutNorm.lean ====
/- For the sample: the second output projection and its layer norm: what the kernel leaves and what the reference computes are the same function of
   the arguments. -/
module

public import proofs.«01_k».proof.Proof.Norm
public import proofs.«01_k».proof.Proof.Gen.Kernel4Ideal.Value
public import Idealize.ShloMosaic.Lib.Pipeline.ValueKit

@[expose] public section

set_option maxRecDepth 16384

noncomputable section

namespace Cert.Kernel4Ideal.Out

open Idealize.ShloMosaic Idealize.ShloMosaic.TcCoe Idealize.ShloMosaic.Tactic
open Idealize.SL.Sem
open Cert.Norm Cert.Kernel4Ideal.Gen

open Idealize.ShloMosaic.Pipeline (Dat)

theorem pay2_at (a b : FVec Ideal S1x32x512 .f32) (w0 w1 : FVec Ideal S512x1024 .bf16) (x : FVec Ideal S1x32x1024 .f32) (r : Fin 32) (e : Fin 1024) :
    k0_pay2 (F := Ideal) a w0 b w1 x (ix2 r e) = unit (fun j => Ideal.ofBits .f32 0x3FB504F3#32 * x (ix3 (0 : Fin 1) r j)
      + (∑ k, a (ix3 (0 : Fin 1) r k) * w0 (ix2 k j) + ∑ k, b (ix3 (0 : Fin 1) r k) * w1 (ix2 k j))) e := by
  pointwise [k0_pay2]
  simp only [unit, mean]

theorem pay1_at (u : FVec Ideal S32x1024 .f32) (g b : FVec Ideal S1x1024 .f32) (r : Fin 32) (e : Fin 1024) :
    k0_pay1 (F := Ideal) u g b (ix3 (0 : Fin 1) r e) = u (ix2 r e) * g (ix2 (0 : Fin 1) e) + b (ix2 (0 : Fin 1) e) := by
  pointwise [k0_pay1]

variable (m : (ℓ : Loc nD τ sig) → Buf (Elt Ideal) ℓ)

/-- Where the windows' blocks lie. -/
theorem idx : ∀ t : Fin cfg0.N, win0_0.index t = ![(grid0.coords t 0).val, (grid0.coords t 1).val, 0]
    ∧ win0_1.index t = ![(grid0.coords t 0).val, (grid0.coords t 1).val, 0] ∧ win0_2.index t = ![(grid0.coords t 0).val, (grid0.coords t 1).val, 0]
    ∧ win0_3.index t = ![0, 0] ∧ win0_4.index t = ![0, 0] ∧ win0_5.index t = ![0, 0]
    ∧ win0_6.index t = ![(grid0.coords t 0).val, (grid0.coords t 1).val, 0] :=
  (by decide +kernel : ∀ t : Fin grid0.N, _)

/-- The sequence a grid point works on. -/
def seqOf (t : Fin cfg0.N) : Fin 1 := ⟨(grid0.coords t 0).val, (grid0.coords t 0).isLt⟩

/-- The position of row `r` of a grid point's block. -/
def posOf (t : Fin cfg0.N) (r : Fin 32) : Fin 32 := ⟨32 * (grid0.coords t 1).val + r.val, by
  have : (grid0.coords t 1).val < 1 := (grid0.coords t 1).isLt
  omega⟩

theorem blk_a (c : Dev nD) (t : Fin cfg0.N) (r : Fin 32) (d : Fin 512) :
    (iblk m c 0 t : Vec Ideal S1x32x512 .f32) (ix3 (0 : Fin 1) r d)
      = (m ((c : Thread nD τ).loc main_arg0) : FVec Ideal S1x32x512 .f32) (ix3 (seqOf t) (posOf t r) d) := by
  blk_ext [iblk, V, idx t, seqOf, posOf]

theorem blk_b (c : Dev nD) (t : Fin cfg0.N) (r : Fin 32) (d : Fin 512) :
    (iblk m c 1 t : Vec Ideal S1x32x512 .f32) (ix3 (0 : Fin 1) r d)
      = (m ((c : Thread nD τ).loc main_arg1) : FVec Ideal S1x32x512 .f32) (ix3 (seqOf t) (posOf t r) d) := by
  blk_ext [iblk, V, idx t, seqOf, posOf]

theorem blk_x (c : Dev nD) (t : Fin cfg0.N) (r : Fin 32) (e : Fin 1024) :
    (iblk m c 2 t : Vec Ideal S1x32x1024 .f32) (ix3 (0 : Fin 1) r e)
      = (m ((c : Thread nD τ).loc main_arg2) : FVec Ideal S1x32x1024 .f32) (ix3 (seqOf t) (posOf t r) e) := by
  blk_ext [iblk, V, idx t, seqOf, posOf]

theorem blk_w (c : Dev nD) (t : Fin cfg0.N) (k e : Fin 1024) :
    (iblk m c 3 t : Vec Ideal S1024x1024 .bf16) (ix2 k e) = (m ((c : Thread nD τ).loc main_arg3) : FVec Ideal S1024x1024 .f32) (ix2 k e) := by
  have h : (iblk m c 3 t : Vec Ideal S1024x1024 .bf16) (ix2 k e) = (V m c main_v0 : FVec Ideal S1024x1024 .bf16) (ix2 k e) := by
    blk_ext [iblk, idx t]
  rw [h]
  entry_read
  rfl

theorem blk_g (c : Dev nD) (t : Fin cfg0.N) (e : Fin 1024) :
    (iblk m c 4 t : Vec Ideal S1x1024 .f32) (ix2 (0 : Fin 1) e) = (m ((c : Thread nD τ).loc main_arg4) : FVec Ideal S1024 .f32) (ix1 e) := by
  have h : (iblk m c 4 t : Vec Ideal S1x1024 .f32) (ix2 (0 : Fin 1) e) = (V m c main_v1 : FVec Ideal S1x1024 .f32) (ix2 (0 : Fin 1) e) := by
    blk_ext [iblk, idx t]
  rw [h]
  entry_read
  pointwise

theorem blk_o (c : Dev nD) (t : Fin cfg0.N) (e : Fin 1024) :
    (iblk m c 5 t : Vec Ideal S1x1024 .f32) (ix2 (0 : Fin 1) e) = (m ((c : Thread nD τ).loc main_arg5) : FVec Ideal S1024 .f32) (ix1 e) := by
  have h : (iblk m c 5 t : Vec Ideal S1x1024 .f32) (ix2 (0 : Fin 1) e) = (V m c main_v2 : FVec Ideal S1x1024 .f32) (ix2 (0 : Fin 1) e) := by
    blk_ext [iblk, idx t]
  rw [h]
  entry_read
  pointwise

/-- The layer norm of a position's row, over the arguments as launched. -/
def result (c : Dev nD) (n : Fin 1) (t : Fin 32) : Fin 1024 → EReal :=
  layer (mixed (fun k => (m ((c : Thread nD τ).loc main_arg0) : FVec Ideal S1x32x512 .f32) (ix3 n t k))
      (fun k => (m ((c : Thread nD τ).loc main_arg1) : FVec Ideal S1x32x512 .f32) (ix3 n t k))
      (fun j => (m ((c : Thread nD τ).loc main_arg2) : FVec Ideal S1x32x1024 .f32) (ix3 n t j))
      (fun k j => (m ((c : Thread nD τ).loc main_arg3) : FVec Ideal S1024x1024 .f32) (ix2 k j)))
    (fun j => (m ((c : Thread nD τ).loc main_arg4) : FVec Ideal S1024 .f32) (ix1 j))
    (fun j => (m ((c : Thread nD τ).loc main_arg5) : FVec Ideal S1024 .f32) (ix1 j))

/-- What the body leaves in the output's buffer, over its blocks. -/
theorem out_at (a b : Vec Ideal S1x32x512 .f32) (x : Vec Ideal S1x32x1024 .f32) (w : Vec Ideal S1024x1024 .bf16) (g o : Vec Ideal S1x1024 .f32) (r : Fin 32) (e : Fin 1024) :
    out0_6 (F := Ideal) a b x w g o (ix3 (0 : Fin 1) r e)
      = layer (mixed (fun k => a (ix3 (0 : Fin 1) r k)) (fun k => b (ix3 (0 : Fin 1) r k)) (fun j => x (ix3 (0 : Fin 1) r j)) (fun k j => w (ix2 k j)))
          (fun j => g (ix2 (0 : Fin 1) j)) (fun j => o (ix2 (0 : Fin 1) j)) e := by
  frame_out
  rw [pay1_at, pay2_at]
  pointwise [layer]
  simp only [unit, mixed, proj]
  rfl

/-- What a grid point leaves in the output's buffer. -/
theorem after_at (c : Dev nD) (t : Fin cfg0.N) (r : Fin 32) (e : Fin 1024) :
    out0_6 (F := Ideal) (iblk m c 0 t) (iblk m c 1 t) (iblk m c 2 t) (iblk m c 3 t) (iblk m c 4 t) (iblk m c 5 t) (ix3 (0 : Fin 1) r e)
      = result m c (seqOf t) (posOf t r) e := by
  refine (out_at _ _ _ _ _ _ r e).trans ?_
  simp only [blk_a, blk_b, blk_x, blk_w, blk_g, blk_o]
  rfl

/-- The result array after the run. -/
theorem final (c : Dev nD) :
    (dats m 0 c).arrAt 6 cfg0.N = (fun y => result m c (y 0) (y 1) (y 2) : S1x32x1024.Idx → EReal) := by
  refine (dats m 0 c).arrAt_eq_of_covers 6 _ (by decide +kernel) fun t _ y => ?_
  blk_simp
  rw [after0_6]
  have hy : (y : S1x32x1024.Idx) = ix3 (0 : Fin 1) (y 1) (y 2) := by
    funext a
    fin_cases a
    · exact Fin.ext (by have := (y 0).isLt; exact Nat.lt_one_iff.1 this)
    · rfl
    · rfl
  refine (congrArg (out0_6 (F := Ideal) (iblk m c 0 t) (iblk m c 1 t) (iblk m c 2 t) (iblk m c 3 t) (iblk m c 4 t) (iblk m c 5 t)) hy).trans
    ((after_at m c t (y 1) (y 2)).trans ?_)
  have e1 : posOf t (y 1) = (win0_6.blk t).view.emb y 1 := Fin.ext (by
    blk_simp [idx t, posOf]
    show 32 * 0 + (y 1).val = (y 1).val
    omega)
  refine congr (congr (congrArg (result m c) (Fin.ext ?_)) e1) (Fin.ext ?_)
  all_goals blk_simp [idx t, seqOf]
  rfl

end Cert.Kernel4Ideal.Out

end
-- ==== Proof.SampleOutReference.lean ====
/- For the sample: the reference of the second output projection and its layer norm, read at an index. -/
module

public import proofs.«01_k».proof.Proof.Norm
public import proofs.«01_k».proof.Proof.Gen.Reference4Ideal.Read
public import Idealize.ShloMosaic.Lib.Pointwise

@[expose] public section

set_option maxRecDepth 16384

noncomputable section

namespace Cert.Reference4Ideal.Out

open Idealize.ShloMosaic Idealize.ShloMosaic.TcCoe Idealize.ShloMosaic.Tactic
open Idealize.SL.Sem
open Cert.Norm Cert.Reference4Ideal Cert.Reference4Ideal.Gen Cert.Reference4Ideal.Read

variable (x0 x1 : FVec Ideal S1x32x512 .f32) (x2 : FVec Ideal S1x32x1024 .f32) (x3 : FVec Ideal S1024x1024 .f32) (x4 x5 : FVec Ideal S1024 .f32)

/-- The row the layer norm takes. -/
abbrev row (n : Fin 1) (t : Fin 32) : Fin 1024 → EReal :=
  mixed (fun k => x0 (ix3 n t k)) (fun k => x1 (ix3 n t k)) (fun j => x2 (ix3 n t j)) (fun k j => x3 (ix2 k j))

theorem row_at (n : Fin 1) (t : Fin 32) (j : Fin 1024) : val_main_v4 (F := Ideal) x0 x1 x2 x3 (ix3 n t j) = row x0 x1 x2 x3 n t j := by
  obtain rfl : n = 0 := Subsingleton.elim _ _
  pointwise [val_main_v4, val_main_v3, val_main_v2, val_main_v1, val_main_v0, val_main_cst]
  simp only [mixed, proj]
  rfl

theorem mean_at (n : Fin 1) (t : Fin 32) : val_main_v8 (F := Ideal) x0 x1 x2 x3 (ix3 n t (0 : Fin 1)) = mean (row x0 x1 x2 x3 n t) := by
  obtain rfl : n = 0 := Subsingleton.elim _ _
  pointwise [val_main_v8, val_main_v7, val_main_v6, val_main_v5, val_main_cst_0, val_main_cst_1, row_at]
  rfl

theorem var_at (n : Fin 1) (t : Fin 32) : val_main_v15 (F := Ideal) x0 x1 x2 x3 (ix3 n t (0 : Fin 1))
    = mean (fun j => (row x0 x1 x2 x3 n t j - mean (row x0 x1 x2 x3 n t)) * (row x0 x1 x2 x3 n t j - mean (row x0 x1 x2 x3 n t))) := by
  obtain rfl : n = 0 := Subsingleton.elim _ _
  pointwise [val_main_v15, val_main_v14, val_main_v13, val_main_v12, val_main_v11, val_main_v10, val_main_v9, val_main_cst_2, val_main_cst_3, row_at, mean_at]
  rfl

theorem result_at (n : Fin 1) (t : Fin 32) (e : Fin 1024) : val_main_v28 (F := Ideal) x0 x1 x2 x3 x4 x5 (ix3 n t e)
    = layer (row x0 x1 x2 x3 n t) (fun j => x4 (ix1 j)) (fun j => x5 (ix1 j)) e := by
  obtain rfl : n = 0 := Subsingleton.elim _ _
  pointwise [val_main_v28, val_main_v27, val_main_v26, val_main_v25, val_main_v24, val_main_v23, val_main_v22, val_main_v21, val_main_v20, val_main_v19,
    val_main_v18, val_main_v17, val_main_v16, val_main_cst_4, row_at, mean_at, var_at]
  rfl

end Cert.Reference4Ideal.Out

end
-- ==== Proof.SampleOut.lean ====
/- For the sample: the claims of the last output projection and layer norm: the kernel's array is the reference's result. -/
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Gen.Kernel4Ideal.Value
public import proofs.«01_k».proof.Proof.SampleOutNorm
public import proofs.«01_k».proof.Proof.SampleOutReference
public import Idealize.ShloMosaic.Lib.Quiescent
public import Idealize.ShloMosaic.Adequacy
public import Idealize.ShloMosaic.Init

@[expose] public section

set_option maxRecDepth 16384

noncomputable section

namespace Cert.SampleOut

open Idealize.ShloMosaic Idealize.ShloMosaic.TcCoe Idealize.ShloMosaic.Tactic Idealize.SL.Sem

/-- The reference's frame: it uses no semaphore. -/
theorem frame_reference : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- Both programs end with the layer norm of the residual and the projection. -/
theorem algebraic : Cert.algebraic_Kernel4Ideal_Reference4Ideal (hKernel4Ideal := Cert.Kernel4Ideal.Gen.facts)
    (hReference4Ideal := Cert.Reference4Ideal.Gen.facts) := by
  intro m g m' g' hpre hargs
  refine ⟨fun c => (Cert.Kernel4Ideal.Gen.dats m 0 c).arrAt 6 Cert.Kernel4Ideal.cfg0.N, Cert.Kernel4Ideal.Value.run_blocks m g, ?_⟩
  refine (θ_run Cert.Reference4Ideal.defs _ _).mono (fun r h c => ⟨(h c).1.trans ?_, (h c).2⟩) (Cert.Reference4Ideal.Value.run (F := Ideal) m' g')
  refine Eq.trans ?_ (Cert.Kernel4Ideal.Out.final m c).symm
  rw [Cert.Reference4Ideal.Read.val_main_v28_eq]
  obtain ⟨e0, e1, e2, e3, e4, e5⟩ := hargs c
  rw [e0, e1, e2, e3, e4, e5]
  funext y
  rw [eq_ix3 y]
  exact Cert.Reference4Ideal.Out.result_at _ _ _ _ _ _ (y 0) (y 1) (y 2)

end Cert.SampleOut

end
-- ==== Proof.SampleOddPay.lean ====
/- For the sample: the pieces of the second layer's projections kernel, each read at an index. -/
module

public import proofs.«01_k».proof.Proof.Decay
public import proofs.«01_k».proof.Proof.Norm
public import proofs.«01_k».proof.Proof.Gen.Kernel5Ideal.Skeleton
public import Idealize.ShloMosaic.Lib.Pointwise

@[expose] public section

set_option maxRecDepth 16384

noncomputable section

namespace Cert.Kernel5Ideal.Odd

open Idealize.ShloMosaic Idealize.ShloMosaic.TcCoe Idealize.ShloMosaic.Tactic
open Idealize.SL.Sem
open Cert.Norm Cert.Kernel5Ideal.Gen

theorem pay2_at (a b : FVec Ideal S1x32x512 .f32) (w0 w1 : FVec Ideal S512x1024 .bf16) (x : FVec Ideal S1x32x1024 .f32) (r : Fin 32) (e : Fin 1024) :
    k0_pay2 (F := Ideal) a w0 b w1 x (ix2 r e) = unit (fun j => Ideal.ofBits .f32 0x3FB504F3#32 * x (ix3 (0 : Fin 1) r j)
      + (∑ k, a (ix3 (0 : Fin 1) r k) * w0 (ix2 k j) + ∑ k, b (ix3 (0 : Fin 1) r k) * w1 (ix2 k j))) e := by
  pointwise [k0_pay2]
  simp only [unit, mean]

theorem pay3_at (u : FVec Ideal S32x1024 .f32) (g b : FVec Ideal S1x1024 .f32) (r : Fin 32) (e : Fin 1024) :
    k0_pay3 (F := Ideal) u g b (ix3 (0 : Fin 1) r e) = u (ix2 r e) * g (ix2 (0 : Fin 1) e) + b (ix2 (0 : Fin 1) e) := by
  pointwise [k0_pay3]

variable (x : FVec Ideal S1x32x1024 .f32) (w : FVec Ideal S1024x3712 .bf16) (r : Fin 32)

/-- One staged column of the projection of row `r`. -/
def staged (j : Fin 3712) : EReal := ∑ k, x (ix3 (0 : Fin 1) r k) * w (ix2 k j)

theorem pay4_at (j : Fin 3712) : k0_pay4 (F := Ideal) x w (ix2 r j) = staged x w r j := by
  pointwise [k0_pay4]
  rfl

theorem pay7_at (e : Fin 512) : k0_pay7 (F := Ideal) x w (ix3 (0 : Fin 1) r e) = staged x w r ⟨e.val, by omega⟩ * Ideal.ofBits .f32 0x3E000000#32 := by
  pointwise [k0_pay7, pay4_at]

theorem pay8_at (e : Fin 512) : k0_pay8 (F := Ideal) x w (ix3 (0 : Fin 1) r e) = staged x w r ⟨512 + e.val, by omega⟩ := by
  pointwise [k0_pay8, k0_pay5, pay4_at]

theorem pay9_at (e : Fin 512) : k0_pay9 (F := Ideal) x w (ix3 (0 : Fin 1) r e) = staged x w r ⟨1024 + e.val, by omega⟩ := by
  pointwise [k0_pay9, k0_pay6, pay4_at]

theorem pay11_at (e : Fin 512) : k0_pay11 (F := Ideal) (k0_pay10 (F := Ideal) x w) (ix3 (0 : Fin 1) r e) = staged x w r ⟨512 + e.val, by omega⟩ := by
  pointwise [k0_pay11, k0_pay10, k0_pay5, pay4_at]

theorem pay12_at (e : Fin 512) : k0_pay12 (F := Ideal) (k0_pay6 (F := Ideal) x w) (ix3 (0 : Fin 1) r e) = staged x w r ⟨1024 + e.val, by omega⟩ := by
  pointwise [k0_pay12, k0_pay6, pay4_at]

theorem pay13_at (e : Fin 512) : k0_pay13 (F := Ideal) (k0_pay4 (F := Ideal) x w) (ix3 (0 : Fin 1) r e) = staged x w r ⟨1536 + e.val, by omega⟩ := by
  pointwise [k0_pay13, pay4_at]

theorem pay14_at (e : Fin 256) : k0_pay14 (F := Ideal) (k0_pay4 (F := Ideal) x w) (ix3 (0 : Fin 1) r e)
    = staged x w r ⟨2048 + e.val, by omega⟩ * Ideal.ofBits .f32 0x3E000000#32 := by
  pointwise [k0_pay14, pay4_at]

theorem pay15_at (e : Fin 256) : k0_pay15 (F := Ideal) (k0_pay4 (F := Ideal) x w) (ix3 (0 : Fin 1) r e) = staged x w r ⟨2304 + e.val, by omega⟩ := by
  pointwise [k0_pay15, pay4_at]

theorem pay16_at (e : Fin 512) : k0_pay16 (F := Ideal) (k0_pay4 (F := Ideal) x w) (ix3 (0 : Fin 1) r e) = staged x w r ⟨2560 + e.val, by omega⟩ := by
  pointwise [k0_pay16, pay4_at]

theorem pay17_at (e : Fin 512) : k0_pay17 (F := Ideal) (k0_pay4 (F := Ideal) x w) (ix3 (0 : Fin 1) r e) = staged x w r ⟨3072 + e.val, by omega⟩ := by
  pointwise [k0_pay17, pay4_at]

theorem pay1_at (a : FVec Ideal S128x256 .f32) (b : FVec Ideal S1x256 .f32) (e : Fin 256) :
    k0_pay1 (F := Ideal) (k0_pay18 (F := Ideal) (k0_pay4 (F := Ideal) x w)) a b (ix3 (0 : Fin 1) r e)
      = Cert.Decay.kernelForm (∑ l : Fin 128, staged x w r ⟨3584 + l.val, by omega⟩ * a (ix2 l e) + b (ix2 (0 : Fin 1) e)) := by
  have h : (Named.named (F := Ideal) (φ := .f32) κ "neg_log2e" 0xBFB8AA3B#32 : EReal) = ((-((Real.log 2)⁻¹) : ℝ) : EReal) :=
    IdealRules.named_const.ideal_named_scalar _ _ _ _ rfl
  pointwise [k0_pay1, k0_pay18, pay4_at]
  rw [h]
  rfl

end Cert.Kernel5Ideal.Odd

end
-- ==== Proof.SampleOddBlocks.lean ====
/- For the sample: the blocks a grid point of the second layer's projections reads, as entries of the arguments: the staged weight holds the
   argument's columns in another order and zeros after them. -/
module

public import proofs.«01_k».proof.Proof.SampleOddPay
public import proofs.«01_k».proof.Proof.Gen.Kernel5Ideal.Frame
public import Idealize.ShloMosaic.Lib.Pointwise
public import Idealize.ShloMosaic.Lib.Pipeline.ValueKit

@[expose] public section

set_option maxRecDepth 16384

noncomputable section

namespace Cert.Kernel5Ideal.Odd

open Idealize.ShloMosaic Idealize.ShloMosaic.TcCoe Idealize.ShloMosaic.Tactic
open Idealize.SL.Sem
open Cert.Norm Cert.Kernel5Ideal Cert.Kernel5Ideal.Gen

variable (m : (ℓ : Loc nD τ sig) → Buf (Elt Ideal) ℓ)

/-- Where the windows' blocks lie. -/
theorem idx : ∀ t : Fin cfg0.N, win0_0.index t = ![(grid0.coords t 0).val, (grid0.coords t 1).val, 0] ∧ win0_1.index t = ![(grid0.coords t 0).val, (grid0.coords t 1).val, 0] ∧ win0_2.index t = ![(grid0.coords t 0).val, (grid0.coords t 1).val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0]
    ∧ win0_17.index t = ![(grid0.coords t 0).val, (grid0.coords t 1).val, 0]
    ∧ win0_18.index t = ![(grid0.coords t 0).val, (grid0.coords t 1).val, 0]
    ∧ win0_19.index t = ![(grid0.coords t 0).val, (grid0.coords t 1).val, 0]
    ∧ win0_20.index t = ![(grid0.coords t 0).val, (grid0.coords t 1).val, 0] :=
  (by decide +kernel : ∀ t : Fin grid0.N, _)

/-- The sequence a grid point works on. -/
def seqOf (t : Fin cfg0.N) : Fin 1 := ⟨(grid0.coords t 0).val, (grid0.coords t 0).isLt⟩

/-- The position of row `r` of a grid point's block. -/
def posOf (t : Fin cfg0.N) (r : Fin 32) : Fin 32 := ⟨(grid0.coords t 1).val * 32 + r.val, by
  have : (grid0.coords t 1).val < 1 := (grid0.coords t 1).isLt
  omega⟩

theorem blk_a (c : Dev nD) (t : Fin cfg0.N) (r : Fin 32) (d : Fin 512) :
    (iblk m c 0 t : Vec Ideal S1x32x512 .f32) (ix3 (0 : Fin 1) r d)
      = (m ((c : Thread nD τ).loc main_arg0) : FVec Ideal S1x32x512 .f32) (ix3 (seqOf t) (posOf t r) d) := by
  blk_ext [iblk, V, idx t, seqOf, posOf]

theorem blk_b (c : Dev nD) (t : Fin cfg0.N) (r : Fin 32) (d : Fin 512) :
    (iblk m c 1 t : Vec Ideal S1x32x512 .f32) (ix3 (0 : Fin 1) r d)
      = (m ((c : Thread nD τ).loc main_arg1) : FVec Ideal S1x32x512 .f32) (ix3 (seqOf t) (posOf t r) d) := by
  blk_ext [iblk, V, idx t, seqOf, posOf]

theorem blk_x (c : Dev nD) (t : Fin cfg0.N) (r : Fin 32) (d : Fin 1024) :
    (iblk m c 2 t : Vec Ideal S1x32x1024 .f32) (ix3 (0 : Fin 1) r d)
      = (m ((c : Thread nD τ).loc main_arg2) : FVec Ideal S1x32x1024 .f32) (ix3 (seqOf t) (posOf t r) d) := by
  blk_ext [iblk, V, idx t, seqOf, posOf]

theorem blk_w (c : Dev nD) (t : Fin cfg0.N) (k e : Fin 1024) :
    (iblk m c 3 t : Vec Ideal S1024x1024 .bf16) (ix2 k e) = (m ((c : Thread nD τ).loc main_arg3) : FVec Ideal S1024x1024 .f32) (ix2 k e) := by
  have h : (iblk m c 3 t : Vec Ideal S1024x1024 .bf16) (ix2 k e) = (V m c main_v0 : FVec Ideal S1024x1024 .bf16) (ix2 k e) := by
    blk_ext [iblk, idx t]
  rw [h]
  simp only [V, hostOps0, hostOps0_1, hostOps0_2, List.flatten_cons, List.flatten_nil, List.cons_append, List.nil_append, List.append_nil]
  entry_read
  rfl

theorem blk_g (c : Dev nD) (t : Fin cfg0.N) (e : Fin 1024) :
    (iblk m c 4 t : Vec Ideal S1x1024 .f32) (ix2 (0 : Fin 1) e) = (m ((c : Thread nD τ).loc main_arg4) : FVec Ideal S1024 .f32) (ix1 e) := by
  have h : (iblk m c 4 t : Vec Ideal S1x1024 .f32) (ix2 (0 : Fin 1) e) = (V m c main_v8 : FVec Ideal S1x1024 .f32) (ix2 (0 : Fin 1) e) := by
    blk_ext [iblk, idx t]
  rw [h]
  simp only [V, hostOps0, hostOps0_1, hostOps0_2, List.flatten_cons, List.flatten_nil, List.cons_append, List.nil_append, List.append_nil]
  entry_read
  pointwise

theorem blk_o (c : Dev nD) (t : Fin cfg0.N) (e : Fin 1024) :
    (iblk m c 5 t : Vec Ideal S1x1024 .f32) (ix2 (0 : Fin 1) e) = (m ((c : Thread nD τ).loc main_arg5) : FVec Ideal S1024 .f32) (ix1 e) := by
  have h : (iblk m c 5 t : Vec Ideal S1x1024 .f32) (ix2 (0 : Fin 1) e) = (V m c main_v9 : FVec Ideal S1x1024 .f32) (ix2 (0 : Fin 1) e) := by
    blk_ext [iblk, idx t]
  rw [h]
  simp only [V, hostOps0, hostOps0_1, hostOps0_2, List.flatten_cons, List.flatten_nil, List.cons_append, List.nil_append, List.append_nil]
  entry_read
  pointwise

theorem blk_d (c : Dev nD) (t : Fin cfg0.N) (e : Fin 256) :
    (iblk m c 8 t : Vec Ideal S1x256 .f32) (ix2 (0 : Fin 1) e) = (m ((c : Thread nD τ).loc main_arg8) : FVec Ideal S256 .f32) (ix1 e) := by
  have h : (iblk m c 8 t : Vec Ideal S1x256 .f32) (ix2 (0 : Fin 1) e) = (V m c main_v10 : FVec Ideal S1x256 .f32) (ix2 (0 : Fin 1) e) := by
    blk_ext [iblk, idx t]
  rw [h]
  simp only [V, hostOps0, hostOps0_1, hostOps0_2, List.flatten_cons, List.flatten_nil, List.cons_append, List.nil_append, List.append_nil]
  entry_read
  pointwise

/-- The staged weight: the projections read at full width first, then the gate, then the decay's columns, then zeros. -/
def stage (w : Fin 1024 → Fin 3600 → EReal) (k : Fin 1024) (j : Fin 3712) : EReal :=
  if h : j.val < 3072 then w k ⟨j.val, by omega⟩
  else if h : j.val < 3584 then w k ⟨3088 + (j.val - 3072), by omega⟩
  else if h : j.val < 3600 then w k ⟨3072 + (j.val - 3584), by omega⟩ else 0

/-- The decay's weight under zero rows. -/
def padded (a : Fin 16 → Fin 256 → EReal) (l : Fin 128) (e : Fin 256) : EReal := if h : l.val < 16 then a ⟨l.val, h⟩ e else 0

/-- The four pieces side by side, read at a column. -/
theorem cat_at (w : FVec Ideal S1024x3600 .f32) (k : Fin 1024) (j : Fin 3712) :
    concatenate S1024x3712 1 [⟨S1024x3072, extractStridedSlice S1024x3072 ![0, 0] w slices_S1024x3600_S1024x3072_0_0⟩,
      ⟨S1024x512, extractStridedSlice S1024x512 ![0, 3088] w slices_S1024x3600_S1024x512_0_3088⟩,
      ⟨S1024x16, extractStridedSlice S1024x16 ![0, 3072] w slices_S1024x3600_S1024x16_0_3072⟩,
      ⟨S1024x112, broadcastInDim S1024x112 ![] bcast_S_S1024x112 (constant (F := Ideal) S_ .f32 0x00000000#32)⟩] concatenates_S1024x3072_S1024x512_S1024x16_S1024x112_S1024x3712_d1 (ix2 k j)
      = stage (fun k j => w (ix2 k j)) k j := by
  pointwise
  unfold stage
  by_cases h1 : j.val < 3072
  · rw [dif_pos h1, dif_pos h1]
  rw [dif_neg h1, dif_neg h1]
  by_cases h2 : j.val < 3584
  · rw [dif_pos (show j.val - 3072 < 512 by omega), dif_pos h2]
  rw [dif_neg (show ¬ j.val - 3072 < 512 by omega), dif_neg h2]
  by_cases h3 : j.val < 3600
  · rw [dif_pos (show j.val - 3072 - 512 < 16 by omega), dif_pos h3]
    exact congrArg (fun x => w (ix2 k x)) (Fin.ext (by show 3072 + (j.val - 3072 - 512) = 3072 + (j.val - 3584); omega))
  · rw [dif_neg (show ¬ j.val - 3072 - 512 < 16 by omega), dif_neg h3]

/-- The zero rows under a matrix, read at a row. -/
theorem pad_at (a : FVec Ideal S16x256 .f32) (l : Fin 128) (e : Fin 256) :
    pad S128x256 ![0, 0] ![112, 0] ![0, 0] a (sitofp (F := Ideal) .f32 (constantI S_ 32 0#32)) pads_S16x256_S128x256_01120_000 h_S_ (ix2 l e)
      = padded (fun l e => a (ix2 l e)) l e := by
  pointwise
  have z : (FloatOps.sitofp (F := Ideal) (.f32 : FTy) (0#32 : BitVec 32) : EReal) = 0 := by
    show (((0#32 : BitVec 32).toInt : ℝ) : EReal) = 0
    norm_num
  rw [z]
  rfl

theorem blk_p (c : Dev nD) (t : Fin cfg0.N) (k : Fin 1024) (j : Fin 3712) :
    (iblk m c 6 t : Vec Ideal S1024x3712 .bf16) (ix2 k j)
      = stage (fun k j => (m ((c : Thread nD τ).loc main_arg6) : FVec Ideal S1024x3600 .f32) (ix2 k j)) k j := by
  have h : (iblk m c 6 t : Vec Ideal S1024x3712 .bf16) (ix2 k j) = (V m c main_v6 : FVec Ideal S1024x3712 .bf16) (ix2 k j) := by
    blk_ext [iblk, idx t]
  rw [h]
  exact Eq.trans rfl (cat_at (m ((c : Thread nD τ).loc main_arg6)) k j)

theorem blk_l (c : Dev nD) (t : Fin cfg0.N) (l : Fin 128) (e : Fin 256) :
    (iblk m c 7 t : Vec Ideal S128x256 .f32) (ix2 l e)
      = padded (fun l e => (m ((c : Thread nD τ).loc main_arg7) : FVec Ideal S16x256 .f32) (ix2 l e)) l e := by
  have h : (iblk m c 7 t : Vec Ideal S128x256 .f32) (ix2 l e) = (V m c main_v7 : FVec Ideal S128x256 .f32) (ix2 l e) := by
    blk_ext [iblk, idx t]
  rw [h]
  simp only [V, hostOps0, hostOps0_1, hostOps0_2, List.flatten_cons, List.flatten_nil, List.cons_append, List.nil_append, List.append_nil]
  entry_read
  exact pad_at _ l e

end Cert.Kernel5Ideal.Odd

end
-- ==== Proof.SampleOddOut.lean ====
/- For the sample: what a grid point of the second layer's projections leaves in the twelve outputs' buffers, over the arguments. -/
module

public import proofs.«01_k».proof.Proof.SampleOddBlocks
public import proofs.«01_k».proof.Proof.Gen.Kernel5Ideal.Frame
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Kernel5Ideal.Odd

open Idealize.ShloMosaic Idealize.ShloMosaic.TcCoe Idealize.ShloMosaic.Tactic
open Idealize.SL.Sem
open Cert.Norm Cert.Kernel5Ideal Cert.Kernel5Ideal.Gen

variable (m : (ℓ : Loc nD τ sig) → Buf (Elt Ideal) ℓ)

/-- The normed row of a position. -/
def normed (c : Dev nD) (n : Fin 1) (t : Fin 32) : Fin 1024 → EReal :=
  layer (mixed (fun k => (m ((c : Thread nD τ).loc main_arg0) : FVec Ideal S1x32x512 .f32) (ix3 n t k))
      (fun k => (m ((c : Thread nD τ).loc main_arg1) : FVec Ideal S1x32x512 .f32) (ix3 n t k))
      (fun j => (m ((c : Thread nD τ).loc main_arg2) : FVec Ideal S1x32x1024 .f32) (ix3 n t j))
      (fun k j => (m ((c : Thread nD τ).loc main_arg3) : FVec Ideal S1024x1024 .f32) (ix2 k j)))
    (fun j => (m ((c : Thread nD τ).loc main_arg4) : FVec Ideal S1024 .f32) (ix1 j))
    (fun j => (m ((c : Thread nD τ).loc main_arg5) : FVec Ideal S1024 .f32) (ix1 j))

/-- One column of the projection of a position's normed row. -/
def colOf (c : Dev nD) (n : Fin 1) (t : Fin 32) (j : Fin 3600) : EReal :=
  col (normed m c n t) (fun k j => (m ((c : Thread nD τ).loc main_arg6) : FVec Ideal S1024x3600 .f32) (ix2 k j)) j

/-- The columns from `a` on. -/
def cols {w : ℕ} (c : Dev nD) (a : ℕ) (n : Fin 1) (t : Fin 32) (e : Fin w) (h : a + w ≤ 3600 := by decide) : EReal := colOf m c n t (colFrom a e h)

/-- The columns from `a` on, scaled by an eighth. -/
def scaled {w : ℕ} (c : Dev nD) (a : ℕ) (n : Fin 1) (t : Fin 32) (e : Fin w) (h : a + w ≤ 3600 := by decide) : EReal :=
  cols m c a n t e h * Ideal.ofBits .f32 0x3E000000#32

/-- The logarithm of a position's decays. -/
def decay (c : Dev nD) (n : Fin 1) (t : Fin 32) (e : Fin 256) : EReal :=
  Cert.Decay.logDecay (∑ l : Fin 16, cols m c 3072 n t l * (m ((c : Thread nD τ).loc main_arg7) : FVec Ideal S16x256 .f32) (ix2 l e)
    + (m ((c : Thread nD τ).loc main_arg8) : FVec Ideal S256 .f32) (ix1 e))

/-- The block of normed rows of a grid point, as the body computes it. -/
abbrev block (c : Dev nD) (t : Fin cfg0.N) : FVec Ideal S1x32x1024 .f32 :=
  k0_pay3 (F := Ideal) (k0_pay2 (F := Ideal) (iblk m c 0 t) (View.ld (iblk m c 3 t) (Rect.unit ![0, 0] ![512, 1024] inb_S1024x1024_S512x1024_0_0))
    (iblk m c 1 t) (View.ld (iblk m c 3 t) (Rect.unit ![512, 0] ![512, 1024] inb_S1024x1024_S512x1024_512_0)) (iblk m c 2 t)) (iblk m c 4 t) (iblk m c 5 t)

theorem block_at (c : Dev nD) (t : Fin cfg0.N) (r : Fin 32) (e : Fin 1024) :
    block m c t (ix3 (0 : Fin 1) r e) = normed m c (seqOf t) (posOf t r) e := by
  rw [block, pay3_at, pay2_at]
  pointwise [normed, layer]
  simp only [unit, mixed, proj, blk_a, blk_b, blk_x, blk_w, blk_g, blk_o]
  rfl

/-- A staged column of a grid point's row is the projection of the normed row with the staged weight's column. -/
theorem staged_at (c : Dev nD) (t : Fin cfg0.N) (r : Fin 32) (j : Fin 3712) :
    staged (block m c t) (iblk m c 6 t) r j
      = ∑ k, normed m c (seqOf t) (posOf t r) k * stage (fun k j => (m ((c : Thread nD τ).loc main_arg6) : FVec Ideal S1024x3600 .f32) (ix2 k j)) k j :=
  Finset.sum_congr rfl fun k _ => congr (congrArg HMul.hMul (block_at m c t r k)) (blk_p m c t k j)

/-- The first columns are staged where they are. -/
theorem staged_main (c : Dev nD) (t : Fin cfg0.N) (r : Fin 32) (j : Fin 3712) (h : j.val < 3072) :
    staged (block m c t) (iblk m c 6 t) r j = colOf m c (seqOf t) (posOf t r) ⟨j.val, by omega⟩ := by
  refine (staged_at m c t r j).trans ?_
  unfold colOf col
  refine Finset.sum_congr rfl fun k _ => ?_
  rw [stage, dif_pos h]

/-- The gate's columns are staged before the decay's. -/
theorem staged_gate (c : Dev nD) (t : Fin cfg0.N) (r : Fin 32) (e : Fin 512) :
    staged (block m c t) (iblk m c 6 t) r ⟨3072 + e.val, by omega⟩ = cols m c 3088 (seqOf t) (posOf t r) e := by
  refine (staged_at m c t r _).trans ?_
  unfold cols colOf col
  refine Finset.sum_congr rfl fun k _ => ?_
  rw [stage, dif_neg (by dsimp only; omega), dif_pos (by dsimp only; omega)]
  exact congrArg (fun j => normed m c (seqOf t) (posOf t r) k * (m ((c : Thread nD τ).loc main_arg6) : FVec Ideal S1024x3600 .f32) (ix2 k j))
    (Fin.ext (by show 3088 + (3072 + e.val - 3072) = 3088 + e.val; omega))

/-- The decay's columns are staged last. -/
theorem staged_last (c : Dev nD) (t : Fin cfg0.N) (r : Fin 32) (l : Fin 16) :
    staged (block m c t) (iblk m c 6 t) r ⟨3584 + l.val, by omega⟩ = cols m c 3072 (seqOf t) (posOf t r) l := by
  refine (staged_at m c t r _).trans ?_
  unfold cols colOf col
  refine Finset.sum_congr rfl fun k _ => ?_
  rw [stage, dif_neg (by dsimp only; omega), dif_neg (by dsimp only; omega), dif_pos (by dsimp only; omega)]
  exact congrArg (fun j => normed m c (seqOf t) (posOf t r) k * (m ((c : Thread nD τ).loc main_arg6) : FVec Ideal S1024x3600 .f32) (ix2 k j))
    (Fin.ext (by show 3072 + (3584 + l.val - 3584) = 3072 + l.val; omega))

/-- The decay's product over the padded weight is the one over its sixteen rows. -/
theorem staged_decay (c : Dev nD) (t : Fin cfg0.N) (r : Fin 32) (e : Fin 256) :
    ∑ l : Fin 128, staged (block m c t) (iblk m c 6 t) r ⟨3584 + l.val, by omega⟩ * (iblk m c 7 t : Vec Ideal S128x256 .f32) (ix2 l e)
      = ∑ l : Fin 16, cols m c 3072 (seqOf t) (posOf t r) l * (m ((c : Thread nD τ).loc main_arg7) : FVec Ideal S16x256 .f32) (ix2 l e) := by
  refine (Fin.sum_univ_add (a := 16) (b := 112) (fun l : Fin 128 =>
    staged (block m c t) (iblk m c 6 t) r ⟨3584 + l.val, by omega⟩ * (iblk m c 7 t : Vec Ideal S128x256 .f32) (ix2 l e))).trans ?_
  have low : ∀ l : Fin 16, (iblk m c 7 t : Vec Ideal S128x256 .f32) (ix2 (Fin.castAdd 112 l) e)
      = (m ((c : Thread nD τ).loc main_arg7) : FVec Ideal S16x256 .f32) (ix2 l e) := fun l =>
    (blk_l m c t (Fin.castAdd 112 l) e).trans (dif_pos l.isLt)
  have high : ∀ l : Fin 112, (iblk m c 7 t : Vec Ideal S128x256 .f32) (ix2 (Fin.natAdd 16 l) e) = (0 : EReal) := fun l =>
    (blk_l m c t (Fin.natAdd 16 l) e).trans (dif_neg (by show ¬ 16 + l.val < 16; omega))
  rw [Finset.sum_congr rfl fun l _ => congrArg (_ * ·) (high l)]
  simp only [mul_zero, Finset.sum_const_zero, add_zero]
  exact Finset.sum_congr rfl fun l _ => congr (congrArg HMul.hMul (staged_last m c t r l)) (low l)

theorem after9_at (c : Dev nD) (t : Fin cfg0.N) (r : Fin 32) (e : Fin 1024) :
    (outsAt0 (F := Ideal) m c t).1 (ix3 (0 : Fin 1) r e) = normed m c (seqOf t) (posOf t r) e := by
  simp only [outsAt0]
  frame_out
  exact block_at m c t r e

theorem after10_at (c : Dev nD) (t : Fin cfg0.N) (r : Fin 32) (e : Fin 512) :
    (outsAt0 (F := Ideal) m c t).2.1 (ix3 (0 : Fin 1) r e) = scaled m c 0 (seqOf t) (posOf t r) e := by
  simp only [outsAt0]
  frame_out
  exact (pay7_at _ _ r e).trans (congrArg (· * Ideal.ofBits .f32 0x3E000000#32) ((staged_main m c t r _ (show e.val < 3072 by omega)).trans
    (congrArg (colOf m c (seqOf t) (posOf t r)) (Fin.ext (Nat.zero_add _).symm))))

theorem after11_at (c : Dev nD) (t : Fin cfg0.N) (r : Fin 32) (e : Fin 512) :
    (outsAt0 (F := Ideal) m c t).2.2.1 (ix3 (0 : Fin 1) r e) = cols m c 512 (seqOf t) (posOf t r) e := by
  simp only [outsAt0]
  frame_out
  exact (pay8_at _ _ r e).trans (staged_main m c t r _ (by dsimp only; omega))

theorem after12_at (c : Dev nD) (t : Fin cfg0.N) (r : Fin 32) (e : Fin 512) :
    (outsAt0 (F := Ideal) m c t).2.2.2.1 (ix3 (0 : Fin 1) r e) = cols m c 1024 (seqOf t) (posOf t r) e := by
  simp only [outsAt0]
  frame_out
  exact (pay9_at _ _ r e).trans (staged_main m c t r _ (by dsimp only; omega))

theorem after13_at (c : Dev nD) (t : Fin cfg0.N) (r : Fin 32) (e : Fin 512) :
    (outsAt0 (F := Ideal) m c t).2.2.2.2.1 (ix3 (0 : Fin 1) r e) = cols m c 512 (seqOf t) (posOf t r) e := by
  simp only [outsAt0]
  frame_out
  exact (pay11_at _ _ r e).trans (staged_main m c t r _ (by dsimp only; omega))

theorem after14_at (c : Dev nD) (t : Fin cfg0.N) (r : Fin 32) (e : Fin 512) :
    (outsAt0 (F := Ideal) m c t).2.2.2.2.2.1 (ix3 (0 : Fin 1) r e) = cols m c 1024 (seqOf t) (posOf t r) e := by
  simp only [outsAt0]
  frame_out
  exact (pay12_at _ _ r e).trans (staged_main m c t r _ (by dsimp only; omega))

theorem after15_at (c : Dev nD) (t : Fin cfg0.N) (r : Fin 32) (e : Fin 512) :
    (outsAt0 (F := Ideal) m c t).2.2.2.2.2.2.1 (ix3 (0 : Fin 1) r e) = cols m c 1536 (seqOf t) (posOf t r) e := by
  simp only [outsAt0]
  frame_out
  exact (pay13_at _ _ r e).trans (staged_main m c t r _ (by dsimp only; omega))

theorem after16_at (c : Dev nD) (t : Fin cfg0.N) (r : Fin 32) (e : Fin 256) :
    (outsAt0 (F := Ideal) m c t).2.2.2.2.2.2.2.1 (ix3 (0 : Fin 1) r e) = scaled m c 2048 (seqOf t) (posOf t r) e := by
  simp only [outsAt0]
  frame_out
  exact (pay14_at _ _ r e).trans (congrArg (· * Ideal.ofBits .f32 0x3E000000#32) (staged_main m c t r _ (by dsimp only; omega)))

theorem after17_at (c : Dev nD) (t : Fin cfg0.N) (r : Fin 32) (e : Fin 256) :
    (outsAt0 (F := Ideal) m c t).2.2.2.2.2.2.2.2.1 (ix3 (0 : Fin 1) r e) = cols m c 2304 (seqOf t) (posOf t r) e := by
  simp only [outsAt0]
  frame_out
  exact (pay15_at _ _ r e).trans (staged_main m c t r _ (by dsimp only; omega))

theorem after18_at (c : Dev nD) (t : Fin cfg0.N) (r : Fin 32) (e : Fin 512) :
    (outsAt0 (F := Ideal) m c t).2.2.2.2.2.2.2.2.2.1 (ix3 (0 : Fin 1) r e) = cols m c 2560 (seqOf t) (posOf t r) e := by
  simp only [outsAt0]
  frame_out
  exact (pay16_at _ _ r e).trans (staged_main m c t r _ (by dsimp only; omega))

theorem after19_at (c : Dev nD) (t : Fin cfg0.N) (r : Fin 32) (e : Fin 256) :
    (outsAt0 (F := Ideal) m c t).2.2.2.2.2.2.2.2.2.2.1 (ix3 (0 : Fin 1) r e) = decay m c (seqOf t) (posOf t r) e := by
  simp only [outsAt0]
  frame_out
  refine (pay1_at _ _ r _ _ e).trans ((Cert.Decay.kernelForm_eq _).trans ?_)
  exact congrArg Cert.Decay.logDecay (congr (congrArg HAdd.hAdd (staged_decay m c t r e)) (blk_d m c t e))

theorem after20_at (c : Dev nD) (t : Fin cfg0.N) (r : Fin 32) (e : Fin 512) :
    (outsAt0 (F := Ideal) m c t).2.2.2.2.2.2.2.2.2.2.2 (ix3 (0 : Fin 1) r e) = cols m c 3088 (seqOf t) (posOf t r) e := by
  simp only [outsAt0]
  frame_out
  exact (pay17_at _ _ r e).trans (staged_gate m c t r e)

end Cert.Kernel5Ideal.Odd

end
-- ==== Proof.SampleOddArray.lean ====
/- For the sample: the twelve arrays the second layer's projections kernel leaves, over the arguments. -/
module

public import proofs.«01_k».proof.Proof.SampleOddOut

@[expose] public section

set_option maxRecDepth 16384

noncomputable section

namespace Cert.Kernel5Ideal.Odd

open Idealize.ShloMosaic Idealize.ShloMosaic.TcCoe Idealize.ShloMosaic.Tactic
open Idealize.SL.Sem
open Cert.Norm Cert.Kernel5Ideal Cert.Kernel5Ideal.Gen

variable (m : (ℓ : Loc nD τ sig) → Buf (Elt Ideal) ℓ)

/-- An index of a block of one sequence's rows. -/
theorem at_row {n : ℕ} (y : (⟨3, ![1, 32, n]⟩ : Shape).Idx) : y = ix3 (0 : Fin 1) (y 1) (y 2) :=
  (eq_ix3 y).trans (congrArg (fun z : Fin 1 => ix3 z (y 1) (y 2)) (Subsingleton.elim (α := Fin 1) _ _))

/-- A function of a sequence, a position and a column at equal indices. -/
theorem at_cell {w : ℕ} {f : Fin 1 → Fin 32 → Fin w → EReal} {a a' : Fin 1} {b b' : Fin 32} {d d' : Fin w} (ha : a.val = a'.val) (hb : b.val = b'.val)
    (hd : d.val = d'.val) : f a b d = f a' b' d' := by
  cases Fin.ext ha
  cases Fin.ext hb
  cases Fin.ext hd
  rfl

theorem final9 (c : Dev nD) : (dats m 0 c).arrAt 9 cfg0.N = (fun y => normed m c (y 0) (y 1) (y 2) : S1x32x1024.Idx → EReal) := by
  refine (dats m 0 c).arrAt_eq_of_covers 9 _ (by decide +kernel) fun t _ y => ?_
  blk_simp
  rw [after0_9]
  refine (congrArg _ (at_row y)).trans ((after9_at m c t (y 1) (y 2)).trans (at_cell (f := fun n t e => normed m c n t e) ?_ ?_ ?_)) <;> blk_simp [idx t, seqOf, posOf] <;> first | rfl | (dsimp only; omega)

theorem final10 (c : Dev nD) : (dats m 0 c).arrAt 10 cfg0.N = (fun y => scaled m c 0 (y 0) (y 1) (y 2) : S1x32x512.Idx → EReal) := by
  refine (dats m 0 c).arrAt_eq_of_covers 10 _ (by decide +kernel) fun t _ y => ?_
  blk_simp
  rw [after0_10]
  refine (congrArg _ (at_row y)).trans ((after10_at m c t (y 1) (y 2)).trans (at_cell (f := fun n t e => scaled m c 0 n t e) ?_ ?_ ?_)) <;> blk_simp [idx t, seqOf, posOf] <;> first | rfl | (dsimp only; omega)

theorem final11 (c : Dev nD) : (dats m 0 c).arrAt 11 cfg0.N = (fun y => cols m c 512 (y 0) (y 1) (y 2) : S1x32x512.Idx → EReal) := by
  refine (dats m 0 c).arrAt_eq_of_covers 11 _ (by decide +kernel) fun t _ y => ?_
  blk_simp
  rw [after0_11]
  refine (congrArg _ (at_row y)).trans ((after11_at m c t (y 1) (y 2)).trans (at_cell (f := fun n t e => cols m c 512 n t e) ?_ ?_ ?_)) <;> blk_simp [idx t, seqOf, posOf] <;> first | rfl | (dsimp only; omega)

theorem final12 (c : Dev nD) : (dats m 0 c).arrAt 12 cfg0.N = (fun y => cols m c 1024 (y 0) (y 1) (y 2) : S1x32x512.Idx → EReal) := by
  refine (dats m 0 c).arrAt_eq_of_covers 12 _ (by decide +kernel) fun t _ y => ?_
  blk_simp
  rw [after0_12]
  refine (congrArg _ (at_row y)).trans ((after12_at m c t (y 1) (y 2)).trans (at_cell (f := fun n t e => cols m c 1024 n t e) ?_ ?_ ?_)) <;> blk_simp [idx t, seqOf, posOf] <;> first | rfl | (dsimp only; omega)

theorem final13 (c : Dev nD) : (dats m 0 c).arrAt 13 cfg0.N = (fun y => cols m c 512 (y 0) (y 1) (y 2) : S1x32x512.Idx → EReal) := by
  refine (dats m 0 c).arrAt_eq_of_covers 13 _ (by decide +kernel) fun t _ y => ?_
  blk_simp
  rw [after0_13]
  refine (congrArg _ (at_row y)).trans ((after13_at m c t (y 1) (y 2)).trans (at_cell (f := fun n t e => cols m c 512 n t e) ?_ ?_ ?_)) <;> blk_simp [idx t, seqOf, posOf] <;> first | rfl | (dsimp only; omega)

theorem final14 (c : Dev nD) : (dats m 0 c).arrAt 14 cfg0.N = (fun y => cols m c 1024 (y 0) (y 1) (y 2) : S1x32x512.Idx → EReal) := by
  refine (dats m 0 c).arrAt_eq_of_covers 14 _ (by decide +kernel) fun t _ y => ?_
  blk_simp
  rw [after0_14]
  refine (congrArg _ (at_row y)).trans ((after14_at m c t (y 1) (y 2)).trans (at_cell (f := fun n t e => cols m c 1024 n t e) ?_ ?_ ?_)) <;> blk_simp [idx t, seqOf, posOf] <;> first | rfl | (dsimp only; omega)

theorem final15 (c : Dev nD) : (dats m 0 c).arrAt 15 cfg0.N = (fun y => cols m c 1536 (y 0) (y 1) (y 2) : S1x32x512.Idx → EReal) := by
  refine (dats m 0 c).arrAt_eq_of_covers 15 _ (by decide +kernel) fun t _ y => ?_
  blk_simp
  rw [after0_15]
  refine (congrArg _ (at_row y)).trans ((after15_at m c t (y 1) (y 2)).trans (at_cell (f := fun n t e => cols m c 1536 n t e) ?_ ?_ ?_)) <;> blk_simp [idx t, seqOf, posOf] <;> first | rfl | (dsimp only; omega)

theorem final16 (c : Dev nD) : (dats m 0 c).arrAt 16 cfg0.N = (fun y => scaled m c 2048 (y 0) (y 1) (y 2) : S1x32x256.Idx → EReal) := by
  refine (dats m 0 c).arrAt_eq_of_covers 16 _ (by decide +kernel) fun t _ y => ?_
  blk_simp
  rw [after0_16]
  refine (congrArg _ (at_row y)).trans ((after16_at m c t (y 1) (y 2)).trans (at_cell (f := fun n t e => scaled m c 2048 n t e) ?_ ?_ ?_)) <;> blk_simp [idx t, seqOf, posOf] <;> first | rfl | (dsimp only; omega)

theorem final17 (c : Dev nD) : (dats m 0 c).arrAt 17 cfg0.N = (fun y => cols m c 2304 (y 0) (y 1) (y 2) : S1x32x256.Idx → EReal) := by
  refine (dats m 0 c).arrAt_eq_of_covers 17 _ (by decide +kernel) fun t _ y => ?_
  blk_simp
  rw [after0_17]
  refine (congrArg _ (at_row y)).trans ((after17_at m c t (y 1) (y 2)).trans (at_cell (f := fun n t e => cols m c 2304 n t e) ?_ ?_ ?_)) <;> blk_simp [idx t, seqOf, posOf] <;> first | rfl | (dsimp only; omega)

theorem final18 (c : Dev nD) : (dats m 0 c).arrAt 18 cfg0.N = (fun y => cols m c 2560 (y 0) (y 1) (y 2) : S1x32x512.Idx → EReal) := by
  refine (dats m 0 c).arrAt_eq_of_covers 18 _ (by decide +kernel) fun t _ y => ?_
  blk_simp
  rw [after0_18]
  refine (congrArg _ (at_row y)).trans ((after18_at m c t (y 1) (y 2)).trans (at_cell (f := fun n t e => cols m c 2560 n t e) ?_ ?_ ?_)) <;> blk_simp [idx t, seqOf, posOf] <;> first | rfl | (dsimp only; omega)

theorem final19 (c : Dev nD) : (dats m 0 c).arrAt 19 cfg0.N = (fun y => decay m c (y 0) (y 1) (y 2) : S1x32x256.Idx → EReal) := by
  refine (dats m 0 c).arrAt_eq_of_covers 19 _ (by decide +kernel) fun t _ y => ?_
  blk_simp
  rw [after0_19]
  refine (congrArg _ (at_row y)).trans ((after19_at m c t (y 1) (y 2)).trans (at_cell (f := fun n t e => decay m c n t e) ?_ ?_ ?_)) <;> blk_simp [idx t, seqOf, posOf] <;> first | rfl | (dsimp only; omega)

theorem final20 (c : Dev nD) : (dats m 0 c).arrAt 20 cfg0.N = (fun y => cols m c 3088 (y 0) (y 1) (y 2) : S1x32x512.Idx → EReal) := by
  refine (dats m 0 c).arrAt_eq_of_covers 20 _ (by decide +kernel) fun t _ y => ?_
  blk_simp
  rw [after0_20]
  refine (congrArg _ (at_row y)).trans ((after20_at m c t (y 1) (y 2)).trans (at_cell (f := fun n t e => cols m c 3088 n t e) ?_ ?_ ?_)) <;> blk_simp [idx t, seqOf, posOf] <;> first | rfl | (dsimp only; omega)

end Cert.Kernel5Ideal.Odd

end
-- ==== Proof.SampleOddReference.lean ====
/- For the sample: the reference of the second layer's projections, read at an index. -/
module

public import proofs.«01_k».proof.Proof.Decay
public import proofs.«01_k».proof.Proof.Norm
public import proofs.«01_k».proof.Proof.Gen.Reference5Ideal.Read
public import Idealize.ShloMosaic.Lib.Pointwise

@[expose] public section

set_option maxRecDepth 16384

noncomputable section

namespace Cert.Reference5Ideal.Odd

open Idealize.ShloMosaic Idealize.ShloMosaic.TcCoe Idealize.ShloMosaic.Tactic
open Idealize.SL.Sem
open Cert.Norm Cert.Reference5Ideal Cert.Reference5Ideal.Gen Cert.Reference5Ideal.Read

variable (x0 x1 : FVec Ideal S1x32x512 .f32) (x2 : FVec Ideal S1x32x1024 .f32) (x3 : FVec Ideal S1024x1024 .f32) (x4 x5 : FVec Ideal S1024 .f32)
  (x6 : FVec Ideal S1024x3600 .f32) (x7 : FVec Ideal S16x256 .f32) (x8 : FVec Ideal S256 .f32)

/-- The row the layer norm takes. -/
abbrev row (n : Fin 1) (t : Fin 32) : Fin 1024 → EReal :=
  mixed (fun k => x0 (ix3 n t k)) (fun k => x1 (ix3 n t k)) (fun j => x2 (ix3 n t j)) (fun k j => x3 (ix2 k j))

theorem row_at (n : Fin 1) (t : Fin 32) (j : Fin 1024) : val_main_v4 (F := Ideal) x0 x1 x2 x3 (ix3 n t j) = row x0 x1 x2 x3 n t j := by
  obtain rfl : n = 0 := Subsingleton.elim _ _
  pointwise [val_main_v4, val_main_v3, val_main_v2, val_main_v1, val_main_v0, val_main_cst]
  simp only [mixed, proj]
  rfl

theorem mean_at (n : Fin 1) (t : Fin 32) : val_main_v8 (F := Ideal) x0 x1 x2 x3 (ix3 n t (0 : Fin 1)) = mean (row x0 x1 x2 x3 n t) := by
  obtain rfl : n = 0 := Subsingleton.elim _ _
  pointwise [val_main_v8, val_main_v7, val_main_v6, val_main_v5, val_main_cst_0, val_main_cst_1, row_at]
  rfl

theorem var_at (n : Fin 1) (t : Fin 32) : val_main_v15 (F := Ideal) x0 x1 x2 x3 (ix3 n t (0 : Fin 1))
    = mean (fun j => (row x0 x1 x2 x3 n t j - mean (row x0 x1 x2 x3 n t)) * (row x0 x1 x2 x3 n t j - mean (row x0 x1 x2 x3 n t))) := by
  obtain rfl : n = 0 := Subsingleton.elim _ _
  pointwise [val_main_v15, val_main_v14, val_main_v13, val_main_v12, val_main_v11, val_main_v10, val_main_v9, val_main_cst_2, val_main_cst_3, row_at, mean_at]
  rfl

/-- The normed row. -/
abbrev normed (n : Fin 1) (t : Fin 32) : Fin 1024 → EReal := layer (row x0 x1 x2 x3 n t) (fun j => x4 (ix1 j)) (fun j => x5 (ix1 j))

theorem v28_at (n : Fin 1) (t : Fin 32) (e : Fin 1024) : val_main_v28 (F := Ideal) x0 x1 x2 x3 x4 x5 (ix3 n t e) = normed x0 x1 x2 x3 x4 x5 n t e := by
  obtain rfl : n = 0 := Subsingleton.elim _ _
  pointwise [val_main_v28, val_main_v27, val_main_v26, val_main_v25, val_main_v24, val_main_v23, val_main_v22, val_main_v21, val_main_v20, val_main_v19,
    val_main_v18, val_main_v17, val_main_v16, val_main_cst_4, row_at, mean_at, var_at]
  rfl

/-- One column of the projection of a normed row. -/
abbrev colOf (n : Fin 1) (t : Fin 32) (j : Fin 3600) : EReal := col (normed x0 x1 x2 x3 x4 x5 n t) (fun k j => x6 (ix2 k j)) j

theorem v29_at (n : Fin 1) (t : Fin 32) (j : Fin 3600) :
    val_main_v29 (F := Ideal) x0 x1 x2 x3 x4 x5 x6 (ix3 n t j) = colOf x0 x1 x2 x3 x4 x5 x6 n t j := by
  obtain rfl : n = 0 := Subsingleton.elim _ _
  pointwise [val_main_v29, v28_at]
  rfl

section
variable (n : Fin 1) (t : Fin 32)

theorem v48_at (e : Fin 512) : val_main_v48 (F := Ideal) x0 x1 x2 x3 x4 x5 x6 (ix3 n t e)
    = colOf x0 x1 x2 x3 x4 x5 x6 n t (colFrom 0 e) * Ideal.ofBits .f32 0x3E000000#32 := by
  obtain rfl : n = 0 := Subsingleton.elim _ _
  pointwise [val_main_v48, val_main_v47, val_main_v46, val_main_cst_6, val_main_v30, v29_at, colFrom]

theorem v31_at (e : Fin 512) : val_main_v31 (F := Ideal) x0 x1 x2 x3 x4 x5 x6 (ix3 n t e) = colOf x0 x1 x2 x3 x4 x5 x6 n t (colFrom 512 e) := by
  obtain rfl : n = 0 := Subsingleton.elim _ _
  pointwise [val_main_v31, v29_at, colFrom]

theorem v32_at (e : Fin 512) : val_main_v32 (F := Ideal) x0 x1 x2 x3 x4 x5 x6 (ix3 n t e) = colOf x0 x1 x2 x3 x4 x5 x6 n t (colFrom 1024 e) := by
  obtain rfl : n = 0 := Subsingleton.elim _ _
  pointwise [val_main_v32, v29_at, colFrom]

theorem v49_at (e : Fin 512) : val_main_v49 (F := Ideal) x0 x1 x2 x3 x4 x5 x6 (ix3 n t e) = colOf x0 x1 x2 x3 x4 x5 x6 n t (colFrom 512 e) := by
  obtain rfl : n = 0 := Subsingleton.elim _ _
  pointwise [val_main_v49, v31_at]

theorem v50_at (e : Fin 512) : val_main_v50 (F := Ideal) x0 x1 x2 x3 x4 x5 x6 (ix3 n t e) = colOf x0 x1 x2 x3 x4 x5 x6 n t (colFrom 1024 e) := by
  obtain rfl : n = 0 := Subsingleton.elim _ _
  pointwise [val_main_v50, v32_at]

theorem v33_at (e : Fin 512) : val_main_v33 (F := Ideal) x0 x1 x2 x3 x4 x5 x6 (ix3 n t e) = colOf x0 x1 x2 x3 x4 x5 x6 n t (colFrom 1536 e) := by
  obtain rfl : n = 0 := Subsingleton.elim _ _
  pointwise [val_main_v33, v29_at, colFrom]

theorem v52_at (e : Fin 256) : val_main_v52 (F := Ideal) x0 x1 x2 x3 x4 x5 x6 (ix3 n t e)
    = colOf x0 x1 x2 x3 x4 x5 x6 n t (colFrom 2048 e) * Ideal.ofBits .f32 0x3E000000#32 := by
  obtain rfl : n = 0 := Subsingleton.elim _ _
  pointwise [val_main_v52, val_main_v51, val_main_cst_7, val_main_v34, v29_at, colFrom]

theorem v35_at (e : Fin 256) : val_main_v35 (F := Ideal) x0 x1 x2 x3 x4 x5 x6 (ix3 n t e) = colOf x0 x1 x2 x3 x4 x5 x6 n t (colFrom 2304 e) := by
  obtain rfl : n = 0 := Subsingleton.elim _ _
  pointwise [val_main_v35, v29_at, colFrom]

theorem v36_at (e : Fin 512) : val_main_v36 (F := Ideal) x0 x1 x2 x3 x4 x5 x6 (ix3 n t e) = colOf x0 x1 x2 x3 x4 x5 x6 n t (colFrom 2560 e) := by
  obtain rfl : n = 0 := Subsingleton.elim _ _
  pointwise [val_main_v36, v29_at, colFrom]

theorem v38_at (e : Fin 512) : val_main_v38 (F := Ideal) x0 x1 x2 x3 x4 x5 x6 (ix3 n t e) = colOf x0 x1 x2 x3 x4 x5 x6 n t (colFrom 3088 e) := by
  obtain rfl : n = 0 := Subsingleton.elim _ _
  pointwise [val_main_v38, v29_at, colFrom]

theorem v42_at (e : Fin 256) : val_main_v42 (F := Ideal) x0 x1 x2 x3 x4 x5 x6 x7 x8 (ix3 n t e)
    = ∑ l : Fin 16, colOf x0 x1 x2 x3 x4 x5 x6 n t (colFrom 3072 l) * x7 (ix2 l e) + x8 (ix1 e) := by
  obtain rfl : n = 0 := Subsingleton.elim _ _
  pointwise [val_main_v42, val_main_v41, val_main_v40, val_main_v39, val_main_v37, v29_at, colFrom]

theorem v45_at (e : Fin 256) : val_main_v45 (F := Ideal) x0 x1 x2 x3 x4 x5 x6 x7 x8 (ix3 n t e)
    = Cert.Decay.logDecay (∑ l : Fin 16, colOf x0 x1 x2 x3 x4 x5 x6 n t (colFrom 3072 l) * x7 (ix2 l e) + x8 (ix1 e)) := by
  obtain rfl : n = 0 := Subsingleton.elim _ _
  pointwise [val_main_v45, val_main_v44, val_main_cst_5, val_main_v43, val_main_call0_v1, val_main_call0_v0, val_main_call0_call0_v4, val_main_call0_call0_v6, val_main_call0_call0_v11,
    val_main_call0_call0_v10, val_main_call0_call0_v9, val_main_call0_call0_v8, val_main_call0_call0_v7, val_main_call0_call0_v3, val_main_call0_call0_v2,
    val_main_call0_call0_v1, val_main_call0_call0_v0, val_main_call0_call0_v5, val_main_call0_call0_cst, v42_at]
  simp only [ne_eq, not_true_eq_false, if_false]
  rfl

end

end Cert.Reference5Ideal.Odd

end
-- ==== Proof.SampleOdd.lean ====
/- For the sample: the claims of the second layer's projections: the kernel's twelve arrays are the reference's twelve results. -/
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.Gen.Kernel5Ideal.Value
public import proofs.«01_k».proof.Proof.SampleOddArray
public import proofs.«01_k».proof.Proof.SampleOddReference
public import Idealize.ShloMosaic.Lib.Quiescent
public import Idealize.ShloMosaic.Adequacy
public import Idealize.ShloMosaic.Init

@[expose] public section

set_option maxRecDepth 16384

noncomputable section

namespace Cert.SampleOdd

open Idealize.ShloMosaic Idealize.ShloMosaic.TcCoe Idealize.ShloMosaic.Tactic Idealize.SL.Sem

/-- The reference's frame: it uses no semaphore. -/
theorem frame_reference : Cert.quiescent_Reference5Ideal (hReference5Ideal := Cert.Reference5Ideal.Gen.facts) := fun m ρ _ =>
  (θ_run Cert.Reference5Ideal.defs _ _).mono (fun r h => ⟨fun c => (h c).2.2.2.2.2.2.2.2.2.2.2.2, Idealize.ShloMosaic.sem_eq_zero_of_no_sems (by decide) r.2⟩)
    (Cert.Reference5Ideal.Value.run (F := Ideal) m ρ)

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

/-- The two memories hold the same arguments. -/
def Agree : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
    ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
    ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
    ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
    ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
    ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
    ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
    ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
    ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)

variable {m m' c}

open Cert.Kernel5Ideal.Odd

theorem end_v28 (h : Agree m m' c) :
    (Cert.Reference5Ideal.Value.res_main_v28 (F := Ideal) m' c : Cert.Reference5Ideal.S1x32x1024.Idx → EReal) = (fun y => normed m c (y 0) (y 1) (y 2) : Cert.Reference5Ideal.S1x32x1024.Idx → EReal) := by
  obtain ⟨e0, e1, e2, e3, e4, e5, e6, e7, e8⟩ := h
  rw [Cert.Reference5Ideal.Read.val_main_v28_eq, e0, e1, e2, e3, e4, e5]
  funext y
  exact (congrArg _ (eq_ix3 y)).trans (Cert.Reference5Ideal.Odd.v28_at _ _ _ _ _ _ (y 0) (y 1) (y 2))

theorem end_v48 (h : Agree m m' c) :
    (Cert.Reference5Ideal.Value.res_main_v48 (F := Ideal) m' c : Cert.Reference5Ideal.S1x32x512.Idx → EReal) = (fun y => scaled m c 0 (y 0) (y 1) (y 2) : Cert.Reference5Ideal.S1x32x512.Idx → EReal) := by
  obtain ⟨e0, e1, e2, e3, e4, e5, e6, e7, e8⟩ := h
  rw [Cert.Reference5Ideal.Read.val_main_v48_eq, e0, e1, e2, e3, e4, e5, e6]
  funext y
  exact (congrArg _ (eq_ix3 y)).trans (Cert.Reference5Ideal.Odd.v48_at _ _ _ _ _ _ _ (y 0) (y 1) (y 2))

theorem end_v31 (h : Agree m m' c) :
    (Cert.Reference5Ideal.Value.res_main_v31 (F := Ideal) m' c : Cert.Reference5Ideal.S1x32x512.Idx → EReal) = (fun y => cols m c 512 (y 0) (y 1) (y 2) : Cert.Reference5Ideal.S1x32x512.Idx → EReal) := by
  obtain ⟨e0, e1, e2, e3, e4, e5, e6, e7, e8⟩ := h
  rw [Cert.Reference5Ideal.Read.val_main_v31_eq, e0, e1, e2, e3, e4, e5, e6]
  funext y
  exact (congrArg _ (eq_ix3 y)).trans (Cert.Reference5Ideal.Odd.v31_at _ _ _ _ _ _ _ (y 0) (y 1) (y 2))

theorem end_v32 (h : Agree m m' c) :
    (Cert.Reference5Ideal.Value.res_main_v32 (F := Ideal) m' c : Cert.Reference5Ideal.S1x32x512.Idx → EReal) = (fun y => cols m c 1024 (y 0) (y 1) (y 2) : Cert.Reference5Ideal.S1x32x512.Idx → EReal) := by
  obtain ⟨e0, e1, e2, e3, e4, e5, e6, e7, e8⟩ := h
  rw [Cert.Reference5Ideal.Read.val_main_v32_eq, e0, e1, e2, e3, e4, e5, e6]
  funext y
  exact (congrArg _ (eq_ix3 y)).trans (Cert.Reference5Ideal.Odd.v32_at _ _ _ _ _ _ _ (y 0) (y 1) (y 2))

theorem end_v49 (h : Agree m m' c) :
    (Cert.Reference5Ideal.Value.res_main_v49 (F := Ideal) m' c : Cert.Reference5Ideal.S1x32x512.Idx → EReal) = (fun y => cols m c 512 (y 0) (y 1) (y 2) : Cert.Reference5Ideal.S1x32x512.Idx → EReal) := by
  obtain ⟨e0, e1, e2, e3, e4, e5, e6, e7, e8⟩ := h
  rw [Cert.Reference5Ideal.Read.val_main_v49_eq, e0, e1, e2, e3, e4, e5, e6]
  funext y
  exact (congrArg _ (eq_ix3 y)).trans (Cert.Reference5Ideal.Odd.v49_at _ _ _ _ _ _ _ (y 0) (y 1) (y 2))

theorem end_v50 (h : Agree m m' c) :
    (Cert.Reference5Ideal.Value.res_main_v50 (F := Ideal) m' c : Cert.Reference5Ideal.S1x32x512.Idx → EReal) = (fun y => cols m c 1024 (y 0) (y 1) (y 2) : Cert.Reference5Ideal.S1x32x512.Idx → EReal) := by
  obtain ⟨e0, e1, e2, e3, e4, e5, e6, e7, e8⟩ := h
  rw [Cert.Reference5Ideal.Read.val_main_v50_eq, e0, e1, e2, e3, e4, e5, e6]
  funext y
  exact (congrArg _ (eq_ix3 y)).trans (Cert.Reference5Ideal.Odd.v50_at _ _ _ _ _ _ _ (y 0) (y 1) (y 2))

theorem end_v33 (h : Agree m m' c) :
    (Cert.Reference5Ideal.Value.res_main_v33 (F := Ideal) m' c : Cert.Reference5Ideal.S1x32x512.Idx → EReal) = (fun y => cols m c 1536 (y 0) (y 1) (y 2) : Cert.Reference5Ideal.S1x32x512.Idx → EReal) := by
  obtain ⟨e0, e1, e2, e3, e4, e5, e6, e7, e8⟩ := h
  rw [Cert.Reference5Ideal.Read.val_main_v33_eq, e0, e1, e2, e3, e4, e5, e6]
  funext y
  exact (congrArg _ (eq_ix3 y)).trans (Cert.Reference5Ideal.Odd.v33_at _ _ _ _ _ _ _ (y 0) (y 1) (y 2))

theorem end_v52 (h : Agree m m' c) :
    (Cert.Reference5Ideal.Value.res_main_v52 (F := Ideal) m' c : Cert.Reference5Ideal.S1x32x256.Idx → EReal) = (fun y => scaled m c 2048 (y 0) (y 1) (y 2) : Cert.Reference5Ideal.S1x32x256.Idx → EReal) := by
  obtain ⟨e0, e1, e2, e3, e4, e5, e6, e7, e8⟩ := h
  rw [Cert.Reference5Ideal.Read.val_main_v52_eq, e0, e1, e2, e3, e4, e5, e6]
  funext y
  exact (congrArg _ (eq_ix3 y)).trans (Cert.Reference5Ideal.Odd.v52_at _ _ _ _ _ _ _ (y 0) (y 1) (y 2))

theorem end_v35 (h : Agree m m' c) :
    (Cert.Reference5Ideal.Value.res_main_v35 (F := Ideal) m' c : Cert.Reference5Ideal.S1x32x256.Idx → EReal) = (fun y => cols m c 2304 (y 0) (y 1) (y 2) : Cert.Reference5Ideal.S1x32x256.Idx → EReal) := by
  obtain ⟨e0, e1, e2, e3, e4, e5, e6, e7, e8⟩ := h
  rw [Cert.Reference5Ideal.Read.val_main_v35_eq, e0, e1, e2, e3, e4, e5, e6]
  funext y
  exact (congrArg _ (eq_ix3 y)).trans (Cert.Reference5Ideal.Odd.v35_at _ _ _ _ _ _ _ (y 0) (y 1) (y 2))

theorem end_v36 (h : Agree m m' c) :
    (Cert.Reference5Ideal.Value.res_main_v36 (F := Ideal) m' c : Cert.Reference5Ideal.S1x32x512.Idx → EReal) = (fun y => cols m c 2560 (y 0) (y 1) (y 2) : Cert.Reference5Ideal.S1x32x512.Idx → EReal) := by
  obtain ⟨e0, e1, e2, e3, e4, e5, e6, e7, e8⟩ := h
  rw [Cert.Reference5Ideal.Read.val_main_v36_eq, e0, e1, e2, e3, e4, e5, e6]
  funext y
  exact (congrArg _ (eq_ix3 y)).trans (Cert.Reference5Ideal.Odd.v36_at _ _ _ _ _ _ _ (y 0) (y 1) (y 2))

theorem end_v45 (h : Agree m m' c) :
    (Cert.Reference5Ideal.Value.res_main_v45 (F := Ideal) m' c : Cert.Reference5Ideal.S1x32x256.Idx → EReal) = (fun y => decay m c (y 0) (y 1) (y 2) : Cert.Reference5Ideal.S1x32x256.Idx → EReal) := by
  obtain ⟨e0, e1, e2, e3, e4, e5, e6, e7, e8⟩ := h
  rw [Cert.Reference5Ideal.Read.val_main_v45_eq, e0, e1, e2, e3, e4, e5, e6, e7, e8]
  funext y
  exact (congrArg _ (eq_ix3 y)).trans (Cert.Reference5Ideal.Odd.v45_at _ _ _ _ _ _ _ _ _ (y 0) (y 1) (y 2))

theorem end_v38 (h : Agree m m' c) :
    (Cert.Reference5Ideal.Value.res_main_v38 (F := Ideal) m' c : Cert.Reference5Ideal.S1x32x512.Idx → EReal) = (fun y => cols m c 3088 (y 0) (y 1) (y 2) : Cert.Reference5Ideal.S1x32x512.Idx → EReal) := by
  obtain ⟨e0, e1, e2, e3, e4, e5, e6, e7, e8⟩ := h
  rw [Cert.Reference5Ideal.Read.val_main_v38_eq, e0, e1, e2, e3, e4, e5, e6]
  funext y
  exact (congrArg _ (eq_ix3 y)).trans (Cert.Reference5Ideal.Odd.v38_at _ _ _ _ _ _ _ (y 0) (y 1) (y 2))

/-- Both programs end with the normed rows and their projections. -/
theorem algebraic : Cert.algebraic_Kernel5Ideal_Reference5Ideal (hKernel5Ideal := Cert.Kernel5Ideal.Gen.facts)
    (hReference5Ideal := Cert.Reference5Ideal.Gen.facts) := by
  intro m g m' g' hpre hargs
  refine ⟨fun c => (Cert.Kernel5Ideal.Gen.dats m 0 c).arrAt 9 Cert.Kernel5Ideal.cfg0.N,
    fun c => (Cert.Kernel5Ideal.Gen.dats m 0 c).arrAt 10 Cert.Kernel5Ideal.cfg0.N,
    fun c => (Cert.Kernel5Ideal.Gen.dats m 0 c).arrAt 11 Cert.Kernel5Ideal.cfg0.N,
    fun c => (Cert.Kernel5Ideal.Gen.dats m 0 c).arrAt 12 Cert.Kernel5Ideal.cfg0.N,
    fun c => (Cert.Kernel5Ideal.Gen.dats m 0 c).arrAt 13 Cert.Kernel5Ideal.cfg0.N,
    fun c => (Cert.Kernel5Ideal.Gen.dats m 0 c).arrAt 14 Cert.Kernel5Ideal.cfg0.N,
    fun c => (Cert.Kernel5Ideal.Gen.dats m 0 c).arrAt 15 Cert.Kernel5Ideal.cfg0.N,
    fun c => (Cert.Kernel5Ideal.Gen.dats m 0 c).arrAt 16 Cert.Kernel5Ideal.cfg0.N,
    fun c => (Cert.Kernel5Ideal.Gen.dats m 0 c).arrAt 17 Cert.Kernel5Ideal.cfg0.N,
    fun c => (Cert.Kernel5Ideal.Gen.dats m 0 c).arrAt 18 Cert.Kernel5Ideal.cfg0.N,
    fun c => (Cert.Kernel5Ideal.Gen.dats m 0 c).arrAt 19 Cert.Kernel5Ideal.cfg0.N,
    fun c => (Cert.Kernel5Ideal.Gen.dats m 0 c).arrAt 20 Cert.Kernel5Ideal.cfg0.N,
    Cert.Kernel5Ideal.Value.run_blocks m g, ?_⟩
  refine (θ_run Cert.Reference5Ideal.defs _ _).mono (fun r h c => ?_) (Cert.Reference5Ideal.Value.run (F := Ideal) m' g')
  have H := h c
  have a : Agree m m' c := hargs c
  exact ⟨(H.1).trans ((end_v28 a).trans (final9 m c).symm),
    (H.2.1).trans ((end_v48 a).trans (final10 m c).symm),
    (H.2.2.1).trans ((end_v31 a).trans (final11 m c).symm),
    (H.2.2.2.1).trans ((end_v32 a).trans (final12 m c).symm),
    (H.2.2.2.2.1).trans ((end_v49 a).trans (final13 m c).symm),
    (H.2.2.2.2.2.1).trans ((end_v50 a).trans (final14 m c).symm),
    (H.2.2.2.2.2.2.1).trans ((end_v33 a).trans (final15 m c).symm),
    (H.2.2.2.2.2.2.2.1).trans ((end_v52 a).trans (final16 m c).symm),
    (H.2.2.2.2.2.2.2.2.1).trans ((end_v35 a).trans (final17 m c).symm),
    (H.2.2.2.2.2.2.2.2.2.1).trans ((end_v36 a).trans (final18 m c).symm),
    (H.2.2.2.2.2.2.2.2.2.2.1).trans ((end_v45 a).trans (final19 m c).symm),
    (H.2.2.2.2.2.2.2.2.2.2.2.1).trans ((end_v38 a).trans (final20 m c).symm),
    H.2.2.2.2.2.2.2.2.2.2.2.2⟩

end Cert.SampleOdd

end
-- ==== Proof.EvenPay.lean ====
/- The first layer's projections for one position: its terms over a row, and the kernel's pieces read at an index. -/
module

public import proofs.«01_k».proof.Proof.Decay
public import proofs.«01_k».proof.Proof.Gen.Kernel6Ideal.Skeleton
public import Idealize.ShloMosaic.Lib.Pointwise

@[expose] public section

set_option maxRecDepth 16384

noncomputable section

namespace Cert.Even

open Idealize.ShloMosaic Idealize.ShloMosaic.TcCoe Idealize.ShloMosaic.Tactic
open Idealize.SL.Sem
open Cert.Decay

/-- One column of the projection of a row. -/
def col (x : Fin 1024 → EReal) (w : Fin 1024 → Fin 3200 → EReal) (j : Fin 3200) : EReal := ∑ k, x k * w k j

/-- One of the first columns, moved towards the earlier position's by the mixing weight. -/
def shifted (x : Fin 1024 → EReal) (s : Fin 1664 → EReal) (w : Fin 1024 → Fin 3200 → EReal) (mu : Fin 1664 → EReal) (j : Fin 1664) : EReal :=
  col x w ⟨j.val, by omega⟩ + mu j * (s j - col x w ⟨j.val, by omega⟩)

/-- A low-rank term with its bias. -/
def lowRank (f : Fin 64 → EReal) (w : Fin 64 → Fin 512 → EReal) (b : Fin 512 → EReal) (e : Fin 512) : EReal := b e + ∑ l, f l * w l e

/-- The logarithm of a decay. -/
def decayLog (z : EReal) : EReal := -(Ideal.exp (-(softplus1 (-z)) - Ideal.ofBits .f32 0x3F000000#32))

/-- The sigmoid. -/
def gate (z : EReal) : EReal := Ideal.div 1 (1 + Ideal.exp (-z))

/-- A key scaled by its gate. -/
def scaledKey (k a ka : EReal) : EReal := k * (1 + (a - 1) * ka)

end Cert.Even

namespace Cert.Kernel6Ideal.Even

open Idealize.ShloMosaic Idealize.ShloMosaic.TcCoe Idealize.ShloMosaic.Tactic
open Idealize.SL.Sem
open Cert.Even Cert.Decay Cert.Kernel6Ideal Cert.Kernel6Ideal.Gen

variable (x : FVec Ideal S1x32x1024 .f32) (w : FVec Ideal S1024x3200 .bf16) (s : FVec Ideal S1x32x1664 .f32) (mu : FVec Ideal S1x1664 .f32)
  (w0 a0 ka : FVec Ideal S1x512 .f32) (w2 a2 : FVec Ideal S64x512 .f32) (r : Fin 32)

/-- One column of row `r`'s projection. -/
def colAt (j : Fin 3200) : EReal := ∑ k, x (ix3 (0 : Fin 1) r k) * w (ix2 k j)

/-- One mixed column of row `r`. -/
def mixAt (j : Fin 1664) : EReal := colAt x w r ⟨j.val, by omega⟩ + mu (ix2 (0 : Fin 1) j) * (s (ix3 (0 : Fin 1) r j) - colAt x w r ⟨j.val, by omega⟩)

theorem pay5_at (j : Fin 3200) : k0_pay5 (F := Ideal) x w (ix2 r j) = colAt x w r j := by
  pointwise [k0_pay5]
  rfl

theorem pay7_at (j : Fin 1664) : k0_pay7 (F := Ideal) x w (ix3 (0 : Fin 1) r j) = colAt x w r ⟨j.val, by omega⟩ := by
  pointwise [k0_pay7, k0_pay6, pay5_at]

theorem pay8_at (j : Fin 1664) : k0_pay8 (F := Ideal) x w s mu (ix2 r j) = mixAt x w s mu r j := by
  pointwise [k0_pay8, k0_pay6, pay5_at]
  rfl

theorem pay2_at (e : Fin 512) : k0_pay2 (F := Ideal) (k0_pay5 (F := Ideal) x w) (ix3 (0 : Fin 1) r e) = colAt x w r ⟨1664 + e.val, by omega⟩ := by
  pointwise [k0_pay2, pay5_at]

theorem pay3_at (e : Fin 512) : k0_pay3 (F := Ideal) (k0_pay5 (F := Ideal) x w) (ix3 (0 : Fin 1) r e) = colAt x w r ⟨2176 + e.val, by omega⟩ := by
  pointwise [k0_pay3, pay5_at]

theorem pay4_at (e : Fin 512) : k0_pay4 (F := Ideal) (k0_pay5 (F := Ideal) x w) (ix3 (0 : Fin 1) r e) = colAt x w r ⟨2688 + e.val, by omega⟩ := by
  pointwise [k0_pay4, pay5_at]

theorem pay20_at (e : Fin 512) : k0_pay20 (F := Ideal) (k0_pay9 (F := Ideal) x w s mu) (ix3 (0 : Fin 1) r e) = mixAt x w s mu r ⟨e.val, by omega⟩ := by
  pointwise [k0_pay20, k0_pay9, pay8_at]

theorem pay23_at (e : Fin 512) : k0_pay23 (F := Ideal) (k0_pay11 (F := Ideal) x w s mu) (ix3 (0 : Fin 1) r e) = mixAt x w s mu r ⟨1024 + e.val, by omega⟩ := by
  pointwise [k0_pay23, k0_pay11, pay8_at]

theorem pay13_at (e : Fin 512) : k0_pay13 (F := Ideal) x w s mu w0 w2 (ix2 r e)
    = -(w0 (ix2 (0 : Fin 1) e) + ∑ l : Fin 64, Ideal.tanh (mixAt x w s mu r ⟨1536 + l.val, by omega⟩) * w2 (ix2 l e)) := by
  pointwise [k0_pay13, pay8_at, zero_sub]

theorem pay21_at (e : Fin 512) : k0_pay21 (F := Ideal) (k0_pay15 (F := Ideal) (k0_pay13 (F := Ideal) x w s mu w0 w2) (k0_pay14 (F := Ideal) x w s mu w0 w2)) (ix3 (0 : Fin 1) r e)
    = decayLog (w0 (ix2 (0 : Fin 1) e) + ∑ l : Fin 64, Ideal.tanh (mixAt x w s mu r ⟨1536 + l.val, by omega⟩) * w2 (ix2 l e)) := by
  have h : (Named.named (F := Ideal) (φ := .f32) κ "neg_log2e" 0xBFB8AA3B#32 : EReal) = ((-((Real.log 2)⁻¹) : ℝ) : EReal) := IdealRules.named_const.ideal_named_scalar _ _ _ _ rfl
  pointwise [k0_pay21, k0_pay15, k0_pay14, pay13_at]
  rw [h]
  unfold decayLog
  rw [← softplus_eq]
  simp only [zero_sub]
  rfl

theorem pay16_at (e : Fin 512) : k0_pay16 (F := Ideal) (k0_pay12 (F := Ideal) x w s mu) a0 a2 (ix2 r e)
    = gate (a0 (ix2 (0 : Fin 1) e) + ∑ l : Fin 64, mixAt x w s mu r ⟨1600 + l.val, by omega⟩ * a2 (ix2 l e)) := by
  pointwise [k0_pay16, k0_pay12, pay8_at, zero_sub]
  rfl

theorem pay22_at (e : Fin 512) : k0_pay22 (F := Ideal) (k0_pay10 (F := Ideal) x w s mu) (k0_pay16 (F := Ideal) (k0_pay12 (F := Ideal) x w s mu) a0 a2) ka (ix3 (0 : Fin 1) r e)
    = scaledKey (mixAt x w s mu r ⟨512 + e.val, by omega⟩) (gate (a0 (ix2 (0 : Fin 1) e) + ∑ l : Fin 64, mixAt x w s mu r ⟨1600 + l.val, by omega⟩ * a2 (ix2 l e)))
      (ka (ix2 (0 : Fin 1) e)) := by
  pointwise [k0_pay22, k0_pay10, pay8_at, pay16_at]
  rfl

end Cert.Kernel6Ideal.Even

end
-- ==== Proof.EvenBlocks.lean ====
/- The blocks a grid point of the first layer's projections reads, as entries of the arguments. -/
module

public import proofs.«01_k».proof.Proof.EvenPay
public import proofs.«01_k».proof.Proof.Gen.Kernel6Ideal.Frame
public import Idealize.ShloMosaic.Lib.Pointwise
public import Idealize.ShloMosaic.Lib.Pipeline.ValueKit

@[expose] public section

set_option maxRecDepth 16384

noncomputable section

namespace Cert.Kernel6Ideal.Even

open Idealize.ShloMosaic Idealize.ShloMosaic.TcCoe Idealize.ShloMosaic.Tactic
open Idealize.SL.Sem
open Cert.Even Cert.Kernel6Ideal Cert.Kernel6Ideal.Gen

variable (m : (ℓ : Loc nD τ sig) → Buf (Elt Ideal) ℓ)

/-- Where the windows' blocks lie. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0]
    ∧ win0_17.index t = ![(grid0.coords t 0).val, (grid0.coords t 1).val, 0]
    ∧ win0_18.index t = ![(grid0.coords t 0).val, (grid0.coords t 1).val, 0]
    ∧ win0_19.index t = ![(grid0.coords t 0).val, (grid0.coords t 1).val, 0]
    ∧ win0_20.index t = ![(grid0.coords t 0).val, (grid0.coords t 1).val, 0] :=
  (by decide +kernel : ∀ t : Fin grid0.N, _)

/-- The sequence a grid point works on. -/
def seqOf (t : Fin cfg0.N) : Fin 1 := ⟨(grid0.coords t 0).val, (grid0.coords t 0).isLt⟩

/-- The position of row `r` of a grid point's block. -/
def posOf (t : Fin cfg0.N) (r : Fin 32) : Fin 32 := ⟨(grid0.coords t 1).val * 32 + r.val, by
  have : (grid0.coords t 1).val < 1 := (grid0.coords t 1).isLt
  omega⟩

theorem blk_x (c : Dev nD) (t : Fin cfg0.N) (r : Fin 32) (d : Fin 1024) :
    (iblk m c 0 t : Vec Ideal S1x32x1024 .f32) (ix3 (0 : Fin 1) r d)
      = (m ((c : Thread nD τ).loc main_arg0) : FVec Ideal S1x32x1024 .f32) (ix3 (seqOf t) (posOf t r) d) := by
  blk_ext [iblk, V, idx t, seqOf, posOf]

theorem blk_s (c : Dev nD) (t : Fin cfg0.N) (r : Fin 32) (d : Fin 1664) :
    (iblk m c 1 t : Vec Ideal S1x32x1664 .f32) (ix3 (0 : Fin 1) r d)
      = (m ((c : Thread nD τ).loc main_arg1) : FVec Ideal S1x32x1664 .f32) (ix3 (seqOf t) (posOf t r) d) := by
  blk_ext [iblk, V, idx t, seqOf, posOf]

theorem blk_w (c : Dev nD) (t : Fin cfg0.N) (k : Fin 1024) (e : Fin 3200) :
    (iblk m c 2 t : Vec Ideal S1024x3200 .bf16) (ix2 k e) = (m ((c : Thread nD τ).loc main_arg2) : FVec Ideal S1024x3200 .f32) (ix2 k e) := by
  have h : (iblk m c 2 t : Vec Ideal S1024x3200 .bf16) (ix2 k e) = (V m c main_v0 : FVec Ideal S1024x3200 .bf16) (ix2 k e) := by
    blk_ext [iblk, idx t]
  rw [h]
  simp only [V, hostOps0]
  entry_read
  rfl

theorem blk_mu (c : Dev nD) (t : Fin cfg0.N) (e : Fin 1664) :
    (iblk m c 3 t : Vec Ideal S1x1664 .f32) (ix2 (0 : Fin 1) e) = (m ((c : Thread nD τ).loc main_arg3) : FVec Ideal S1664 .f32) (ix1 e) := by
  have h : (iblk m c 3 t : Vec Ideal S1x1664 .f32) (ix2 (0 : Fin 1) e) = (V m c main_v7 : FVec Ideal S1x1664 .f32) (ix2 (0 : Fin 1) e) := by
    blk_ext [iblk, idx t]
  rw [h]
  simp only [V, hostOps0]
  entry_read
  pointwise

theorem blk_w0 (c : Dev nD) (t : Fin cfg0.N) (e : Fin 512) :
    (iblk m c 4 t : Vec Ideal S1x512 .f32) (ix2 (0 : Fin 1) e) = (m ((c : Thread nD τ).loc main_arg4) : FVec Ideal S512 .f32) (ix1 e) := by
  have h : (iblk m c 4 t : Vec Ideal S1x512 .f32) (ix2 (0 : Fin 1) e) = (V m c main_v8 : FVec Ideal S1x512 .f32) (ix2 (0 : Fin 1) e) := by
    blk_ext [iblk, idx t]
  rw [h]
  simp only [V, hostOps0]
  entry_read
  pointwise

theorem blk_w2 (c : Dev nD) (t : Fin cfg0.N) (l : Fin 64) (e : Fin 512) :
    (iblk m c 5 t : Vec Ideal S64x512 .f32) (ix2 l e) = (m ((c : Thread nD τ).loc main_arg5) : FVec Ideal S64x512 .f32) (ix2 l e) := by
  blk_ext [iblk, V, idx t]

theorem blk_a0 (c : Dev nD) (t : Fin cfg0.N) (e : Fin 512) :
    (iblk m c 6 t : Vec Ideal S1x512 .f32) (ix2 (0 : Fin 1) e) = (m ((c : Thread nD τ).loc main_arg6) : FVec Ideal S512 .f32) (ix1 e) := by
  have h : (iblk m c 6 t : Vec Ideal S1x512 .f32) (ix2 (0 : Fin 1) e) = (V m c main_v9 : FVec Ideal S1x512 .f32) (ix2 (0 : Fin 1) e) := by
    blk_ext [iblk, idx t]
  rw [h]
  simp only [V, hostOps0]
  entry_read
  pointwise

theorem blk_a2 (c : Dev nD) (t : Fin cfg0.N) (l : Fin 64) (e : Fin 512) :
    (iblk m c 7 t : Vec Ideal S64x512 .f32) (ix2 l e) = (m ((c : Thread nD τ).loc main_arg7) : FVec Ideal S64x512 .f32) (ix2 l e) := by
  blk_ext [iblk, V, idx t]

theorem blk_ka (c : Dev nD) (t : Fin cfg0.N) (e : Fin 512) :
    (iblk m c 9 t : Vec Ideal S1x512 .f32) (ix2 (0 : Fin 1) e) = (m ((c : Thread nD τ).loc main_arg9) : FVec Ideal S512 .f32) (ix1 e) := by
  have h : (iblk m c 9 t : Vec Ideal S1x512 .f32) (ix2 (0 : Fin 1) e) = (V m c main_v11 : FVec Ideal S1x512 .f32) (ix2 (0 : Fin 1) e) := by
    blk_ext [iblk, idx t]
  rw [h]
  simp only [V, hostOps0]
  entry_read
  pointwise

end Cert.Kernel6Ideal.Even

end
-- ==== Proof.EvenOut.lean ====
/- What a grid point of the first layer's projections leaves in eight of the outputs' buffers, over the arguments. -/
module

public import proofs.«01_k».proof.Proof.EvenBlocks
public import proofs.«01_k».proof.Proof.Gen.Kernel6Ideal.Frame
public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Kernel6Ideal.Even

open Idealize.ShloMosaic Idealize.ShloMosaic.TcCoe Idealize.ShloMosaic.Tactic
open Idealize.SL.Sem
open Cert.Even Cert.Kernel6Ideal Cert.Kernel6Ideal.Gen

variable (m : (ℓ : Loc nD τ sig) → Buf (Elt Ideal) ℓ)

/-- One column of the projection of a position. -/
def colOf (c : Dev nD) (n : Fin 1) (t : Fin 32) (j : Fin 3200) : EReal :=
  col (fun k => (m ((c : Thread nD τ).loc main_arg0) : FVec Ideal S1x32x1024 .f32) (ix3 n t k)) (fun k j => (m ((c : Thread nD τ).loc main_arg2) : FVec Ideal S1024x3200 .f32) (ix2 k j)) j

/-- One mixed column of a position. -/
def mixOf (c : Dev nD) (n : Fin 1) (t : Fin 32) (j : Fin 1664) : EReal :=
  shifted (fun k => (m ((c : Thread nD τ).loc main_arg0) : FVec Ideal S1x32x1024 .f32) (ix3 n t k)) (fun j => (m ((c : Thread nD τ).loc main_arg1) : FVec Ideal S1x32x1664 .f32) (ix3 n t j)) (fun k j => (m ((c : Thread nD τ).loc main_arg2) : FVec Ideal S1024x3200 .f32) (ix2 k j)) (fun j => (m ((c : Thread nD τ).loc main_arg3) : FVec Ideal S1664 .f32) (ix1 j)) j

/-- The columns from `a` on. -/
def cols {w : ℕ} (c : Dev nD) (a : ℕ) (n : Fin 1) (t : Fin 32) (e : Fin w) (h : a + w ≤ 3200 := by decide) : EReal := colOf m c n t ⟨a + e.val, by omega⟩

/-- The mixed columns from `a` on. -/
def mixes {w : ℕ} (c : Dev nD) (a : ℕ) (n : Fin 1) (t : Fin 32) (e : Fin w) (h : a + w ≤ 1664 := by decide) : EReal := mixOf m c n t ⟨a + e.val, by omega⟩

/-- The logarithm of a position's decays. -/
def decay (c : Dev nD) (n : Fin 1) (t : Fin 32) (e : Fin 512) : EReal :=
  decayLog (lowRank (fun l => Ideal.tanh (mixes m c 1536 n t l)) (fun l e => (m ((c : Thread nD τ).loc main_arg5) : FVec Ideal S64x512 .f32) (ix2 l e)) (fun e => (m ((c : Thread nD τ).loc main_arg4) : FVec Ideal S512 .f32) (ix1 e)) e)

/-- A position's keys, scaled by their gate. -/
def key (c : Dev nD) (n : Fin 1) (t : Fin 32) (e : Fin 512) : EReal :=
  scaledKey (mixes m c 512 n t e) (gate (lowRank (fun l => mixes m c 1600 n t l) (fun l e => (m ((c : Thread nD τ).loc main_arg7) : FVec Ideal S64x512 .f32) (ix2 l e)) (fun e => (m ((c : Thread nD τ).loc main_arg6) : FVec Ideal S512 .f32) (ix1 e)) e)) ((m ((c : Thread nD τ).loc main_arg9) : FVec Ideal S512 .f32) (ix1 e))

theorem col_at (c : Dev nD) (t : Fin cfg0.N) (r : Fin 32) (j : Fin 3200) : colAt (iblk m c 0 t) (iblk m c 2 t) r j = colOf m c (seqOf t) (posOf t r) j :=
  Finset.sum_congr rfl fun k _ => congrArg₂ (fun a b : EReal => a * b) (blk_x m c t r k) (blk_w m c t k j)

theorem mix_at (c : Dev nD) (t : Fin cfg0.N) (r : Fin 32) (j : Fin 1664) : mixAt (iblk m c 0 t) (iblk m c 2 t) (iblk m c 1 t) (iblk m c 3 t) r j = mixOf m c (seqOf t) (posOf t r) j := by
  unfold mixAt mixOf shifted
  rw [blk_mu m c t j, blk_s m c t r j, col_at m c t r]
  rfl

theorem after11_at (c : Dev nD) (t : Fin cfg0.N) (r : Fin 32) (e : Fin 512) : ((outsAt0 m c t).1 : FVec Ideal S1x32x512 .f32) (ix3 (0 : Fin 1) r e) = mixes m c 0 (seqOf t) (posOf t r) e := by
  simp only [outsAt0]
  frame_out
  exact (pay20_at (iblk m c 0 t) (iblk m c 2 t) (iblk m c 1 t) (iblk m c 3 t) r e).trans ((mix_at m c t r _).trans (congrArg (mixOf m c (seqOf t) (posOf t r)) (Fin.ext (Nat.zero_add e.val).symm)))

theorem after12_at (c : Dev nD) (t : Fin cfg0.N) (r : Fin 32) (e : Fin 512) : ((outsAt0 m c t).2.1 : FVec Ideal S1x32x512 .f32) (ix3 (0 : Fin 1) r e) = decay m c (seqOf t) (posOf t r) e := by
  simp only [outsAt0]
  frame_out
  refine (pay21_at (iblk m c 0 t) (iblk m c 2 t) (iblk m c 1 t) (iblk m c 3 t) (iblk m c 4 t) (iblk m c 5 t) r e).trans ?_
  unfold decay lowRank
  rw [blk_w0 m c t e]
  simp only [mix_at m c t r, blk_w2 m c t]
  rfl

theorem after13_at (c : Dev nD) (t : Fin cfg0.N) (r : Fin 32) (e : Fin 512) : ((outsAt0 m c t).2.2.1 : FVec Ideal S1x32x512 .f32) (ix3 (0 : Fin 1) r e) = key m c (seqOf t) (posOf t r) e := by
  simp only [outsAt0]
  frame_out
  refine (pay22_at (iblk m c 0 t) (iblk m c 2 t) (iblk m c 1 t) (iblk m c 3 t) (iblk m c 6 t) (iblk m c 9 t) (iblk m c 7 t) r e).trans ?_
  unfold key lowRank
  rw [blk_a0 m c t e, blk_ka m c t e]
  simp only [mix_at m c t r, blk_a2 m c t]
  rfl

theorem after14_at (c : Dev nD) (t : Fin cfg0.N) (r : Fin 32) (e : Fin 512) : ((outsAt0 m c t).2.2.2.1 : FVec Ideal S1x32x512 .f32) (ix3 (0 : Fin 1) r e) = mixes m c 1024 (seqOf t) (posOf t r) e := by
  simp only [outsAt0]
  frame_out
  exact (pay23_at (iblk m c 0 t) (iblk m c 2 t) (iblk m c 1 t) (iblk m c 3 t) r e).trans (mix_at m c t r _)

theorem after17_at (c : Dev nD) (t : Fin cfg0.N) (r : Fin 32) (e : Fin 512) : ((outsAt0 m c t).2.2.2.2.2.2.1 : FVec Ideal S1x32x512 .f32) (ix3 (0 : Fin 1) r e) = cols m c 1664 (seqOf t) (posOf t r) e := by
  simp only [outsAt0]
  frame_out
  exact (pay2_at (iblk m c 0 t) (iblk m c 2 t) r e).trans (col_at m c t r _)

theorem after18_at (c : Dev nD) (t : Fin cfg0.N) (r : Fin 32) (e : Fin 512) : ((outsAt0 m c t).2.2.2.2.2.2.2.1 : FVec Ideal S1x32x512 .f32) (ix3 (0 : Fin 1) r e) = cols m c 2176 (seqOf t) (posOf t r) e := by
  simp only [outsAt0]
  frame_out
  exact (pay3_at (iblk m c 0 t) (iblk m c 2 t) r e).trans (col_at m c t r _)

theorem after19_at (c : Dev nD) (t : Fin cfg0.N) (r : Fin 32) (e : Fin 512) : ((outsAt0 m c t).2.2.2.2.2.2.2.2.1 : FVec Ideal S1x32x512 .f32) (ix3 (0 : Fin 1) r e) = cols m c 2688 (seqOf t) (posOf t r) e := by
  simp only [outsAt0]
  frame_out
  exact (pay4_at (iblk m c 0 t) (iblk m c 2 t) r e).trans (col_at m c t r _)

theorem after20_at (c : Dev nD) (t : Fin cfg0.N) (r : Fin 32) (e : Fin 1664) : ((outsAt0 m c t).2.2.2.2.2.2.2.2.2 : FVec Ideal S1x32x1664 .f32) (ix3 (0 : Fin 1) r e) = cols m c 0 (seqOf t) (posOf t r) e := by
  simp only [outsAt0]
  frame_out
  exact (pay7_at (iblk m c 0 t) (iblk m c 2 t) r e).trans ((col_at m c t r _).trans (congrArg (colOf m c (seqOf t) (posOf t r)) (Fin.ext (Nat.zero_add e.val).symm)))

end Cert.Kernel6Ideal.Even

end
-- ==== Proof.EvenArray.lean ====
/- Eight of the arrays the first layer's projections kernel leaves, over the arguments. -/
module

public import proofs.«01_k».proof.Proof.EvenOut

@[expose] public section

set_option maxRecDepth 16384

noncomputable section

namespace Cert.Kernel6Ideal.Even

open Idealize.ShloMosaic Idealize.ShloMosaic.TcCoe Idealize.ShloMosaic.Tactic
open Idealize.SL.Sem
open Cert.Even Cert.Kernel6Ideal Cert.Kernel6Ideal.Gen

variable (m : (ℓ : Loc nD τ sig) → Buf (Elt Ideal) ℓ)

/-- An index of a block of one sequence's rows. -/
theorem at_row {n : ℕ} (y : (⟨3, ![1, 32, n]⟩ : Shape).Idx) : y = ix3 (0 : Fin 1) (y 1) (y 2) :=
  (eq_ix3 y).trans (congrArg (fun z : Fin 1 => ix3 z (y 1) (y 2)) (Subsingleton.elim (α := Fin 1) _ _))

/-- A function of a sequence, a position and a column at equal indices. -/
theorem at_cell {w : ℕ} {f : Fin 1 → Fin 32 → Fin w → EReal} {a a' : Fin 1} {b b' : Fin 32} {d d' : Fin w} (ha : a.val = a'.val) (hb : b.val = b'.val)
    (hd : d.val = d'.val) : f a b d = f a' b' d' := by
  cases Fin.ext ha
  cases Fin.ext hb
  cases Fin.ext hd
  rfl

theorem final11 (c : Dev nD) : (dats m 0 c).arrAt 11 cfg0.N = (fun y => mixes m c 0 (y 0) (y 1) (y 2) : S1x32x512.Idx → EReal) := by
  refine (dats m 0 c).arrAt_eq_of_covers 11 _ (by decide +kernel) fun t _ y => ?_
  blk_simp
  rw [after0_11]
  refine (congrArg _ (at_row y)).trans ((after11_at m c t (y 1) (y 2)).trans (at_cell (f := fun n t e => mixes m c 0 n t e) ?_ ?_ ?_)) <;> blk_simp [idx t, seqOf, posOf] <;> first | rfl | (dsimp only; omega)

theorem final12 (c : Dev nD) : (dats m 0 c).arrAt 12 cfg0.N = (fun y => decay m c (y 0) (y 1) (y 2) : S1x32x512.Idx → EReal) := by
  refine (dats m 0 c).arrAt_eq_of_covers 12 _ (by decide +kernel) fun t _ y => ?_
  blk_simp
  rw [after0_12]
  refine (congrArg _ (at_row y)).trans ((after12_at m c t (y 1) (y 2)).trans (at_cell (f := fun n t e => decay m c n t e) ?_ ?_ ?_)) <;> blk_simp [idx t, seqOf, posOf] <;> first | rfl | (dsimp only; omega)

theorem final13 (c : Dev nD) : (dats m 0 c).arrAt 13 cfg0.N = (fun y => key m c (y 0) (y 1) (y 2) : S1x32x512.Idx → EReal) := by
  refine (dats m 0 c).arrAt_eq_of_covers 13 _ (by decide +kernel) fun t _ y => ?_
  blk_simp
  rw [after0_13]
  refine (congrArg _ (at_row y)).trans ((after13_at m c t (y 1) (y 2)).trans (at_cell (f := fun n t e => key m c n t e) ?_ ?_ ?_)) <;> blk_simp [idx t, seqOf, posOf] <;> first | rfl | (dsimp only; omega)

theorem final14 (c : Dev nD) : (dats m 0 c).arrAt 14 cfg0.N = (fun y => mixes m c 1024 (y 0) (y 1) (y 2) : S1x32x512.Idx → EReal) := by
  refine (dats m 0 c).arrAt_eq_of_covers 14 _ (by decide +kernel) fun t _ y => ?_
  blk_simp
  rw [after0_14]
  refine (congrArg _ (at_row y)).trans ((after14_at m c t (y 1) (y 2)).trans (at_cell (f := fun n t e => mixes m c 1024 n t e) ?_ ?_ ?_)) <;> blk_simp [idx t, seqOf, posOf] <;> first | rfl | (dsimp only; omega)

theorem final17 (c : Dev nD) : (dats m 0 c).arrAt 17 cfg0.N = (fun y => cols m c 1664 (y 0) (y 1) (y 2) : S1x32x512.Idx → EReal) := by
  refine (dats m 0 c).arrAt_eq_of_covers 17 _ (by decide +kernel) fun t _ y => ?_
  blk_simp
  rw [after0_17]
  refine (congrArg _ (at_row y)).trans ((after17_at m c t (y 1) (y 2)).trans (at_cell (f := fun n t e => cols m c 1664 n t e) ?_ ?_ ?_)) <;> blk_simp [idx t, seqOf, posOf] <;> first | rfl | (dsimp only; omega)

theorem final18 (c : Dev nD) : (dats m 0 c).arrAt 18 cfg0.N = (fun y => cols m c 2176 (y 0) (y 1) (y 2) : S1x32x512.Idx → EReal) := by
  refine (dats m 0 c).arrAt_eq_of_covers 18 _ (by decide +kernel) fun t _ y => ?_
  blk_simp
  rw [after0_18]
  refine (congrArg _ (at_row y)).trans ((after18_at m c t (y 1) (y 2)).trans (at_cell (f := fun n t e => cols m c 2176 n t e) ?_ ?_ ?_)) <;> blk_simp [idx t, seqOf, posOf] <;> first | rfl | (dsimp only; omega)

theorem final19 (c : Dev nD) : (dats m 0 c).arrAt 19 cfg0.N = (fun y => cols m c 2688 (y 0) (y 1) (y 2) : S1x32x512.Idx → EReal) := by
  refine (dats m 0 c).arrAt_eq_of_covers 19 _ (by decide +kernel) fun t _ y => ?_
  blk_simp
  rw [after0_19]
  refine (congrArg _ (at_row y)).trans ((after19_at m c t (y 1) (y 2)).trans (at_cell (f := fun n t e => cols m c 2688 n t e) ?_ ?_ ?_)) <;> blk_simp [idx t, seqOf, posOf] <;> first | rfl | (dsimp only; omega)

theorem final20 (c : Dev nD) : (dats m 0 c).arrAt 20 cfg0.N = (fun y => cols m c 0 (y 0) (y 1) (y 2) : S1x32x1664.Idx → EReal) := by
  refine (dats m 0 c).arrAt_eq_of_covers 20 _ (by decide +kernel) fun t _ y => ?_
  blk_simp
  rw [after0_20]
  refine (congrArg _ (at_row y)).trans ((after20_at m c t (y 1) (y 2)).trans (at_cell (f := fun n t e => cols m c 0 n t e) ?_ ?_ ?_)) <;> blk_simp [idx t, seqOf, posOf] <;> first | rfl | (dsimp only; omega)

end Cert.Kernel6Ideal.Even

end
-- ==== Proof.EvenReference.lean ====
/- The reference of the first layer's projections, read at an index. -/
module

public import proofs.«01_k».proof.Proof.EvenPay
public import proofs.«01_k».proof.Proof.Gen.Reference6Ideal.Read
public import Idealize.ShloMosaic.Lib.Pointwise

@[expose] public section

set_option maxRecDepth 16384

noncomputable section

namespace Cert.Reference6Ideal.Even

open Idealize.ShloMosaic Idealize.ShloMosaic.TcCoe Idealize.ShloMosaic.Tactic
open Idealize.SL.Sem
open Cert.Even Cert.Decay Cert.Reference6Ideal Cert.Reference6Ideal.Gen Cert.Reference6Ideal.Read

variable (x0 : FVec Ideal S1x32x1024 .f32) (x1 : FVec Ideal S1x32x1664 .f32) (x2 : FVec Ideal S1024x3200 .f32) (x3 : FVec Ideal S1664 .f32)
  (x4 x6 x9 : FVec Ideal S512 .f32) (x5 x7 : FVec Ideal S64x512 .f32)

/-- One column of the projection of a position. -/
abbrev colOf (n : Fin 1) (t : Fin 32) (j : Fin 3200) : EReal := col (fun k => x0 (ix3 n t k)) (fun k j => x2 (ix2 k j)) j

/-- One mixed column of a position. -/
abbrev mixOf (n : Fin 1) (t : Fin 32) (j : Fin 1664) : EReal :=
  shifted (fun k => x0 (ix3 n t k)) (fun j => x1 (ix3 n t j)) (fun k j => x2 (ix2 k j)) (fun j => x3 (ix1 j)) j

variable (n : Fin 1) (t : Fin 32)

theorem v0_at (j : Fin 3200) : val_main_v0 (F := Ideal) x0 x2 (ix3 n t j) = colOf x0 x2 n t j := by
  obtain rfl : n = 0 := Subsingleton.elim _ _
  pointwise [val_main_v0]
  rfl

theorem v1_at (j : Fin 1664) : val_main_v1 (F := Ideal) x0 x2 (ix3 n t j) = colOf x0 x2 n t ⟨0 + j.val, by omega⟩ := by
  obtain rfl : n = 0 := Subsingleton.elim _ _
  pointwise [val_main_v1, v0_at]

theorem v2_at (e : Fin 512) : val_main_v2 (F := Ideal) x0 x2 (ix3 n t e) = colOf x0 x2 n t ⟨1664 + e.val, by omega⟩ := by
  obtain rfl : n = 0 := Subsingleton.elim _ _
  pointwise [val_main_v2, v0_at]

theorem v3_at (e : Fin 512) : val_main_v3 (F := Ideal) x0 x2 (ix3 n t e) = colOf x0 x2 n t ⟨2176 + e.val, by omega⟩ := by
  obtain rfl : n = 0 := Subsingleton.elim _ _
  pointwise [val_main_v3, v0_at]

theorem v4_at (e : Fin 512) : val_main_v4 (F := Ideal) x0 x2 (ix3 n t e) = colOf x0 x2 n t ⟨2688 + e.val, by omega⟩ := by
  obtain rfl : n = 0 := Subsingleton.elim _ _
  pointwise [val_main_v4, v0_at]

theorem v9_at (j : Fin 1664) : val_main_v9 (F := Ideal) x0 x1 x2 x3 (ix3 n t j) = mixOf x0 x1 x2 x3 n t j := by
  obtain rfl : n = 0 := Subsingleton.elim _ _
  pointwise [val_main_v9, val_main_v8, val_main_v7, val_main_v6, val_main_v5, val_main_v1, v0_at]
  rfl

theorem v10_at (e : Fin 512) : val_main_v10 (F := Ideal) x0 x1 x2 x3 (ix3 n t e) = mixOf x0 x1 x2 x3 n t ⟨0 + e.val, by omega⟩ := by
  obtain rfl : n = 0 := Subsingleton.elim _ _
  pointwise [val_main_v10, v9_at]

theorem v11_at (e : Fin 512) : val_main_v11 (F := Ideal) x0 x1 x2 x3 (ix3 n t e) = mixOf x0 x1 x2 x3 n t ⟨512 + e.val, by omega⟩ := by
  obtain rfl : n = 0 := Subsingleton.elim _ _
  pointwise [val_main_v11, v9_at]

theorem v12_at (e : Fin 512) : val_main_v12 (F := Ideal) x0 x1 x2 x3 (ix3 n t e) = mixOf x0 x1 x2 x3 n t ⟨1024 + e.val, by omega⟩ := by
  obtain rfl : n = 0 := Subsingleton.elim _ _
  pointwise [val_main_v12, v9_at]

theorem v20_at (e : Fin 512) : val_main_v20 (F := Ideal) x0 x1 x2 x3 x4 x5 (ix3 n t e)
    = -(lowRank (fun l => Ideal.tanh (mixOf x0 x1 x2 x3 n t ⟨1536 + l.val, by omega⟩)) (fun l e => x5 (ix2 l e)) (fun e => x4 (ix1 e)) e) := by
  obtain rfl : n = 0 := Subsingleton.elim _ _
  pointwise [val_main_v20, val_main_v19, val_main_v18, val_main_v17, val_main_v16, val_main_v15, val_main_v13, v9_at]
  rfl

theorem v44_at (e : Fin 512) : val_main_v44 (F := Ideal) x0 x1 x2 x3 x4 x5 (ix3 n t e)
    = decayLog (lowRank (fun l => Ideal.tanh (mixOf x0 x1 x2 x3 n t ⟨1536 + l.val, by omega⟩)) (fun l e => x5 (ix2 l e)) (fun e => x4 (ix1 e)) e) := by
  obtain rfl : n = 0 := Subsingleton.elim _ _
  pointwise [val_main_v44, val_main_v43, val_main_v24, val_main_v23, val_main_cst, val_main_v22, val_main_v21, val_main_call0_v4, val_main_call0_v6, val_main_call0_v11,
    val_main_call0_v10, val_main_call0_v9, val_main_call0_v8, val_main_call0_v7, val_main_call0_v3, val_main_call0_v2,
    val_main_call0_v1, val_main_call0_v0, val_main_call0_v5, val_main_call0_cst, v20_at]
  simp only [ne_eq, not_true_eq_false, if_false]
  rfl

theorem v34_at (e : Fin 512) : val_main_v34 (F := Ideal) x0 x1 x2 x3 x6 x7 (ix3 n t e)
    = gate (lowRank (fun l => mixOf x0 x1 x2 x3 n t ⟨1600 + l.val, by omega⟩) (fun l e => x7 (ix2 l e)) (fun e => x6 (ix1 e)) e) := by
  obtain rfl : n = 0 := Subsingleton.elim _ _
  pointwise [val_main_v34, val_main_v33, val_main_v32, val_main_v31, val_main_v30, val_main_v29, val_main_v28, val_main_v27, val_main_v26, val_main_v25, val_main_v14, val_main_cst_0, val_main_cst_1, v9_at]
  rfl

theorem v42_at (e : Fin 512) : val_main_v42 (F := Ideal) x0 x1 x2 x3 x6 x7 x9 (ix3 n t e)
    = scaledKey (mixOf x0 x1 x2 x3 n t ⟨512 + e.val, by omega⟩)
      (gate (lowRank (fun l => mixOf x0 x1 x2 x3 n t ⟨1600 + l.val, by omega⟩) (fun l e => x7 (ix2 l e)) (fun e => x6 (ix1 e)) e)) (x9 (ix1 e)) := by
  obtain rfl : n = 0 := Subsingleton.elim _ _
  pointwise [val_main_v42, val_main_v41, val_main_v40, val_main_v39, val_main_v38, val_main_v37, val_main_v36, val_main_v35, val_main_cst_2, val_main_cst_3, v34_at, v11_at]
  rfl

end Cert.Reference6Ideal.Even

end
-- ==== Proof.Even.lean ====
/- The claims of the first layer's projections for one sampled position: eight of the kernel's arrays are the reference's eight results. -/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.Gen.Kernel6Ideal.Value
public import proofs.«01_k».proof.Proof.EvenArray
public import proofs.«01_k».proof.Proof.EvenReference
public import Idealize.ShloMosaic.Lib.Quiescent
public import Idealize.ShloMosaic.Adequacy
public import Idealize.ShloMosaic.Init

@[expose] public section

set_option maxRecDepth 16384

noncomputable section

namespace Cert.Even

open Idealize.ShloMosaic Idealize.ShloMosaic.TcCoe Idealize.ShloMosaic.Tactic Idealize.SL.Sem

/-- The reference's frame: it uses no semaphore. -/
theorem frame_reference : Cert.quiescent_Reference6Ideal (hReference6Ideal := Cert.Reference6Ideal.Gen.facts) := fun m ρ _ =>
  (θ_run Cert.Reference6Ideal.defs _ _).mono (fun r h => ⟨fun c => (h c).2.2.2.2.2.2.2.2, Idealize.ShloMosaic.sem_eq_zero_of_no_sems (by decide) r.2⟩)
    (Cert.Reference6Ideal.Value.run (F := Ideal) m ρ)

variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ) (c : Dev Cert.Kernel6Ideal.nD)

/-- The two memories hold the same arguments. -/
def Agree : Prop :=
  m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
    ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
    ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
    ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
    ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
    ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
    ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
    ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
    ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
    ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)

variable {m m' c}

open Cert.Kernel6Ideal.Even

theorem end_v10 (h : Agree m m' c) :
    (Cert.Reference6Ideal.Read.val_main_v10 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) : Cert.Reference6Ideal.S1x32x512.Idx → EReal) = (fun y => mixes m c 0 (y 0) (y 1) (y 2) : Cert.Reference6Ideal.S1x32x512.Idx → EReal) := by
  obtain ⟨e0, e1, e2, e3, e4, e5, e6, e7, e8, e9⟩ := h
  rw [e0, e1, e2, e3]
  funext y
  exact (congrArg _ (eq_ix3 y)).trans (Cert.Reference6Ideal.Even.v10_at _ _ _ _ (y 0) (y 1) (y 2))

theorem end_v44 (h : Agree m m' c) :
    (Cert.Reference6Ideal.Read.val_main_v44 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) : Cert.Reference6Ideal.S1x32x512.Idx → EReal) = (fun y => decay m c (y 0) (y 1) (y 2) : Cert.Reference6Ideal.S1x32x512.Idx → EReal) := by
  obtain ⟨e0, e1, e2, e3, e4, e5, e6, e7, e8, e9⟩ := h
  rw [e0, e1, e2, e3, e4, e5]
  funext y
  exact (congrArg _ (eq_ix3 y)).trans (Cert.Reference6Ideal.Even.v44_at _ _ _ _ _ _ (y 0) (y 1) (y 2))

theorem end_v42 (h : Agree m m' c) :
    (Cert.Reference6Ideal.Read.val_main_v42 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg9)) : Cert.Reference6Ideal.S1x32x512.Idx → EReal) = (fun y => key m c (y 0) (y 1) (y 2) : Cert.Reference6Ideal.S1x32x512.Idx → EReal) := by
  obtain ⟨e0, e1, e2, e3, e4, e5, e6, e7, e8, e9⟩ := h
  rw [e0, e1, e2, e3, e6, e7, e9]
  funext y
  exact (congrArg _ (eq_ix3 y)).trans (Cert.Reference6Ideal.Even.v42_at _ _ _ _ _ _ _ (y 0) (y 1) (y 2))

theorem end_v12 (h : Agree m m' c) :
    (Cert.Reference6Ideal.Read.val_main_v12 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) : Cert.Reference6Ideal.S1x32x512.Idx → EReal) = (fun y => mixes m c 1024 (y 0) (y 1) (y 2) : Cert.Reference6Ideal.S1x32x512.Idx → EReal) := by
  obtain ⟨e0, e1, e2, e3, e4, e5, e6, e7, e8, e9⟩ := h
  rw [e0, e1, e2, e3]
  funext y
  exact (congrArg _ (eq_ix3 y)).trans (Cert.Reference6Ideal.Even.v12_at _ _ _ _ (y 0) (y 1) (y 2))

theorem end_v2 (h : Agree m m' c) :
    (Cert.Reference6Ideal.Read.val_main_v2 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2)) : Cert.Reference6Ideal.S1x32x512.Idx → EReal) = (fun y => cols m c 1664 (y 0) (y 1) (y 2) : Cert.Reference6Ideal.S1x32x512.Idx → EReal) := by
  obtain ⟨e0, e1, e2, e3, e4, e5, e6, e7, e8, e9⟩ := h
  rw [e0, e2]
  funext y
  exact (congrArg _ (eq_ix3 y)).trans (Cert.Reference6Ideal.Even.v2_at _ _ (y 0) (y 1) (y 2))

theorem end_v3 (h : Agree m m' c) :
    (Cert.Reference6Ideal.Read.val_main_v3 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2)) : Cert.Reference6Ideal.S1x32x512.Idx → EReal) = (fun y => cols m c 2176 (y 0) (y 1) (y 2) : Cert.Reference6Ideal.S1x32x512.Idx → EReal) := by
  obtain ⟨e0, e1, e2, e3, e4, e5, e6, e7, e8, e9⟩ := h
  rw [e0, e2]
  funext y
  exact (congrArg _ (eq_ix3 y)).trans (Cert.Reference6Ideal.Even.v3_at _ _ (y 0) (y 1) (y 2))

theorem end_v4 (h : Agree m m' c) :
    (Cert.Reference6Ideal.Read.val_main_v4 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2)) : Cert.Reference6Ideal.S1x32x512.Idx → EReal) = (fun y => cols m c 2688 (y 0) (y 1) (y 2) : Cert.Reference6Ideal.S1x32x512.Idx → EReal) := by
  obtain ⟨e0, e1, e2, e3, e4, e5, e6, e7, e8, e9⟩ := h
  rw [e0, e2]
  funext y
  exact (congrArg _ (eq_ix3 y)).trans (Cert.Reference6Ideal.Even.v4_at _ _ (y 0) (y 1) (y 2))

theorem end_v1 (h : Agree m m' c) :
    (Cert.Reference6Ideal.Read.val_main_v1 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2)) : Cert.Reference6Ideal.S1x32x1664.Idx → EReal) = (fun y => cols m c 0 (y 0) (y 1) (y 2) : Cert.Reference6Ideal.S1x32x1664.Idx → EReal) := by
  obtain ⟨e0, e1, e2, e3, e4, e5, e6, e7, e8, e9⟩ := h
  rw [e0, e2]
  funext y
  exact (congrArg _ (eq_ix3 y)).trans (Cert.Reference6Ideal.Even.v1_at _ _ (y 0) (y 1) (y 2))

/-- Both programs end with the mixed projections, the decays, the keys, the gates and the next position's shift. -/
theorem algebraic : Cert.algebraic_Kernel6Ideal_Reference6Ideal (hKernel6Ideal := Cert.Kernel6Ideal.Gen.facts)
    (hReference6Ideal := Cert.Reference6Ideal.Gen.facts) := by
  intro m g m' g' hpre hargs
  refine ⟨fun c => (Cert.Kernel6Ideal.Gen.dats m 0 c).arrAt 11 Cert.Kernel6Ideal.cfg0.N,
    fun c => (Cert.Kernel6Ideal.Gen.dats m 0 c).arrAt 12 Cert.Kernel6Ideal.cfg0.N,
    fun c => (Cert.Kernel6Ideal.Gen.dats m 0 c).arrAt 13 Cert.Kernel6Ideal.cfg0.N,
    fun c => (Cert.Kernel6Ideal.Gen.dats m 0 c).arrAt 14 Cert.Kernel6Ideal.cfg0.N,
    fun c => (Cert.Kernel6Ideal.Gen.dats m 0 c).arrAt 17 Cert.Kernel6Ideal.cfg0.N,
    fun c => (Cert.Kernel6Ideal.Gen.dats m 0 c).arrAt 18 Cert.Kernel6Ideal.cfg0.N,
    fun c => (Cert.Kernel6Ideal.Gen.dats m 0 c).arrAt 19 Cert.Kernel6Ideal.cfg0.N,
    fun c => (Cert.Kernel6Ideal.Gen.dats m 0 c).arrAt 20 Cert.Kernel6Ideal.cfg0.N,
    (θ_run Cert.Kernel6Ideal.defs _ _).mono (fun r H c => ⟨(H c).1, (H c).2.1, (H c).2.2.1, (H c).2.2.2.1, (H c).2.2.2.2.2.2.1, (H c).2.2.2.2.2.2.2.1, (H c).2.2.2.2.2.2.2.2.1, (H c).2.2.2.2.2.2.2.2.2.1, (H c).2.2.2.2.2.2.2.2.2.2⟩) (Cert.Kernel6Ideal.Value.run_blocks m g), ?_⟩
  refine (θ_run Cert.Reference6Ideal.defs _ _).mono (fun r h c => ?_) (Cert.Reference6Ideal.Value.run (F := Ideal) m' g')
  have H := h c
  have a : Agree m m' c := hargs c
  exact ⟨(H.1.trans (Cert.Reference6Ideal.Read.val_main_v10_eq _ _ _ _)).trans ((end_v10 a).trans (final11 m c).symm),
    (H.2.1.trans (Cert.Reference6Ideal.Read.val_main_v44_eq m' c)).trans ((end_v44 a).trans (final12 m c).symm),
    (H.2.2.1.trans (Cert.Reference6Ideal.Read.val_main_v42_eq _ _ _ _ _ _ _)).trans ((end_v42 a).trans (final13 m c).symm),
    (H.2.2.2.1.trans (Cert.Reference6Ideal.Read.val_main_v12_eq _ _ _ _)).trans ((end_v12 a).trans (final14 m c).symm),
    (H.2.2.2.2.1.trans (Cert.Reference6Ideal.Read.val_main_v2_eq _ _)).trans ((end_v2 a).trans (final17 m c).symm),
    (H.2.2.2.2.2.1.trans (Cert.Reference6Ideal.Read.val_main_v3_eq _ _)).trans ((end_v3 a).trans (final18 m c).symm),
    (H.2.2.2.2.2.2.1.trans (Cert.Reference6Ideal.Read.val_main_v4_eq _ _)).trans ((end_v4 a).trans (final19 m c).symm),
    (H.2.2.2.2.2.2.2.1.trans (Cert.Reference6Ideal.Read.val_main_v1_eq _ _)).trans ((end_v1 a).trans (final20 m c).symm),
    H.2.2.2.2.2.2.2.2⟩

end Cert.Even

end
-- ==== Proof.ShiftPay.lean ====
/- The pieces of the first layer's projections kernel for the prompt, each read at an index. -/
module

public import proofs.«01_k».proof.Proof.EvenPay
public import proofs.«01_k».proof.Proof.Gen.Kernel7Ideal.Skeleton
public import Idealize.ShloMosaic.Lib.Pointwise

@[expose] public section

set_option maxRecDepth 16384

noncomputable section

namespace Cert.Kernel7Ideal.Shift

open Idealize.ShloMosaic Idealize.ShloMosaic.TcCoe Idealize.ShloMosaic.Tactic
open Idealize.SL.Sem
open Cert.Even Cert.Decay Cert.Kernel7Ideal Cert.Kernel7Ideal.Gen

variable (x : FVec Ideal S1x512x1024 .f32) (w : FVec Ideal S1024x3200 .bf16) (s mu : FVec Ideal S1x1664 .f32)
  (w0 a0 ka : FVec Ideal S1x512 .f32) (w2 a2 : FVec Ideal S64x512 .f32) (r : Fin 512)

/-- One column of row `r`'s projection. -/
def colAt (j : Fin 3200) : EReal := ∑ k, x (ix3 (0 : Fin 1) r k) * w (ix2 k j)

/-- One of the first columns of the row before row `r`: before the block's first row, the row carried over. -/
def prevAt (j : Fin 1664) : EReal := if r.val = 0 then s (ix2 (0 : Fin 1) j) else colAt x w ⟨r.val - 1, by omega⟩ ⟨j.val, by omega⟩

/-- One mixed column of row `r`. -/
def mixAt (j : Fin 1664) : EReal := colAt x w r ⟨j.val, by omega⟩ + mu (ix2 (0 : Fin 1) j) * (prevAt x w s r j - colAt x w r ⟨j.val, by omega⟩)

theorem pay8_at (j : Fin 3200) : k0_pay8 (F := Ideal) x w (ix2 r j) = colAt x w r j := by
  pointwise [k0_pay8]
  rfl

theorem pay9_at (j : Fin 1664) : k0_pay9 (F := Ideal) x w (ix2 r j) = colAt x w r ⟨j.val, by omega⟩ := by
  pointwise [k0_pay9, pay8_at]

theorem pay10_at (z : FVec Ideal S1x1x1664 .f32) (j : Fin 1664) : k0_pay10 (F := Ideal) z (ix2 (0 : Fin 1) j) = z (ix3 (0 : Fin 1) (0 : Fin 1) j) := by
  pointwise [k0_pay10]

theorem pay11_at (j : Fin 1664) : k0_pay11 (F := Ideal) x w (ix2 (0 : Fin 1) j) = colAt x w ⟨511, by omega⟩ ⟨j.val, by omega⟩ := by
  pointwise [k0_pay11, pay9_at]

theorem pay12_at (j : Fin 1664) : k0_pay12 (F := Ideal) x w (ix3 (0 : Fin 1) (0 : Fin 1) j) = colAt x w ⟨511, by omega⟩ ⟨j.val, by omega⟩ := by
  pointwise [k0_pay12, pay9_at]

theorem pay5_at (e : Fin 512) : k0_pay5 (F := Ideal) (k0_pay8 (F := Ideal) x w) (ix3 (0 : Fin 1) r e) = colAt x w r ⟨1664 + e.val, by omega⟩ := by
  pointwise [k0_pay5, pay8_at]

theorem pay6_at (e : Fin 512) : k0_pay6 (F := Ideal) (k0_pay8 (F := Ideal) x w) (ix3 (0 : Fin 1) r e) = colAt x w r ⟨2176 + e.val, by omega⟩ := by
  pointwise [k0_pay6, pay8_at]

theorem pay7_at (e : Fin 512) : k0_pay7 (F := Ideal) (k0_pay8 (F := Ideal) x w) (ix3 (0 : Fin 1) r e) = colAt x w r ⟨2688 + e.val, by omega⟩ := by
  pointwise [k0_pay7, pay8_at]

/-- The mask of a block's first row. -/
theorem mask_at : ∀ r : Fin 512, IntOp.cmpi (w := 32) .eq (BitVec.ofNat 32 r.val) 0#32 = if r.val = 0 then 1#1 else 0#1 := by
  decide +kernel

theorem pay13_at (j : Fin 1664) : k0_pay13 (F := Ideal) x w s mu (ix2 r j) = mixAt x w s mu r j := by
  pointwise [k0_pay13, pay9_at]
  unfold mixAt prevAt
  rw [mask_at r]
  by_cases h : r.val = 0
  · rw [if_pos h, if_pos h]
    rfl
  · rw [if_neg h, if_neg h]
    have e : (⟨(r.val + 512 - 1) % 512, Nat.mod_lt _ (by decide)⟩ : Fin 512) = ⟨r.val - 1, by omega⟩ := Fin.ext (by show (r.val + 512 - 1) % 512 = r.val - 1; omega)
    rw [← e]
    rfl

theorem pay21_at (e : Fin 512) : k0_pay21 (F := Ideal) (k0_pay14 (F := Ideal) x w s mu) (ix3 (0 : Fin 1) r e) = mixAt x w s mu r ⟨e.val, by omega⟩ := by
  pointwise [k0_pay21, k0_pay14, pay13_at]

theorem pay2_at (e : Fin 512) : k0_pay2 (F := Ideal) (k0_pay16 (F := Ideal) x w s mu) (ix3 (0 : Fin 1) r e) = mixAt x w s mu r ⟨1024 + e.val, by omega⟩ := by
  pointwise [k0_pay2, k0_pay16, pay13_at]

theorem pay22_at (e : Fin 512) : k0_pay22 (F := Ideal) (k0_pay18 (F := Ideal) (k0_pay17 (F := Ideal) x w s mu) w0 w2) (ix3 (0 : Fin 1) r e)
    = decayLog (w0 (ix2 (0 : Fin 1) e) + ∑ l : Fin 64, Ideal.tanh (mixAt x w s mu r ⟨1536 + l.val, by omega⟩) * w2 (ix2 l e)) := by
  have h : (Named.named (F := Ideal) (φ := .f32) κ "neg_log2e" 0xBFB8AA3B#32 : EReal) = ((-((Real.log 2)⁻¹) : ℝ) : EReal) := IdealRules.named_const.ideal_named_scalar _ _ _ _ rfl
  pointwise [k0_pay22, k0_pay18, k0_pay17, pay13_at]
  rw [h]
  unfold decayLog
  rw [← softplus_eq]
  simp only [zero_sub]
  rfl

theorem pay19_at (e : Fin 512) : k0_pay19 (F := Ideal) (k0_pay13 (F := Ideal) x w s mu) a0 a2 (ix2 r e)
    = gate (a0 (ix2 (0 : Fin 1) e) + ∑ l : Fin 64, mixAt x w s mu r ⟨1600 + l.val, by omega⟩ * a2 (ix2 l e)) := by
  pointwise [k0_pay19, pay13_at, zero_sub]
  rfl

theorem pay1_at (e : Fin 512) : k0_pay1 (F := Ideal) (k0_pay23 (F := Ideal) (k0_pay15 (F := Ideal) x w s mu) (k0_pay19 (F := Ideal) (k0_pay13 (F := Ideal) x w s mu) a0 a2) ka) (ix3 (0 : Fin 1) r e)
    = scaledKey (mixAt x w s mu r ⟨512 + e.val, by omega⟩) (gate (a0 (ix2 (0 : Fin 1) e) + ∑ l : Fin 64, mixAt x w s mu r ⟨1600 + l.val, by omega⟩ * a2 (ix2 l e)))
      (ka (ix2 (0 : Fin 1) e)) := by
  pointwise [k0_pay1, k0_pay23, k0_pay15, pay13_at, pay19_at]
  rfl

end Cert.Kernel7Ideal.Shift

end
-- ==== Proof.ShiftBlocks.lean ====
/- The blocks a grid point of the first layer's projections for the prompt reads, as entries of the arguments. -/
module

public import proofs.«01_k».proof.Proof.ShiftPay
public import proofs.«01_k».proof.Proof.Gen.Kernel7Ideal.Frame
public import Idealize.ShloMosaic.Lib.Pointwise
public import Idealize.ShloMosaic.Lib.Pipeline.ValueKit

@[expose] public section

set_option maxRecDepth 16384

noncomputable section

namespace Cert.Kernel7Ideal.Shift

open Idealize.ShloMosaic Idealize.ShloMosaic.TcCoe Idealize.ShloMosaic.Tactic
open Idealize.SL.Sem
open Cert.Even Cert.Kernel7Ideal Cert.Kernel7Ideal.Gen

variable (m : (ℓ : Loc nD τ sig) → Buf (Elt Ideal) ℓ)

/-- Where the windows' blocks lie. -/
theorem idx : ∀ t : Fin cfg0.N, win0_0.index t = ![(grid0.coords t 0).val, (grid0.coords t 1).val, 0]
    ∧ win0_1.index t = ![(grid0.coords t 0).val, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0]
    ∧ win0_16.index t = ![(grid0.coords t 0).val, (grid0.coords t 1).val, 0]
    ∧ win0_17.index t = ![(grid0.coords t 0).val, (grid0.coords t 1).val, 0]
    ∧ win0_18.index t = ![(grid0.coords t 0).val, (grid0.coords t 1).val, 0]
    ∧ win0_19.index t = ![(grid0.coords t 0).val, (grid0.coords t 1).val, 0]
    ∧ win0_20.index t = ![(grid0.coords t 0).val, 0, 0] :=
  (by decide +kernel : ∀ t : Fin grid0.N, _)

/-- The sequence a grid point works on. -/
def seqOf (t : Fin cfg0.N) : Fin 4 := ⟨(grid0.coords t 0).val, (grid0.coords t 0).isLt⟩

/-- The position of row `r` of a grid point's block. -/
def posOf (t : Fin cfg0.N) (r : Fin 512) : Fin 8192 := ⟨(grid0.coords t 1).val * 512 + r.val, by
  have : (grid0.coords t 1).val < 16 := (grid0.coords t 1).isLt
  omega⟩

/-- The grid points in order: a sequence's blocks follow one another, sixteen to a sequence. -/
theorem coords_eq : ∀ t : Fin cfg0.N, (grid0.coords t 0).val = t.val / 16 ∧ (grid0.coords t 1).val = t.val % 16 :=
  (by decide +kernel : ∀ t : Fin grid0.N, _)

theorem blk_x (c : Dev nD) (t : Fin cfg0.N) (r : Fin 512) (d : Fin 1024) :
    (iblk m c 0 t : Vec Ideal S1x512x1024 .f32) (ix3 (0 : Fin 1) r d)
      = (m ((c : Thread nD τ).loc main_arg0) : FVec Ideal S4x8192x1024 .f32) (ix3 (seqOf t) (posOf t r) d) := by
  blk_ext [iblk, V, idx t, seqOf, posOf]

theorem blk_z (c : Dev nD) (t : Fin cfg0.N) (j : Fin 1664) : (iblk m c 1 t : Vec Ideal S1x1x1664 .f32) (ix3 (0 : Fin 1) (0 : Fin 1) j) = (0 : EReal) := by
  have h : (iblk m c 1 t : Vec Ideal S1x1x1664 .f32) (ix3 (0 : Fin 1) (0 : Fin 1) j) = (V m c main_v0 : FVec Ideal S4x1x1664 .f32) (ix3 (seqOf t) (0 : Fin 1) j) := by
    blk_ext [iblk, idx t, seqOf]
  rw [h]
  simp only [V, hostOps0]
  entry_read
  pointwise

theorem blk_w (c : Dev nD) (t : Fin cfg0.N) (k : Fin 1024) (e : Fin 3200) :
    (iblk m c 2 t : Vec Ideal S1024x3200 .bf16) (ix2 k e) = (m ((c : Thread nD τ).loc main_arg1) : FVec Ideal S1024x3200 .f32) (ix2 k e) := by
  have h : (iblk m c 2 t : Vec Ideal S1024x3200 .bf16) (ix2 k e) = (V m c main_v1 : FVec Ideal S1024x3200 .bf16) (ix2 k e) := by
    blk_ext [iblk, idx t]
  rw [h]
  simp only [V, hostOps0]
  entry_read
  rfl

theorem blk_mu (c : Dev nD) (t : Fin cfg0.N) (e : Fin 1664) :
    (iblk m c 3 t : Vec Ideal S1x1664 .f32) (ix2 (0 : Fin 1) e) = (m ((c : Thread nD τ).loc main_arg2) : FVec Ideal S1664 .f32) (ix1 e) := by
  have h : (iblk m c 3 t : Vec Ideal S1x1664 .f32) (ix2 (0 : Fin 1) e) = (V m c main_v8 : FVec Ideal S1x1664 .f32) (ix2 (0 : Fin 1) e) := by
    blk_ext [iblk, idx t]
  rw [h]
  simp only [V, hostOps0]
  entry_read
  pointwise

theorem blk_w0 (c : Dev nD) (t : Fin cfg0.N) (e : Fin 512) :
    (iblk m c 4 t : Vec Ideal S1x512 .f32) (ix2 (0 : Fin 1) e) = (m ((c : Thread nD τ).loc main_arg3) : FVec Ideal S512 .f32) (ix1 e) := by
  have h : (iblk m c 4 t : Vec Ideal S1x512 .f32) (ix2 (0 : Fin 1) e) = (V m c main_v9 : FVec Ideal S1x512 .f32) (ix2 (0 : Fin 1) e) := by
    blk_ext [iblk, idx t]
  rw [h]
  simp only [V, hostOps0]
  entry_read
  pointwise

theorem blk_w2 (c : Dev nD) (t : Fin cfg0.N) (l : Fin 64) (e : Fin 512) :
    (iblk m c 5 t : Vec Ideal S64x512 .f32) (ix2 l e) = (m ((c : Thread nD τ).loc main_arg4) : FVec Ideal S64x512 .f32) (ix2 l e) := by
  blk_ext [iblk, V, idx t]

theorem blk_a0 (c : Dev nD) (t : Fin cfg0.N) (e : Fin 512) :
    (iblk m c 6 t : Vec Ideal S1x512 .f32) (ix2 (0 : Fin 1) e) = (m ((c : Thread nD τ).loc main_arg5) : FVec Ideal S512 .f32) (ix1 e) := by
  have h : (iblk m c 6 t : Vec Ideal S1x512 .f32) (ix2 (0 : Fin 1) e) = (V m c main_v10 : FVec Ideal S1x512 .f32) (ix2 (0 : Fin 1) e) := by
    blk_ext [iblk, idx t]
  rw [h]
  simp only [V, hostOps0]
  entry_read
  pointwise

theorem blk_a2 (c : Dev nD) (t : Fin cfg0.N) (l : Fin 64) (e : Fin 512) :
    (iblk m c 7 t : Vec Ideal S64x512 .f32) (ix2 l e) = (m ((c : Thread nD τ).loc main_arg6) : FVec Ideal S64x512 .f32) (ix2 l e) := by
  blk_ext [iblk, V, idx t]

theorem blk_ka (c : Dev nD) (t : Fin cfg0.N) (e : Fin 512) :
    (iblk m c 9 t : Vec Ideal S1x512 .f32) (ix2 (0 : Fin 1) e) = (m ((c : Thread nD τ).loc main_arg8) : FVec Ideal S512 .f32) (ix1 e) := by
  have h : (iblk m c 9 t : Vec Ideal S1x512 .f32) (ix2 (0 : Fin 1) e) = (V m c main_v12 : FVec Ideal S1x512 .f32) (ix2 (0 : Fin 1) e) := by
    blk_ext [iblk, idx t]
  rw [h]
  simp only [V, hostOps0]
  entry_read
  pointwise

end Cert.Kernel7Ideal.Shift

end
-- ==== Proof.ShiftOut.lean ====
/- What a grid point of the first layer's projections for the prompt leaves in eight of the outputs' buffers, over the arguments. -/
module

public import proofs.«01_k».proof.Proof.ShiftBlocks
public import proofs.«01_k».proof.Proof.Gen.Kernel7Ideal.Frame
public import proofs.«01_k».proof.Proof.Gen.Kernel7Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel7Ideal.Shift

open Idealize.ShloMosaic Idealize.ShloMosaic.TcCoe Idealize.ShloMosaic.Tactic
open Idealize.SL.Sem
open Cert.Even Cert.Kernel7Ideal Cert.Kernel7Ideal.Gen

variable (m : (ℓ : Loc nD τ sig) → Buf (Elt Ideal) ℓ)

/-- One column of the projection of a position. -/
def colOf (c : Dev nD) (n : Fin 4) (t : Fin 8192) (j : Fin 3200) : EReal :=
  col (fun k => (m ((c : Thread nD τ).loc main_arg0) : FVec Ideal S4x8192x1024 .f32) (ix3 n t k)) (fun k j => (m ((c : Thread nD τ).loc main_arg1) : FVec Ideal S1024x3200 .f32) (ix2 k j)) j

/-- One of the first columns of the position before: zero before a sequence's first one. -/
def prev (c : Dev nD) (n : Fin 4) (t : Fin 8192) (j : Fin 1664) : EReal := if t.val = 0 then 0 else colOf m c n ⟨t.val - 1, by omega⟩ ⟨j.val, by omega⟩

/-- One mixed column of a position. -/
def mixOf (c : Dev nD) (n : Fin 4) (t : Fin 8192) (j : Fin 1664) : EReal :=
  shifted (fun k => (m ((c : Thread nD τ).loc main_arg0) : FVec Ideal S4x8192x1024 .f32) (ix3 n t k)) (prev m c n t) (fun k j => (m ((c : Thread nD τ).loc main_arg1) : FVec Ideal S1024x3200 .f32) (ix2 k j)) (fun j => (m ((c : Thread nD τ).loc main_arg2) : FVec Ideal S1664 .f32) (ix1 j)) j

/-- The columns from `a` on. -/
def cols {w : ℕ} (c : Dev nD) (a : ℕ) (n : Fin 4) (t : Fin 8192) (e : Fin w) (h : a + w ≤ 3200 := by decide) : EReal := colOf m c n t ⟨a + e.val, by omega⟩

/-- The mixed columns from `a` on. -/
def mixes {w : ℕ} (c : Dev nD) (a : ℕ) (n : Fin 4) (t : Fin 8192) (e : Fin w) (h : a + w ≤ 1664 := by decide) : EReal := mixOf m c n t ⟨a + e.val, by omega⟩

/-- The first columns of a sequence's last position. -/
def last (c : Dev nD) (n : Fin 4) (j : Fin 1664) : EReal := colOf m c n ⟨8191, by omega⟩ ⟨j.val, by omega⟩

/-- The logarithm of a position's decays. -/
def decay (c : Dev nD) (n : Fin 4) (t : Fin 8192) (e : Fin 512) : EReal :=
  decayLog (lowRank (fun l => Ideal.tanh (mixes m c 1536 n t l)) (fun l e => (m ((c : Thread nD τ).loc main_arg4) : FVec Ideal S64x512 .f32) (ix2 l e)) (fun e => (m ((c : Thread nD τ).loc main_arg3) : FVec Ideal S512 .f32) (ix1 e)) e)

/-- A position's keys, scaled by their gate. -/
def key (c : Dev nD) (n : Fin 4) (t : Fin 8192) (e : Fin 512) : EReal :=
  scaledKey (mixes m c 512 n t e) (gate (lowRank (fun l => mixes m c 1600 n t l) (fun l e => (m ((c : Thread nD τ).loc main_arg6) : FVec Ideal S64x512 .f32) (ix2 l e)) (fun e => (m ((c : Thread nD τ).loc main_arg5) : FVec Ideal S512 .f32) (ix1 e)) e)) ((m ((c : Thread nD τ).loc main_arg8) : FVec Ideal S512 .f32) (ix1 e))

theorem col_at (c : Dev nD) (t : Fin cfg0.N) (r : Fin 512) (j : Fin 3200) : colAt (iblk m c 0 t) (iblk m c 2 t) r j = colOf m c (seqOf t) (posOf t r) j :=
  Finset.sum_congr rfl fun k _ => congrArg₂ (fun a b : EReal => a * b) (blk_x m c t r k) (blk_w m c t k j)

/-- The row a point carries over to the next: the first columns of its last row. -/
theorem carry_at (c : Dev nD) (t : Fin cfg0.N) (j : Fin 1664) :
    ((outsAt0 m c t.val t.isLt).2.2.2.2.2.2.2.2.2.2 : FVec Ideal S1x1664 .f32) (ix2 (0 : Fin 1) j) = colOf m c (seqOf t) (posOf t ⟨511, by omega⟩) ⟨j.val, by omega⟩ := by
  by_cases h0 : t.val % 16 = 0
  · rw [outsAt0_A m c t h0]
    frame_out
    exact (pay11_at (iblk m c 0 t) (iblk m c 2 t) j).trans (col_at m c t _ _)
  · rw [outsAt0_B m c t h0]
    frame_out
    exact (pay11_at (iblk m c 0 t) (iblk m c 2 t) j).trans (col_at m c t _ _)

/-- The rows before a block's rows, the first of them carried over. -/
theorem prev_at (c : Dev nD) (t : Fin cfg0.N) (s : FVec Ideal S1x1664 .f32) (r : Fin 512) (j : Fin 1664)
    (hA : t.val % 16 = 0 → s (ix2 (0 : Fin 1) j) = (0 : EReal))
    (hB : ¬ t.val % 16 = 0 → s (ix2 (0 : Fin 1) j) = ((outsAt0 m c (t.val - 1) (Nat.lt_of_le_of_lt (Nat.sub_le _ _) t.isLt)).2.2.2.2.2.2.2.2.2.2 : FVec Ideal S1x1664 .f32) (ix2 (0 : Fin 1) j)) :
    prevAt (iblk m c 0 t) (iblk m c 2 t) s r j = prev m c (seqOf t) (posOf t r) j := by
  obtain ⟨c0, c1⟩ := coords_eq t
  have p : (posOf t r).val = (grid0.coords t 1).val * 512 + r.val := rfl
  unfold prevAt prev
  by_cases hr : r.val = 0
  · rw [if_pos hr]
    by_cases h0 : t.val % 16 = 0
    · rw [if_pos (show (posOf t r).val = 0 by omega)]
      exact hA h0
    · rw [if_neg (show ¬ (posOf t r).val = 0 by omega), hB h0]
      have lt : t.val - 1 < cfg0.N := Nat.lt_of_le_of_lt (Nat.sub_le _ _) t.isLt
      refine (carry_at m c ⟨t.val - 1, lt⟩ j).trans ?_
      obtain ⟨d0, d1⟩ := coords_eq ⟨t.val - 1, lt⟩
      have e0 : seqOf ⟨t.val - 1, lt⟩ = seqOf t := Fin.ext (by
        show (grid0.coords ⟨t.val - 1, lt⟩ 0).val = (grid0.coords t 0).val
        rw [d0, c0]
        show (t.val - 1) / 16 = t.val / 16
        omega)
      have e1 : posOf ⟨t.val - 1, lt⟩ ⟨511, by omega⟩ = (⟨(posOf t r).val - 1, by have := (posOf t r).isLt; omega⟩ : Fin 8192) := Fin.ext (by
        show (grid0.coords ⟨t.val - 1, lt⟩ 1).val * 512 + 511 = (grid0.coords t 1).val * 512 + r.val - 1
        rw [d1, c1]
        show (t.val - 1) % 16 * 512 + 511 = t.val % 16 * 512 + r.val - 1
        omega)
      rw [e0, e1]
  · rw [if_neg hr, if_neg (show ¬ (posOf t r).val = 0 by omega)]
    refine (col_at m c t _ _).trans ?_
    have e1 : posOf t ⟨r.val - 1, by omega⟩ = (⟨(posOf t r).val - 1, by have := (posOf t r).isLt; omega⟩ : Fin 8192) := Fin.ext (by
      show (grid0.coords t 1).val * 512 + (r.val - 1) = (grid0.coords t 1).val * 512 + r.val - 1
      omega)
    rw [e1]

/-- A row carried over as it should be. -/
def Carried (c : Dev nD) (t : Fin cfg0.N) (s : FVec Ideal S1x1664 .f32) : Prop :=
  ∀ (r : Fin 512) (j : Fin 1664), prevAt (iblk m c 0 t) (iblk m c 2 t) s r j = prev m c (seqOf t) (posOf t r) j

theorem carried_first (c : Dev nD) (t : Fin cfg0.N) (h0 : t.val % 16 = 0) : Carried m c t (k0_pay10 (F := Ideal) (iblk m c 1 t)) := fun r j =>
  prev_at m c t _ r j (fun _ => (pay10_at (iblk m c 1 t) j).trans (blk_z m c t j)) (fun h => absurd h0 h)

theorem carried_next (c : Dev nD) (t : Fin cfg0.N) (h0 : ¬ t.val % 16 = 0) :
    Carried m c t ((outsAt0 m c (t.val - 1) (Nat.lt_of_le_of_lt (Nat.sub_le _ _) t.isLt)).2.2.2.2.2.2.2.2.2.2) := fun r j =>
  prev_at m c t _ r j (fun h => absurd h h0) (fun _ => rfl)

theorem mix_at (c : Dev nD) (t : Fin cfg0.N) (s : FVec Ideal S1x1664 .f32) (hs : Carried m c t s) (r : Fin 512) (j : Fin 1664) :
    mixAt (iblk m c 0 t) (iblk m c 2 t) s (iblk m c 3 t) r j = mixOf m c (seqOf t) (posOf t r) j := by
  unfold mixAt mixOf shifted
  rw [blk_mu m c t j, hs r j, col_at m c t r]
  rfl

theorem decay_at (c : Dev nD) (t : Fin cfg0.N) (s : FVec Ideal S1x1664 .f32) (hs : Carried m c t s) (r e : Fin 512) :
    k0_pay22 (F := Ideal) (k0_pay18 (F := Ideal) (k0_pay17 (F := Ideal) (iblk m c 0 t) (iblk m c 2 t) s (iblk m c 3 t)) (iblk m c 4 t) (iblk m c 5 t)) (ix3 (0 : Fin 1) r e) = decay m c (seqOf t) (posOf t r) e := by
  refine (pay22_at (iblk m c 0 t) (iblk m c 2 t) s (iblk m c 3 t) (iblk m c 4 t) (iblk m c 5 t) r e).trans ?_
  unfold decay lowRank
  rw [blk_w0 m c t e]
  simp only [mix_at m c t s hs r, blk_w2 m c t]
  rfl

theorem key_at (c : Dev nD) (t : Fin cfg0.N) (s : FVec Ideal S1x1664 .f32) (hs : Carried m c t s) (r e : Fin 512) :
    k0_pay1 (F := Ideal) (k0_pay23 (F := Ideal) (k0_pay15 (F := Ideal) (iblk m c 0 t) (iblk m c 2 t) s (iblk m c 3 t)) (k0_pay19 (F := Ideal) (k0_pay13 (F := Ideal) (iblk m c 0 t) (iblk m c 2 t) s (iblk m c 3 t)) (iblk m c 6 t) (iblk m c 7 t)) (iblk m c 9 t)) (ix3 (0 : Fin 1) r e)
      = key m c (seqOf t) (posOf t r) e := by
  refine (pay1_at (iblk m c 0 t) (iblk m c 2 t) s (iblk m c 3 t) (iblk m c 6 t) (iblk m c 9 t) (iblk m c 7 t) r e).trans ?_
  unfold key lowRank
  rw [blk_a0 m c t e, blk_ka m c t e]
  simp only [mix_at m c t s hs r, blk_a2 m c t]
  rfl

theorem first_at (c : Dev nD) (t : Fin cfg0.N) (s : FVec Ideal S1x1664 .f32) (hs : Carried m c t s) (r e : Fin 512) :
    k0_pay21 (F := Ideal) (k0_pay14 (F := Ideal) (iblk m c 0 t) (iblk m c 2 t) s (iblk m c 3 t)) (ix3 (0 : Fin 1) r e) = mixes m c 0 (seqOf t) (posOf t r) e :=
  (pay21_at (iblk m c 0 t) (iblk m c 2 t) s (iblk m c 3 t) r e).trans ((mix_at m c t s hs r _).trans (congrArg (mixOf m c (seqOf t) (posOf t r)) (Fin.ext (Nat.zero_add e.val).symm)))

theorem value_at (c : Dev nD) (t : Fin cfg0.N) (s : FVec Ideal S1x1664 .f32) (hs : Carried m c t s) (r e : Fin 512) :
    k0_pay2 (F := Ideal) (k0_pay16 (F := Ideal) (iblk m c 0 t) (iblk m c 2 t) s (iblk m c 3 t)) (ix3 (0 : Fin 1) r e) = mixes m c 1024 (seqOf t) (posOf t r) e :=
  (pay2_at (iblk m c 0 t) (iblk m c 2 t) s (iblk m c 3 t) r e).trans (mix_at m c t s hs r _)

theorem after11_at (c : Dev nD) (t : Fin cfg0.N) (r : Fin 512) (e : Fin 512) : ((outsAt0 m c t.val t.isLt).1 : FVec Ideal S1x512x512 .f32) (ix3 (0 : Fin 1) r e) = mixes m c 0 (seqOf t) (posOf t r) e := by
  by_cases h0 : t.val % 16 = 0
  · rw [outsAt0_A m c t h0]
    frame_out
    exact first_at m c t _ (carried_first m c t h0) r e
  · rw [outsAt0_B m c t h0]
    have hs := carried_next m c t h0
    generalize (outsAt0 m c (t.val - 1) (Nat.lt_of_le_of_lt (Nat.sub_le _ _) t.isLt)).2.2.2.2.2.2.2.2.2.2 = s at hs ⊢
    frame_out
    rw [read_unread_whole]
    exact first_at m c t s hs r e

theorem after12_at (c : Dev nD) (t : Fin cfg0.N) (r : Fin 512) (e : Fin 512) : ((outsAt0 m c t.val t.isLt).2.1 : FVec Ideal S1x512x512 .f32) (ix3 (0 : Fin 1) r e) = decay m c (seqOf t) (posOf t r) e := by
  by_cases h0 : t.val % 16 = 0
  · rw [outsAt0_A m c t h0]
    frame_out
    exact decay_at m c t _ (carried_first m c t h0) r e
  · rw [outsAt0_B m c t h0]
    have hs := carried_next m c t h0
    generalize (outsAt0 m c (t.val - 1) (Nat.lt_of_le_of_lt (Nat.sub_le _ _) t.isLt)).2.2.2.2.2.2.2.2.2.2 = s at hs ⊢
    frame_out
    rw [read_unread_whole]
    exact decay_at m c t s hs r e

theorem after13_at (c : Dev nD) (t : Fin cfg0.N) (r : Fin 512) (e : Fin 512) : ((outsAt0 m c t.val t.isLt).2.2.1 : FVec Ideal S1x512x512 .f32) (ix3 (0 : Fin 1) r e) = key m c (seqOf t) (posOf t r) e := by
  by_cases h0 : t.val % 16 = 0
  · rw [outsAt0_A m c t h0]
    frame_out
    exact key_at m c t _ (carried_first m c t h0) r e
  · rw [outsAt0_B m c t h0]
    have hs := carried_next m c t h0
    generalize (outsAt0 m c (t.val - 1) (Nat.lt_of_le_of_lt (Nat.sub_le _ _) t.isLt)).2.2.2.2.2.2.2.2.2.2 = s at hs ⊢
    frame_out
    rw [read_unread_whole]
    exact key_at m c t s hs r e

theorem after14_at (c : Dev nD) (t : Fin cfg0.N) (r : Fin 512) (e : Fin 512) : ((outsAt0 m c t.val t.isLt).2.2.2.1 : FVec Ideal S1x512x512 .f32) (ix3 (0 : Fin 1) r e) = mixes m c 1024 (seqOf t) (posOf t r) e := by
  by_cases h0 : t.val % 16 = 0
  · rw [outsAt0_A m c t h0]
    frame_out
    exact value_at m c t _ (carried_first m c t h0) r e
  · rw [outsAt0_B m c t h0]
    have hs := carried_next m c t h0
    generalize (outsAt0 m c (t.val - 1) (Nat.lt_of_le_of_lt (Nat.sub_le _ _) t.isLt)).2.2.2.2.2.2.2.2.2.2 = s at hs ⊢
    frame_out
    rw [read_unread_whole]
    exact value_at m c t s hs r e

theorem after17_at (c : Dev nD) (t : Fin cfg0.N) (r : Fin 512) (e : Fin 512) : ((outsAt0 m c t.val t.isLt).2.2.2.2.2.2.1 : FVec Ideal S1x512x512 .f32) (ix3 (0 : Fin 1) r e) = cols m c 1664 (seqOf t) (posOf t r) e := by
  by_cases h0 : t.val % 16 = 0
  · rw [outsAt0_A m c t h0]
    frame_out
    exact (pay5_at (iblk m c 0 t) (iblk m c 2 t) r e).trans (col_at m c t r _)
  · rw [outsAt0_B m c t h0]
    frame_out
    exact (pay5_at (iblk m c 0 t) (iblk m c 2 t) r e).trans (col_at m c t r _)

theorem after18_at (c : Dev nD) (t : Fin cfg0.N) (r : Fin 512) (e : Fin 512) : ((outsAt0 m c t.val t.isLt).2.2.2.2.2.2.2.1 : FVec Ideal S1x512x512 .f32) (ix3 (0 : Fin 1) r e) = cols m c 2176 (seqOf t) (posOf t r) e := by
  by_cases h0 : t.val % 16 = 0
  · rw [outsAt0_A m c t h0]
    frame_out
    exact (pay6_at (iblk m c 0 t) (iblk m c 2 t) r e).trans (col_at m c t r _)
  · rw [outsAt0_B m c t h0]
    frame_out
    exact (pay6_at (iblk m c 0 t) (iblk m c 2 t) r e).trans (col_at m c t r _)

theorem after19_at (c : Dev nD) (t : Fin cfg0.N) (r : Fin 512) (e : Fin 512) : ((outsAt0 m c t.val t.isLt).2.2.2.2.2.2.2.2.1 : FVec Ideal S1x512x512 .f32) (ix3 (0 : Fin 1) r e) = cols m c 2688 (seqOf t) (posOf t r) e := by
  by_cases h0 : t.val % 16 = 0
  · rw [outsAt0_A m c t h0]
    frame_out
    exact (pay7_at (iblk m c 0 t) (iblk m c 2 t) r e).trans (col_at m c t r _)
  · rw [outsAt0_B m c t h0]
    frame_out
    exact (pay7_at (iblk m c 0 t) (iblk m c 2 t) r e).trans (col_at m c t r _)

theorem after20_at (c : Dev nD) (t : Fin cfg0.N) (j : Fin 1664) : ((outsAt0 m c t.val t.isLt).2.2.2.2.2.2.2.2.2.1 : FVec Ideal S1x1x1664 .f32) (ix3 (0 : Fin 1) (0 : Fin 1) j)
    = colOf m c (seqOf t) (posOf t ⟨511, by omega⟩) ⟨j.val, by omega⟩ := by
  by_cases h0 : t.val % 16 = 0
  · rw [outsAt0_A m c t h0]
    frame_out
    exact (pay12_at (iblk m c 0 t) (iblk m c 2 t) j).trans (col_at m c t _ _)
  · rw [outsAt0_B m c t h0]
    frame_out
    exact (pay12_at (iblk m c 0 t) (iblk m c 2 t) j).trans (col_at m c t _ _)

end Cert.Kernel7Ideal.Shift

end
-- ==== Proof.ShiftArray.lean ====
/- Eight of the arrays the first layer's projections kernel for the prompt leaves, over the arguments. -/
module

public import proofs.«01_k».proof.Proof.ShiftOut

@[expose] public section

set_option maxRecDepth 16384

noncomputable section

namespace Cert.Kernel7Ideal.Shift

open Idealize.ShloMosaic Idealize.ShloMosaic.TcCoe Idealize.ShloMosaic.Tactic
open Idealize.SL.Sem
open Cert.Even Cert.Kernel7Ideal Cert.Kernel7Ideal.Gen

variable (m : (ℓ : Loc nD τ sig) → Buf (Elt Ideal) ℓ)

/-- An index of a block of one sequence's rows. -/
theorem at_row {n : ℕ} (y : (⟨3, ![1, 512, n]⟩ : Shape).Idx) : y = ix3 (0 : Fin 1) (y 1) (y 2) :=
  (eq_ix3 y).trans (congrArg (fun z : Fin 1 => ix3 z (y 1) (y 2)) (Subsingleton.elim (α := Fin 1) _ _))

/-- A function of a sequence, a position and a column at equal indices. -/
theorem at_cell {w : ℕ} {f : Fin 4 → Fin 8192 → Fin w → EReal} {a a' : Fin 4} {b b' : Fin 8192} {d d' : Fin w} (ha : a.val = a'.val) (hb : b.val = b'.val)
    (hd : d.val = d'.val) : f a b d = f a' b' d' := by
  cases Fin.ext ha
  cases Fin.ext hb
  cases Fin.ext hd
  rfl

/-- An index of a block of one row. -/
theorem at_one (y : (⟨3, ![1, 1, 1664]⟩ : Shape).Idx) : y = ix3 (0 : Fin 1) (0 : Fin 1) (y 2) :=
  (eq_ix3 y).trans (congrArg₂ (fun z z' : Fin 1 => (ix3 z z' (y 2) : (⟨3, ![1, 1, 1664]⟩ : Shape).Idx)) (Subsingleton.elim (α := Fin 1) (y 0) 0)
    (Subsingleton.elim (α := Fin 1) (y 1) 0))

/-- A function of a sequence and a column at equal indices. -/
theorem at_pair {w : ℕ} {f : Fin 4 → Fin w → EReal} {a a' : Fin 4} {d d' : Fin w} (ha : a.val = a'.val) (hd : d.val = d'.val) : f a d = f a' d' := by
  cases Fin.ext ha
  cases Fin.ext hd
  rfl

theorem final11 (c : Dev nD) : (dats m 0 c).arrAt 11 cfg0.N = (fun y => mixes m c 0 (y 0) (y 1) (y 2) : S4x8192x512.Idx → EReal) := by
  refine (dats m 0 c).arrAt_eq_of_covers 11 _ (by decide +kernel) fun t _ y => ?_
  blk_simp
  rw [after0_11]
  refine (congrArg _ (at_row y)).trans ((after11_at m c t (y 1) (y 2)).trans (at_cell (f := fun n t e => mixes m c 0 n t e) ?_ ?_ ?_)) <;> blk_simp [idx t, seqOf, posOf]

theorem final12 (c : Dev nD) : (dats m 0 c).arrAt 12 cfg0.N = (fun y => decay m c (y 0) (y 1) (y 2) : S4x8192x512.Idx → EReal) := by
  refine (dats m 0 c).arrAt_eq_of_covers 12 _ (by decide +kernel) fun t _ y => ?_
  blk_simp
  rw [after0_12]
  refine (congrArg _ (at_row y)).trans ((after12_at m c t (y 1) (y 2)).trans (at_cell (f := fun n t e => decay m c n t e) ?_ ?_ ?_)) <;> blk_simp [idx t, seqOf, posOf]

theorem final13 (c : Dev nD) : (dats m 0 c).arrAt 13 cfg0.N = (fun y => key m c (y 0) (y 1) (y 2) : S4x8192x512.Idx → EReal) := by
  refine (dats m 0 c).arrAt_eq_of_covers 13 _ (by decide +kernel) fun t _ y => ?_
  blk_simp
  rw [after0_13]
  refine (congrArg _ (at_row y)).trans ((after13_at m c t (y 1) (y 2)).trans (at_cell (f := fun n t e => key m c n t e) ?_ ?_ ?_)) <;> blk_simp [idx t, seqOf, posOf]

theorem final14 (c : Dev nD) : (dats m 0 c).arrAt 14 cfg0.N = (fun y => mixes m c 1024 (y 0) (y 1) (y 2) : S4x8192x512.Idx → EReal) := by
  refine (dats m 0 c).arrAt_eq_of_covers 14 _ (by decide +kernel) fun t _ y => ?_
  blk_simp
  rw [after0_14]
  refine (congrArg _ (at_row y)).trans ((after14_at m c t (y 1) (y 2)).trans (at_cell (f := fun n t e => mixes m c 1024 n t e) ?_ ?_ ?_)) <;> blk_simp [idx t, seqOf, posOf]

theorem final17 (c : Dev nD) : (dats m 0 c).arrAt 17 cfg0.N = (fun y => cols m c 1664 (y 0) (y 1) (y 2) : S4x8192x512.Idx → EReal) := by
  refine (dats m 0 c).arrAt_eq_of_covers 17 _ (by decide +kernel) fun t _ y => ?_
  blk_simp
  rw [after0_17]
  refine (congrArg _ (at_row y)).trans ((after17_at m c t (y 1) (y 2)).trans (at_cell (f := fun n t e => cols m c 1664 n t e) ?_ ?_ ?_)) <;> blk_simp [idx t, seqOf, posOf]

theorem final18 (c : Dev nD) : (dats m 0 c).arrAt 18 cfg0.N = (fun y => cols m c 2176 (y 0) (y 1) (y 2) : S4x8192x512.Idx → EReal) := by
  refine (dats m 0 c).arrAt_eq_of_covers 18 _ (by decide +kernel) fun t _ y => ?_
  blk_simp
  rw [after0_18]
  refine (congrArg _ (at_row y)).trans ((after18_at m c t (y 1) (y 2)).trans (at_cell (f := fun n t e => cols m c 2176 n t e) ?_ ?_ ?_)) <;> blk_simp [idx t, seqOf, posOf]

theorem final19 (c : Dev nD) : (dats m 0 c).arrAt 19 cfg0.N = (fun y => cols m c 2688 (y 0) (y 1) (y 2) : S4x8192x512.Idx → EReal) := by
  refine (dats m 0 c).arrAt_eq_of_covers 19 _ (by decide +kernel) fun t _ y => ?_
  blk_simp
  rw [after0_19]
  refine (congrArg _ (at_row y)).trans ((after19_at m c t (y 1) (y 2)).trans (at_cell (f := fun n t e => cols m c 2688 n t e) ?_ ?_ ?_)) <;> blk_simp [idx t, seqOf, posOf]

/-- The last row's array is written at a sequence's last block. -/
theorem flush_last : ∀ t : Fin cfg0.N, (cfg0.win 20).flush t = true → t.val % 16 = 15 :=
  (by decide +kernel : ∀ t : Fin grid0.N, _)

theorem final20 (c : Dev nD) : (dats m 0 c).arrAt 20 cfg0.N = (fun y => last m c (y 0) (y 2) : S4x1x1664.Idx → EReal) := by
  refine (dats m 0 c).arrAt_eq_of_covers 20 _ (by decide +kernel) fun t hf y => ?_
  have h15 := flush_last t hf
  have c1 := (coords_eq t).2
  blk_simp
  rw [after0_20]
  have e1 : posOf t ⟨511, by omega⟩ = (⟨8191, by omega⟩ : Fin 8192) := Fin.ext (by
    show (grid0.coords t 1).val * 512 + 511 = 8191
    omega)
  refine (congrArg _ (at_one y)).trans ((after20_at m c t (y 2)).trans ?_)
  rw [e1]
  refine at_pair (f := fun n e => last m c n e) ?_ ?_ <;> blk_simp [idx t, seqOf]

end Cert.Kernel7Ideal.Shift

end
-- ==== Proof.ShiftReference.lean ====
/- The reference of the first layer's projections for the prompt, read at an index. -/
module

public import proofs.«01_k».proof.Proof.EvenPay
public import proofs.«01_k».proof.Proof.Gen.Reference7Ideal.Read
public import Idealize.ShloMosaic.Lib.Pointwise

@[expose] public section

set_option maxRecDepth 16384

noncomputable section

namespace Cert.Reference7Ideal.Shift

open Idealize.ShloMosaic Idealize.ShloMosaic.TcCoe Idealize.ShloMosaic.Tactic
open Idealize.SL.Sem
open Cert.Even Cert.Decay Cert.Reference7Ideal Cert.Reference7Ideal.Gen Cert.Reference7Ideal.Read

variable (x0 : FVec Ideal S4x8192x1024 .f32) (x1 : FVec Ideal S1024x3200 .f32) (x2 : FVec Ideal S1664 .f32)
  (x3 x5 x8 : FVec Ideal S512 .f32) (x4 x6 : FVec Ideal S64x512 .f32)

/-- One column of the projection of a position. -/
abbrev colOf (n : Fin 4) (t : Fin 8192) (j : Fin 3200) : EReal := col (fun k => x0 (ix3 n t k)) (fun k j => x1 (ix2 k j)) j

/-- One of the first columns of the position before: zero before a sequence's first one. -/
abbrev prev (n : Fin 4) (t : Fin 8192) (j : Fin 1664) : EReal := if t.val = 0 then 0 else colOf x0 x1 n ⟨t.val - 1, by omega⟩ ⟨j.val, by omega⟩

/-- One mixed column of a position. -/
abbrev mixOf (n : Fin 4) (t : Fin 8192) (j : Fin 1664) : EReal :=
  shifted (fun k => x0 (ix3 n t k)) (prev x0 x1 n t) (fun k j => x1 (ix2 k j)) (fun j => x2 (ix1 j)) j

variable (n : Fin 4) (t : Fin 8192)

theorem v0_at (j : Fin 3200) : val_main_v0 (F := Ideal) x0 x1 (ix3 n t j) = colOf x0 x1 n t j := by
  pointwise [val_main_v0]
  rfl

theorem v1_at (j : Fin 1664) : val_main_v1 (F := Ideal) x0 x1 (ix3 n t j) = colOf x0 x1 n t ⟨j.val, by omega⟩ := by
  pointwise [val_main_v1, v0_at]

theorem v7_at (j : Fin 1664) : val_main_v7 (F := Ideal) x0 x1 (ix3 n t j) = prev x0 x1 n t j := by
  pointwise [val_main_v7, val_main_v6, val_main_v5, val_main_cst, v1_at]
  by_cases h : t.val = 0
  · rw [dif_pos (show t.val < 1 by omega)]
    exact (if_pos h).symm
  · rw [dif_neg (show ¬ t.val < 1 by omega)]
    exact (if_neg h).symm

theorem v48_at (a : Fin 1) (j : Fin 1664) : val_main_v48 (F := Ideal) x0 x1 (ix3 n a j) = colOf x0 x1 n ⟨8191, by omega⟩ ⟨j.val, by omega⟩ := by
  obtain rfl : a = 0 := Subsingleton.elim _ _
  pointwise [val_main_v48, v1_at]

theorem v2_at (e : Fin 512) : val_main_v2 (F := Ideal) x0 x1 (ix3 n t e) = colOf x0 x1 n t ⟨1664 + e.val, by omega⟩ := by
  pointwise [val_main_v2, v0_at]

theorem v3_at (e : Fin 512) : val_main_v3 (F := Ideal) x0 x1 (ix3 n t e) = colOf x0 x1 n t ⟨2176 + e.val, by omega⟩ := by
  pointwise [val_main_v3, v0_at]

theorem v4_at (e : Fin 512) : val_main_v4 (F := Ideal) x0 x1 (ix3 n t e) = colOf x0 x1 n t ⟨2688 + e.val, by omega⟩ := by
  pointwise [val_main_v4, v0_at]

theorem v12_at (j : Fin 1664) : val_main_v12 (F := Ideal) x0 x1 x2 (ix3 n t j) = mixOf x0 x1 x2 n t j := by
  pointwise [val_main_v12, val_main_v11, val_main_v10, val_main_v9, val_main_v8, v7_at, v1_at]
  rfl

theorem v13_at (e : Fin 512) : val_main_v13 (F := Ideal) x0 x1 x2 (ix3 n t e) = mixOf x0 x1 x2 n t ⟨0 + e.val, by omega⟩ := by
  pointwise [val_main_v13, v12_at]

theorem v14_at (e : Fin 512) : val_main_v14 (F := Ideal) x0 x1 x2 (ix3 n t e) = mixOf x0 x1 x2 n t ⟨512 + e.val, by omega⟩ := by
  pointwise [val_main_v14, v12_at]

theorem v15_at (e : Fin 512) : val_main_v15 (F := Ideal) x0 x1 x2 (ix3 n t e) = mixOf x0 x1 x2 n t ⟨1024 + e.val, by omega⟩ := by
  pointwise [val_main_v15, v12_at]

theorem v23_at (e : Fin 512) : val_main_v23 (F := Ideal) x0 x1 x2 x3 x4 (ix3 n t e)
    = -(lowRank (fun l => Ideal.tanh (mixOf x0 x1 x2 n t ⟨1536 + l.val, by omega⟩)) (fun l e => x4 (ix2 l e)) (fun e => x3 (ix1 e)) e) := by
  pointwise [val_main_v23, val_main_v22, val_main_v21, val_main_v20, val_main_v19, val_main_v18, val_main_v16, v12_at]
  rfl

theorem v47_at (e : Fin 512) : val_main_v47 (F := Ideal) x0 x1 x2 x3 x4 (ix3 n t e)
    = decayLog (lowRank (fun l => Ideal.tanh (mixOf x0 x1 x2 n t ⟨1536 + l.val, by omega⟩)) (fun l e => x4 (ix2 l e)) (fun e => x3 (ix1 e)) e) := by
  pointwise [val_main_v47, val_main_v46, val_main_v27, val_main_v26, val_main_cst_0, val_main_v25, val_main_v24, val_main_call0_v4, val_main_call0_v6, val_main_call0_v11,
    val_main_call0_v10, val_main_call0_v9, val_main_call0_v8, val_main_call0_v7, val_main_call0_v3, val_main_call0_v2,
    val_main_call0_v1, val_main_call0_v0, val_main_call0_v5, val_main_call0_cst, v23_at]
  simp only [ne_eq, not_true_eq_false, if_false]
  rfl

theorem v37_at (e : Fin 512) : val_main_v37 (F := Ideal) x0 x1 x2 x5 x6 (ix3 n t e)
    = gate (lowRank (fun l => mixOf x0 x1 x2 n t ⟨1600 + l.val, by omega⟩) (fun l e => x6 (ix2 l e)) (fun e => x5 (ix1 e)) e) := by
  pointwise [val_main_v37, val_main_v36, val_main_v35, val_main_v34, val_main_v33, val_main_v32, val_main_v31, val_main_v30, val_main_v29, val_main_v28, val_main_v17, val_main_cst_1, val_main_cst_2, v12_at]
  rfl

theorem v45_at (e : Fin 512) : val_main_v45 (F := Ideal) x0 x1 x2 x5 x6 x8 (ix3 n t e)
    = scaledKey (mixOf x0 x1 x2 n t ⟨512 + e.val, by omega⟩)
      (gate (lowRank (fun l => mixOf x0 x1 x2 n t ⟨1600 + l.val, by omega⟩) (fun l e => x6 (ix2 l e)) (fun e => x5 (ix1 e)) e)) (x8 (ix1 e)) := by
  pointwise [val_main_v45, val_main_v44, val_main_v43, val_main_v42, val_main_v41, val_main_v40, val_main_v39, val_main_v38, val_main_cst_3, val_main_cst_4, v37_at, v14_at]
  rfl

end Cert.Reference7Ideal.Shift

end
-- ==== Proof.Shift.lean ====
/- The claims of the first layer's projections for the prompt: eight of the kernel's arrays are the reference's eight results. -/
module

public import proofs.«01_k».proof.Defs
public import proofs.«01_k».proof.Proof.Gen.Kernel7Ideal
public import proofs.«01_k».proof.Proof.Gen.Reference7Ideal
public import proofs.«01_k».proof.Proof.Gen.Reference7Ideal.Run
public import proofs.«01_k».proof.Proof.Gen.Kernel7Ideal.Value
public import proofs.«01_k».proof.Proof.ShiftArray
public import proofs.«01_k».proof.Proof.ShiftReference
public import Idealize.ShloMosaic.Lib.Quiescent
public import Idealize.ShloMosaic.Adequacy
public import Idealize.ShloMosaic.Init

@[expose] public section

set_option maxRecDepth 16384

noncomputable section

namespace Cert.Shift

open Idealize.ShloMosaic Idealize.ShloMosaic.TcCoe Idealize.ShloMosaic.Tactic Idealize.SL.Sem

/-- The reference's frame: it uses no semaphore. -/
theorem frame_reference : Cert.quiescent_Reference7Ideal (hReference7Ideal := Cert.Reference7Ideal.Gen.facts) := fun m ρ _ =>
  (θ_run Cert.Reference7Ideal.defs _ _).mono (fun r h => ⟨fun c => (h c).2.2.2.2.2.2.2.2, Idealize.ShloMosaic.sem_eq_zero_of_no_sems (by decide) r.2⟩)
    (Cert.Reference7Ideal.Value.run (F := Ideal) m ρ)

variable (m : (ℓ : Loc Cert.Kernel7Ideal.nD Cert.Kernel7Ideal.τ Cert.Kernel7Ideal.sig) → Buf (Elt Ideal) ℓ)
  (m' : (ℓ : Loc Cert.Reference7Ideal.nD Cert.Reference7Ideal.τ Cert.Reference7Ideal.sig) → Buf (Elt Ideal) ℓ) (c : Dev Cert.Kernel7Ideal.nD)

/-- The two memories hold the same arguments. -/
def Agree : Prop :=
  m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
    ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
    ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
    ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
    ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
    ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
    ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
    ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
    ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)

variable {m m' c}

open Cert.Kernel7Ideal.Shift

theorem end_v13 (h : Agree m m' c) :
    (Cert.Reference7Ideal.Read.val_main_v13 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) : Cert.Reference7Ideal.S4x8192x512.Idx → EReal) = (fun y => mixes m c 0 (y 0) (y 1) (y 2) : Cert.Reference7Ideal.S4x8192x512.Idx → EReal) := by
  obtain ⟨e0, e1, e2, e3, e4, e5, e6, e7, e8⟩ := h
  rw [e0, e1, e2]
  funext y
  exact (congrArg _ (eq_ix3 y)).trans (Cert.Reference7Ideal.Shift.v13_at _ _ _ (y 0) (y 1) (y 2))

theorem end_v47 (h : Agree m m' c) :
    (Cert.Reference7Ideal.Read.val_main_v47 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) : Cert.Reference7Ideal.S4x8192x512.Idx → EReal) = (fun y => decay m c (y 0) (y 1) (y 2) : Cert.Reference7Ideal.S4x8192x512.Idx → EReal) := by
  obtain ⟨e0, e1, e2, e3, e4, e5, e6, e7, e8⟩ := h
  rw [e0, e1, e2, e3, e4]
  funext y
  exact (congrArg _ (eq_ix3 y)).trans (Cert.Reference7Ideal.Shift.v47_at _ _ _ _ _ (y 0) (y 1) (y 2))

theorem end_v45 (h : Agree m m' c) :
    (Cert.Reference7Ideal.Read.val_main_v45 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg8)) : Cert.Reference7Ideal.S4x8192x512.Idx → EReal) = (fun y => key m c (y 0) (y 1) (y 2) : Cert.Reference7Ideal.S4x8192x512.Idx → EReal) := by
  obtain ⟨e0, e1, e2, e3, e4, e5, e6, e7, e8⟩ := h
  rw [e0, e1, e2, e5, e6, e8]
  funext y
  exact (congrArg _ (eq_ix3 y)).trans (Cert.Reference7Ideal.Shift.v45_at _ _ _ _ _ _ (y 0) (y 1) (y 2))

theorem end_v15 (h : Agree m m' c) :
    (Cert.Reference7Ideal.Read.val_main_v15 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) : Cert.Reference7Ideal.S4x8192x512.Idx → EReal) = (fun y => mixes m c 1024 (y 0) (y 1) (y 2) : Cert.Reference7Ideal.S4x8192x512.Idx → EReal) := by
  obtain ⟨e0, e1, e2, e3, e4, e5, e6, e7, e8⟩ := h
  rw [e0, e1, e2]
  funext y
  exact (congrArg _ (eq_ix3 y)).trans (Cert.Reference7Ideal.Shift.v15_at _ _ _ (y 0) (y 1) (y 2))

theorem end_v2 (h : Agree m m' c) :
    (Cert.Reference7Ideal.Read.val_main_v2 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) : Cert.Reference7Ideal.S4x8192x512.Idx → EReal) = (fun y => cols m c 1664 (y 0) (y 1) (y 2) : Cert.Reference7Ideal.S4x8192x512.Idx → EReal) := by
  obtain ⟨e0, e1, e2, e3, e4, e5, e6, e7, e8⟩ := h
  rw [e0, e1]
  funext y
  exact (congrArg _ (eq_ix3 y)).trans (Cert.Reference7Ideal.Shift.v2_at _ _ (y 0) (y 1) (y 2))

theorem end_v3 (h : Agree m m' c) :
    (Cert.Reference7Ideal.Read.val_main_v3 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) : Cert.Reference7Ideal.S4x8192x512.Idx → EReal) = (fun y => cols m c 2176 (y 0) (y 1) (y 2) : Cert.Reference7Ideal.S4x8192x512.Idx → EReal) := by
  obtain ⟨e0, e1, e2, e3, e4, e5, e6, e7, e8⟩ := h
  rw [e0, e1]
  funext y
  exact (congrArg _ (eq_ix3 y)).trans (Cert.Reference7Ideal.Shift.v3_at _ _ (y 0) (y 1) (y 2))

theorem end_v4 (h : Agree m m' c) :
    (Cert.Reference7Ideal.Read.val_main_v4 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) : Cert.Reference7Ideal.S4x8192x512.Idx → EReal) = (fun y => cols m c 2688 (y 0) (y 1) (y 2) : Cert.Reference7Ideal.S4x8192x512.Idx → EReal) := by
  obtain ⟨e0, e1, e2, e3, e4, e5, e6, e7, e8⟩ := h
  rw [e0, e1]
  funext y
  exact (congrArg _ (eq_ix3 y)).trans (Cert.Reference7Ideal.Shift.v4_at _ _ (y 0) (y 1) (y 2))

theorem end_v48 (h : Agree m m' c) :
    (Cert.Reference7Ideal.Read.val_main_v48 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) : Cert.Reference7Ideal.S4x1x1664.Idx → EReal) = (fun y => last m c (y 0) (y 2) : Cert.Reference7Ideal.S4x1x1664.Idx → EReal) := by
  obtain ⟨e0, e1, e2, e3, e4, e5, e6, e7, e8⟩ := h
  rw [e0, e1]
  funext y
  exact (congrArg _ (eq_ix3 y)).trans (Cert.Reference7Ideal.Shift.v48_at _ _ (y 0) (y 1) (y 2))

/-- Both programs end with the mixed projections, the decays, the keys, the gates and the last position's shift. -/
theorem algebraic : Cert.algebraic_Kernel7Ideal_Reference7Ideal (hKernel7Ideal := Cert.Kernel7Ideal.Gen.facts)
    (hReference7Ideal := Cert.Reference7Ideal.Gen.facts) := by
  intro m g m' g' hpre hargs
  refine ⟨fun c => (Cert.Kernel7Ideal.Gen.dats m 0 c).arrAt 11 Cert.Kernel7Ideal.cfg0.N,
    fun c => (Cert.Kernel7Ideal.Gen.dats m 0 c).arrAt 12 Cert.Kernel7Ideal.cfg0.N,
    fun c => (Cert.Kernel7Ideal.Gen.dats m 0 c).arrAt 13 Cert.Kernel7Ideal.cfg0.N,
    fun c => (Cert.Kernel7Ideal.Gen.dats m 0 c).arrAt 14 Cert.Kernel7Ideal.cfg0.N,
    fun c => (Cert.Kernel7Ideal.Gen.dats m 0 c).arrAt 17 Cert.Kernel7Ideal.cfg0.N,
    fun c => (Cert.Kernel7Ideal.Gen.dats m 0 c).arrAt 18 Cert.Kernel7Ideal.cfg0.N,
    fun c => (Cert.Kernel7Ideal.Gen.dats m 0 c).arrAt 19 Cert.Kernel7Ideal.cfg0.N,
    fun c => (Cert.Kernel7Ideal.Gen.dats m 0 c).arrAt 20 Cert.Kernel7Ideal.cfg0.N,
    (θ_run Cert.Kernel7Ideal.defs _ _).mono (fun r H c => ⟨(H c).1, (H c).2.1, (H c).2.2.1, (H c).2.2.2.1, (H c).2.2.2.2.2.2.1, (H c).2.2.2.2.2.2.2.1, (H c).2.2.2.2.2.2.2.2.1, (H c).2.2.2.2.2.2.2.2.2.1, (H c).2.2.2.2.2.2.2.2.2.2⟩) (Cert.Kernel7Ideal.Value.run_blocks m g), ?_⟩
  refine (θ_run Cert.Reference7Ideal.defs _ _).mono (fun r h c => ?_) (Cert.Reference7Ideal.Value.run (F := Ideal) m' g')
  have H := h c
  have a : Agree m m' c := hargs c
  exact ⟨(H.1.trans (Cert.Reference7Ideal.Read.val_main_v13_eq _ _ _)).trans ((end_v13 a).trans (final11 m c).symm),
    (H.2.1.trans (Cert.Reference7Ideal.Read.val_main_v47_eq m' c)).trans ((end_v47 a).trans (final12 m c).symm),
    (H.2.2.1.trans (Cert.Reference7Ideal.Read.val_main_v45_eq _ _ _ _ _ _)).trans ((end_v45 a).trans (final13 m c).symm),
    (H.2.2.2.1.trans (Cert.Reference7Ideal.Read.val_main_v15_eq _ _ _)).trans ((end_v15 a).trans (final14 m c).symm),
    (H.2.2.2.2.1.trans (Cert.Reference7Ideal.Read.val_main_v2_eq _ _)).trans ((end_v2 a).trans (final17 m c).symm),
    (H.2.2.2.2.2.1.trans (Cert.Reference7Ideal.Read.val_main_v3_eq _ _)).trans ((end_v3 a).trans (final18 m c).symm),
    (H.2.2.2.2.2.2.1.trans (Cert.Reference7Ideal.Read.val_main_v4_eq _ _)).trans ((end_v4 a).trans (final19 m c).symm),
    (H.2.2.2.2.2.2.2.1.trans (Cert.Reference7Ideal.Read.val_main_v48_eq _ _)).trans ((end_v48 a).trans (final20 m c).symm),
    H.2.2.2.2.2.2.2.2⟩

end Cert.Shift

end
-- ==== Proof.Tile.lean ====
/- One head's arithmetic on one tile of 256 queries by 256 keys, as the kernel does it: the scores, their softplus, the
   sums of it over the later keys of the tile (a product with a triangle of ones), and the two updates that a tile makes to
   the head's sums. Each is read at a place over the extended reals, and the updates are shown to extend the sums of
   `Cert.Sb` by one tile. -/
module

public import proofs.«01_k».proof.Proof.Math
public import proofs.«01_k».proof.Proof.Gen.KernelIdeal
public import Idealize.ShloMosaic.Lib.Pipeline.ValueKit
public import Idealize.ShloMosaic.Lib.Pointwise
public import Idealize.ShloMosaic.Lib.FinSumWindow
public import Idealize.ShloMosaic.Rules

@[expose] public section

set_option maxRecDepth 16384

noncomputable section

namespace Cert.KernelIdeal.Sb

open Idealize.ShloMosaic Idealize.ShloMosaic.TcCoe Idealize.ShloMosaic.Tactic
open Idealize.SL.Sem
open Cert.Sb Cert.KernelIdeal.Gen

section Vectors
variable {F : FTy → Type} [FloatOps F] [Named F]

/-- The scores of a tile: queries times keys, and the head's bias. -/
def scoreV (q : FVec F S256x128 .bf16) (b : FVec F S1x1 .f32) (k : FVec F S256x128 .bf16) : FVec F S256x256 .f32 :=
  addf (matmul dot_S256x128_S256x128_S256x256_1_1_0_0_n_n none q k (constant S256x256 .f32 0x00000000#32))
    (broadcastTo S256x256 b broadcasts_S1x1_S256x256)

/-- The softplus of the scores, through a base-2 exponential. -/
def spV (z : FVec F S256x256 .f32) : FVec F S256x256 .f32 :=
  addf (maximumf z (broadcast S256x256 (Scalar.ofBits .f32 0x00000000#32)))
    (log (addf (broadcast S256x256 (Scalar.ofBits .f32 0x3F800000#32))
      (exp2 (mulf (absf z) (broadcast S256x256 (Named.named κ "neg_log2e" 0xBFB8AA3B#32))))))

/-- The places of `x` where `m` holds, zero elsewhere. -/
def onlyV (m : IVec S256x256 1) (x : FVec F S256x256 .f32) : FVec F S256x256 .f32 :=
  select m x (broadcast S256x256 (Scalar.ofBits .f32 0x00000000#32))

/-- Sums over the keys of the tile, by a product with the matrix `u`. -/
def inclV (s : FVec F S256x256 .f32) (u : FVec F S256x256 .bf16) : FVec F S256x256 .f32 :=
  matmul dot_S256x256_S256x256_S256x256_1_0_0_1_n_n none (truncf .bf16 s bitsLt_bf16_f32) u (constant S256x256 .f32 0x00000000#32)

/-- Weights times values. -/
def mixV (a : FVec F S256x256 .f32) (v : FVec F S256x128 .bf16) : FVec F S256x128 .f32 :=
  matmul dot_S256x256_S256x128_S256x128_1_0_0_1_n_n none (truncf .bf16 a bitsLt_bf16_f32) v (constant S256x128 .f32 0x00000000#32)

/-- A later tile's update of the head's output sum. -/
def tripAcc (v : FVec F S256x128 .bf16) (z incl : FVec F S256x256 .f32) (run : FVec F S256x1 .f32) (acc : FVec F S256x128 .f32) :
    FVec F S256x128 .f32 :=
  addf acc (mixV (exp (subf (subf z incl) (broadcastTo S256x256 run broadcasts_S256x1_S256x256))) v)

/-- A tile's sum of the softplus: its column 0 holds the sum over all the keys of the tile. -/
def diagRun (incl : FVec F S256x256 .f32) : FVec F S256x1 .f32 :=
  extractStridedSlice S256x1 ![0, 0] incl slices_S256x256_o0_0_S256x1

/-- A later tile's update of the head's sum of the softplus. -/
def tripRun (incl : FVec F S256x256 .f32) (run : FVec F S256x1 .f32) : FVec F S256x1 .f32 :=
  addf run (diagRun incl)

/-- The diagonal tile's output sum. -/
def diagAcc (m : IVec S256x256 1) (v : FVec F S256x128 .bf16) (z incl : FVec F S256x256 .f32) : FVec F S256x128 .f32 :=
  mixV (onlyV m (exp (subf z incl))) v

end Vectors

/-! ### Read at a place, over the extended reals -/

theorem scoreV_at (q : FVec Ideal S256x128 .bf16) (b : FVec Ideal S1x1 .f32) (k : FVec Ideal S256x128 .bf16) (r c : Fin 256) :
    scoreV q b k (ix2 r c) = (∑ l : Fin 128, q (ix2 r l) * k (ix2 c l)) + b (ix2 (0 : Fin 1) (0 : Fin 1)) := by
  pointwise [scoreV]

theorem spV_at (z : FVec Ideal S256x256 .f32) (r c : Fin 256) (x : ℝ) (hz : z (ix2 r c) = (x : EReal)) :
    spV z (ix2 r c) = ((sp x : ℝ) : EReal) := by
  have h : (Named.named (F := Ideal) (φ := .f32) κ "neg_log2e" 0xBFB8AA3B#32 : EReal) = ((-((Real.log 2)⁻¹) : ℝ) : EReal) :=
    IdealRules.named_const.ideal_named_scalar _ _ _ _ rfl
  rw [← kernel_sp x, ← hz, ← h]
  pointwise [spV]
  rfl

theorem onlyV_at (m : IVec S256x256 1) (x : FVec Ideal S256x256 .f32) (r c : Fin 256) :
    onlyV m x (ix2 r c) = if m (ix2 r c) = 1#1 then x (ix2 r c) else 0 := by
  pointwise [onlyV]
  rfl

theorem inclV_at (s : FVec Ideal S256x256 .f32) (u : FVec Ideal S256x256 .bf16) (r c : Fin 256) :
    inclV s u (ix2 r c) = ∑ k : Fin 256, s (ix2 r k) * u (ix2 k c) := by
  pointwise [inclV]

theorem mixV_at (a : FVec Ideal S256x256 .f32) (v : FVec Ideal S256x128 .bf16) (r : Fin 256) (l : Fin 128) :
    mixV a v (ix2 r l) = ∑ c : Fin 256, a (ix2 r c) * v (ix2 c l) := by
  pointwise [mixV]

theorem diagRun_at (incl : FVec Ideal S256x256 .f32) (r : Fin 256) :
    diagRun incl (ix2 r (0 : Fin 1)) = incl (ix2 r (0 : Fin 256)) := by
  pointwise [diagRun]

theorem tripRun_at (incl : FVec Ideal S256x256 .f32) (run : FVec Ideal S256x1 .f32) (r : Fin 256) :
    tripRun incl run (ix2 r (0 : Fin 1)) = run (ix2 r (0 : Fin 1)) + incl (ix2 r (0 : Fin 256)) := by
  pointwise [tripRun, diagRun]

theorem expV_at (z incl : FVec Ideal S256x256 .f32) (r c : Fin 256) :
    exp (subf z incl) (ix2 r c) = Ideal.exp (z (ix2 r c) - incl (ix2 r c)) := by
  pointwise

theorem expRunV_at (z incl : FVec Ideal S256x256 .f32) (run : FVec Ideal S256x1 .f32) (r c : Fin 256) :
    exp (subf (subf z incl) (broadcastTo S256x256 run broadcasts_S256x1_S256x256)) (ix2 r c)
      = Ideal.exp (z (ix2 r c) - incl (ix2 r c) - run (ix2 r (0 : Fin 1))) := by
  pointwise

theorem tripAcc_at (v : FVec Ideal S256x128 .bf16) (z incl : FVec Ideal S256x256 .f32) (run : FVec Ideal S256x1 .f32)
    (acc : FVec Ideal S256x128 .f32) (r : Fin 256) (l : Fin 128) :
    tripAcc v z incl run acc (ix2 r l)
      = acc (ix2 r l) + ∑ c : Fin 256, Ideal.exp (z (ix2 r c) - incl (ix2 r c) - run (ix2 r (0 : Fin 1))) * v (ix2 c l) := by
  show acc (ix2 r l) + mixV _ v (ix2 r l) = _
  rw [mixV_at]
  simp only [expRunV_at]

theorem diagAcc_at (m : IVec S256x256 1) (v : FVec Ideal S256x128 .bf16) (z incl : FVec Ideal S256x256 .f32) (r : Fin 256) (l : Fin 128) :
    diagAcc m v z incl (ix2 r l)
      = ∑ c : Fin 256, (if m (ix2 r c) = 1#1 then Ideal.exp (z (ix2 r c) - incl (ix2 r c)) else 0) * v (ix2 c l) := by
  unfold diagAcc
  rw [mixV_at]
  simp only [onlyV_at, expV_at]

/-! ### The updates extend the sums by one tile

Throughout `a` is the position of the tile's first key, `z` the row of real scores of one query, `u` the triangle of ones. -/

section Updates

variable (u : FVec Ideal S256x256 .bf16) (hu : ∀ k c : Fin 256, u (ix2 k c) = if c.val ≤ k.val then 1 else 0)
include hu

/-- An earlier tile: column `c` is the softplus summed from key `c` of the tile to its end. -/
theorem incl_at (zv : FVec Ideal S256x256 .f32) (z : ℕ → ℝ) (a : ℕ) (r : Fin 256) (hz : ∀ c : Fin 256, zv (ix2 r c) = (z (a + c.val) : EReal))
    (c : Fin 256) : inclV (spV zv) u (ix2 r c) = ((tail z (a + 256) (a + c.val) : ℝ) : EReal) := by
  rw [inclV_at, tail, ← tile_suffix (fun j => sp (z j)) a c.val c.isLt.le]
  exact Finset.sum_congr rfl fun k _ => by rw [spV_at zv r k _ (hz k), hu]

/-- The diagonal tile: the keys from the query's own on are struck out. -/
theorem diag_incl_at (m : IVec S256x256 1) (hm : ∀ r c : Fin 256, m (ix2 r c) = 1#1 ↔ c.val < r.val)
    (zv : FVec Ideal S256x256 .f32) (z : ℕ → ℝ) (a : ℕ) (r : Fin 256) (hz : ∀ c : Fin 256, zv (ix2 r c) = (z (a + c.val) : EReal))
    (c : Fin 256) : inclV (onlyV m (spV zv)) u (ix2 r c) = ((tail z (a + r.val) (a + c.val) : ℝ) : EReal) := by
  rw [inclV_at, tail, ← tile_suffix_masked (fun j => sp (z j)) a c.val r.val r.isLt.le]
  refine Finset.sum_congr rfl fun k _ => ?_
  rw [onlyV_at, spV_at zv r k _ (hz k), hu]
  simp only [hm]

theorem diagRun_tail (m : IVec S256x256 1) (hm : ∀ r c : Fin 256, m (ix2 r c) = 1#1 ↔ c.val < r.val)
    (zv : FVec Ideal S256x256 .f32) (z : ℕ → ℝ) (a : ℕ) (r : Fin 256) (hz : ∀ c : Fin 256, zv (ix2 r c) = (z (a + c.val) : EReal)) :
    diagRun (inclV (onlyV m (spV zv)) u) (ix2 r (0 : Fin 1)) = ((tail z (a + r.val) a : ℝ) : EReal) := by
  rw [diagRun_at, diag_incl_at u hu m hm zv z a r hz]
  rfl

theorem tripRun_tail (zv : FVec Ideal S256x256 .f32) (z : ℕ → ℝ) (a T : ℕ) (hT : a + 256 ≤ T) (r : Fin 256)
    (hz : ∀ c : Fin 256, zv (ix2 r c) = (z (a + c.val) : EReal))
    (run : FVec Ideal S256x1 .f32) (hrun : run (ix2 r (0 : Fin 1)) = ((tail z T (a + 256) : ℝ) : EReal)) :
    tripRun (inclV (spV zv) u) run (ix2 r (0 : Fin 1)) = ((tail z T a : ℝ) : EReal) := by
  rw [tripRun_at, incl_at u hu zv z a r hz, hrun, ← EReal.coe_add, add_comm, ← tail_append z (Nat.le_add_right a 256) hT]
  rfl

theorem diagAcc_mix (m : IVec S256x256 1) (hm : ∀ r c : Fin 256, m (ix2 r c) = 1#1 ↔ c.val < r.val)
    (zv : FVec Ideal S256x256 .f32) (z : ℕ → ℝ) (a : ℕ) (r : Fin 256) (hz : ∀ c : Fin 256, zv (ix2 r c) = (z (a + c.val) : EReal))
    (v : FVec Ideal S256x128 .bf16) (w : ℕ → EReal) (l : Fin 128) (hv : ∀ c : Fin 256, v (ix2 c l) = w (a + c.val)) :
    diagAcc m v zv (inclV (onlyV m (spV zv)) u) (ix2 r l) = mix z w (a + r.val) a := by
  rw [diagAcc_at, ← mix_diag z w a r.val r.isLt.le]
  refine Finset.sum_congr rfl fun c _ => ?_
  rw [hz c, diag_incl_at u hu m hm zv z a r hz, exp_diag, hv]
  simp only [hm]

theorem tripAcc_mix (zv : FVec Ideal S256x256 .f32) (z : ℕ → ℝ) (a T : ℕ) (hT : a + 256 ≤ T) (r : Fin 256)
    (hz : ∀ c : Fin 256, zv (ix2 r c) = (z (a + c.val) : EReal))
    (run : FVec Ideal S256x1 .f32) (hrun : run (ix2 r (0 : Fin 1)) = ((tail z T (a + 256) : ℝ) : EReal))
    (v : FVec Ideal S256x128 .bf16) (w : ℕ → EReal) (l : Fin 128) (hv : ∀ c : Fin 256, v (ix2 c l) = w (a + c.val))
    (acc : FVec Ideal S256x128 .f32) (hacc : acc (ix2 r l) = mix z w T (a + 256)) :
    tripAcc v zv (inclV (spV zv) u) run acc (ix2 r l) = mix z w T a := by
  rw [tripAcc_at, hacc, ← mix_tile z w hT]
  refine congrArg _ (Finset.sum_congr rfl fun c _ => ?_)
  rw [hz c, incl_at u hu zv z a r hz, hrun, exp_tile z c.isLt.le hT, hv]

end Updates

end Cert.KernelIdeal.Sb

end
-- ==== Proof.Trip.lean ====
/- The loop over the earlier tiles. A trip reads the two running arrays (the eight heads' output sums and sums of the
   softplus), and stores eight slices into each; here one trip is stated as a function of the eight heads' slices
   (`accStep`, `runStep`), whatever the memory it runs on, and the loop's state after `n` trips is read through it. -/
module

public import proofs.«01_k».proof.Proof.Tile
public import proofs.«01_k».proof.Proof.Gen.KernelIdeal.Loops
public import Idealize.ShloMosaic.Lib.Pipeline.ValueKit.Stack
public import Idealize.ShloMosaic.Lib.Pipeline.ReadBack
public import Idealize.ShloMosaic.Lib.Ring

@[expose] public section

set_option maxRecDepth 16384

noncomputable section

namespace Cert.KernelIdeal.Sb

open Idealize.ShloMosaic Idealize.ShloMosaic.TcCoe Idealize.ShloMosaic.Tactic
open Idealize.SL.Sem
open Cert.Sb Cert.KernelIdeal.Gen

variable {F : FTy → Type} [FloatOps F] [Named F]

/-- The eight heads' values as a family. -/
abbrev heads {α : Type} (a0 a1 a2 a3 a4 a5 a6 a7 : α) : Fin 8 → α := ![a0, a1, a2, a3, a4, a5, a6, a7]

theorem slices_pair : ∀ h : Fin 8, S256x512.Slices ![0, 128 * (h.val / 2)] S256x128 := by decide

/-- The 128 columns that head `h` shares with its neighbour. -/
def pairV (h : Fin 8) (x : FVec F S256x512 .bf16) : FVec F S256x128 .bf16 :=
  extractStridedSlice S256x128 ![0, 128 * (h.val / 2)] x (slices_pair h)

theorem inb_acc : ∀ h : Fin 8, ∀ a, (![h.val, 0, 0] : Fin 3 → Nat) a + S1x256x128.size a ≤ S8x256x128.size a := by decide
theorem inb_run : ∀ h : Fin 8, ∀ a, (![h.val, 0, 0] : Fin 3 → Nat) a + S1x256x1.size a ≤ S8x256x1.size a := by decide

/-- Head `h`'s slice of the output sums. -/
def accSlice (X : S8x256x128.Idx → Elt F .f32) (h : Fin 8) : FVec F S256x128 .f32 :=
  shapeCast S256x128 (View.ld (Val := Elt F) (e' := .f32) X (Rect.unit (s := S8x256x128) ![h.val, 0, 0] S1x256x128.size (inb_acc h)))
    shapeCasts_S1x256x128_S256x128

/-- Head `h`'s slice of the sums of the softplus. -/
def runSlice (X : S8x256x1.Idx → Elt F .f32) (h : Fin 8) : FVec F S256x1 .f32 :=
  shapeCast S256x1 (View.ld (Val := Elt F) (e' := .f32) X (Rect.unit (s := S8x256x1) ![h.val, 0, 0] S1x256x1.size (inb_run h)))
    shapeCasts_S1x256x1_S256x1

/-- The stores of eight slices of output sums, the last first. -/
def accPieces (f : Fin 8 → FVec F S256x128 .f32) : List (View.Piece (Elt F) S8x256x128 .f32) :=
  [⟨Rect.unit ![7, 0, 0] S1x256x128.size inb_S8x256x128_S1x256x128_7_0_0, shapeCast S1x256x128 (f 7) shapeCasts_S256x128_S1x256x128⟩,
    ⟨Rect.unit ![6, 0, 0] S1x256x128.size inb_S8x256x128_S1x256x128_6_0_0, shapeCast S1x256x128 (f 6) shapeCasts_S256x128_S1x256x128⟩,
    ⟨Rect.unit ![5, 0, 0] S1x256x128.size inb_S8x256x128_S1x256x128_5_0_0, shapeCast S1x256x128 (f 5) shapeCasts_S256x128_S1x256x128⟩,
    ⟨Rect.unit ![4, 0, 0] S1x256x128.size inb_S8x256x128_S1x256x128_4_0_0, shapeCast S1x256x128 (f 4) shapeCasts_S256x128_S1x256x128⟩,
    ⟨Rect.unit ![3, 0, 0] S1x256x128.size inb_S8x256x128_S1x256x128_3_0_0, shapeCast S1x256x128 (f 3) shapeCasts_S256x128_S1x256x128⟩,
    ⟨Rect.unit ![2, 0, 0] S1x256x128.size inb_S8x256x128_S1x256x128_2_0_0, shapeCast S1x256x128 (f 2) shapeCasts_S256x128_S1x256x128⟩,
    ⟨Rect.unit ![1, 0, 0] S1x256x128.size inb_S8x256x128_S1x256x128_1_0_0, shapeCast S1x256x128 (f 1) shapeCasts_S256x128_S1x256x128⟩,
    ⟨Rect.unit ![0, 0, 0] S1x256x128.size inb_S8x256x128_S1x256x128_0_0_0, shapeCast S1x256x128 (f 0) shapeCasts_S256x128_S1x256x128⟩]

/-- The stores of eight slices of sums of the softplus, the last first. -/
def runPieces (f : Fin 8 → FVec F S256x1 .f32) : List (View.Piece (Elt F) S8x256x1 .f32) :=
  [⟨Rect.unit ![7, 0, 0] S1x256x1.size inb_S8x256x1_S1x256x1_7_0_0, shapeCast S1x256x1 (f 7) shapeCasts_S256x1_S1x256x1⟩,
    ⟨Rect.unit ![6, 0, 0] S1x256x1.size inb_S8x256x1_S1x256x1_6_0_0, shapeCast S1x256x1 (f 6) shapeCasts_S256x1_S1x256x1⟩,
    ⟨Rect.unit ![5, 0, 0] S1x256x1.size inb_S8x256x1_S1x256x1_5_0_0, shapeCast S1x256x1 (f 5) shapeCasts_S256x1_S1x256x1⟩,
    ⟨Rect.unit ![4, 0, 0] S1x256x1.size inb_S8x256x1_S1x256x1_4_0_0, shapeCast S1x256x1 (f 4) shapeCasts_S256x1_S1x256x1⟩,
    ⟨Rect.unit ![3, 0, 0] S1x256x1.size inb_S8x256x1_S1x256x1_3_0_0, shapeCast S1x256x1 (f 3) shapeCasts_S256x1_S1x256x1⟩,
    ⟨Rect.unit ![2, 0, 0] S1x256x1.size inb_S8x256x1_S1x256x1_2_0_0, shapeCast S1x256x1 (f 2) shapeCasts_S256x1_S1x256x1⟩,
    ⟨Rect.unit ![1, 0, 0] S1x256x1.size inb_S8x256x1_S1x256x1_1_0_0, shapeCast S1x256x1 (f 1) shapeCasts_S256x1_S1x256x1⟩,
    ⟨Rect.unit ![0, 0, 0] S1x256x1.size inb_S8x256x1_S1x256x1_0_0_0, shapeCast S1x256x1 (f 0) shapeCasts_S256x1_S1x256x1⟩]

/-- One head's scores on a tile of keys. -/
def headScore (Q : Fin 8 → FVec F S256x128 .bf16) (B : Fin 8 → FVec F S1x1 .f32) (kb : FVec F S256x512 .bf16) (h : Fin 8) : FVec F S256x256 .f32 :=
  scoreV (Q h) (B h) (pairV h kb)

/-- One trip's new output sum of head `h`. -/
def accStep (Q : Fin 8 → FVec F S256x128 .bf16) (B : Fin 8 → FVec F S1x1 .f32) (u : FVec F S256x256 .bf16) (kb vb : FVec F S256x512 .bf16)
    (acc : S8x256x128.Idx → Elt F .f32) (run : S8x256x1.Idx → Elt F .f32) (h : Fin 8) : FVec F S256x128 .f32 :=
  tripAcc (pairV h vb) (headScore Q B kb h) (inclV (spV (headScore Q B kb h)) u) (runSlice run h) (accSlice acc h)

/-- One trip's new sum of the softplus of head `h`. -/
def runStep (Q : Fin 8 → FVec F S256x128 .bf16) (B : Fin 8 → FVec F S1x1 .f32) (u : FVec F S256x256 .bf16) (kb : FVec F S256x512 .bf16)
    (run : S8x256x1.Idx → Elt F .f32) (h : Fin 8) : FVec F S256x1 .f32 :=
  tripRun (inclV (spV (headScore Q B kb h)) u) (runSlice run h)

/-- The tile of keys (or of values) that a trip reads. -/
def tripTile (i : grid0.Coords) (k : Fin (k0_t1_loop i).trips) (X : S1x8192x512.Idx → Elt F .bf16) : FVec F S256x512 .bf16 :=
  shapeCast S256x512 (View.ld (Val := Elt F) (e' := .bf16) X (Rect.unit (s := S1x8192x512) (k0_off2 i k) S1x256x512.size (k0_off2_inb i k)))
    shapeCasts_S1x256x512_S256x512

/-! ### The slices written are the slices read back -/

theorem accPieces_of (f : Fin 8 → FVec F S256x128 .f32) :
    View.PiecesOf (Val := Elt F) (s := S8x256x128) (e := .f32) (stackAlong0 (d := S256x128.size) f) (accPieces f) := by
  refine ⟨?_, ?_, ?_, ?_, ?_, ?_, ?_, ?_, trivial⟩
  all_goals
    intro x
    exact stack_piece_emb (d := S256x128.size) f _ _ _ (by decide) rfl (by decide) x

theorem runPieces_of (f : Fin 8 → FVec F S256x1 .f32) :
    View.PiecesOf (Val := Elt F) (s := S8x256x1) (e := .f32) (stackAlong0 (d := S256x1.size) f) (runPieces f) := by
  refine ⟨?_, ?_, ?_, ?_, ?_, ?_, ?_, ?_, trivial⟩
  all_goals
    intro x
    exact stack_piece_emb (d := S256x1.size) f _ _ _ (by decide) rfl (by decide) x

theorem accPieces_cover (f : Fin 8 → FVec F S256x128 .f32) : ∀ y, ∃ p ∈ accPieces f, y ∈ p.1.set :=
  View.cover_of_tiledL _ S1x256x128.size rfl

theorem runPieces_cover (f : Fin 8 → FVec F S256x1 .f32) : ∀ y, ∃ p ∈ runPieces f, y ∈ p.1.set :=
  View.cover_of_tiledL _ S1x256x1.size rfl

/-- After the eight stores, whatever was there before, each slice reads as stored. -/
theorem accSlice_writes (v : Memref sig .tc .vmem S8x256x128 .f32) (g : BufTy.Contents (Elt F) v.view.ty) (f : Fin 8 → FVec F S256x128 .f32)
    (L : List (View.Piece (Elt F) S8x256x128 .f32)) (h : Fin 8) :
    accSlice (v.view.read (Elt F) (v.view.writes (Elt F) g (accPieces f ++ L))) h = f h := by
  have e : v.view.read (Elt F) (v.view.writes (Elt F) g (accPieces f ++ L)) = stackAlong0 (d := S256x128.size) f := by
    rw [View.writes_append, View.read_writes_eq_canon _ _ _ (accPieces_cover f)]
    funext y
    exact View.canon_apply_of_pieces _ _ (accPieces_of f).mem y (accPieces_cover f y)
  unfold accSlice
  rw [e]
  refine (congrArg (fun X => shapeCast S256x128 X shapeCasts_S1x256x128_S256x128)
    (ld_stack (Val := Elt F) (e := .f32) (d := S256x128.size) f h _ (inb_acc h) shapeCasts_S256x128_S1x256x128 rfl ?_)).trans ?_
  · intro a; fin_cases a <;> rfl
  · exact shapeCast_shapeCast _ _ _

theorem runSlice_writes (v : Memref sig .tc .vmem S8x256x1 .f32) (g : BufTy.Contents (Elt F) v.view.ty) (f : Fin 8 → FVec F S256x1 .f32)
    (L : List (View.Piece (Elt F) S8x256x1 .f32)) (h : Fin 8) :
    runSlice (v.view.read (Elt F) (v.view.writes (Elt F) g (runPieces f ++ L))) h = f h := by
  have e : v.view.read (Elt F) (v.view.writes (Elt F) g (runPieces f ++ L)) = stackAlong0 (d := S256x1.size) f := by
    rw [View.writes_append, View.read_writes_eq_canon _ _ _ (runPieces_cover f)]
    funext y
    exact View.canon_apply_of_pieces _ _ (runPieces_of f).mem y (runPieces_cover f y)
  unfold runSlice
  rw [e]
  refine (congrArg (fun X => shapeCast S256x1 X shapeCasts_S1x256x1_S256x1)
    (ld_stack (Val := Elt F) (e := .f32) (d := S256x1.size) f h _ (inb_run h) shapeCasts_S256x1_S1x256x1 rfl ?_)).trans ?_
  · intro a; fin_cases a <;> rfl
  · exact shapeCast_shapeCast _ _ _

section Trip
variable (𝒱 : Variants) (c : Dev nD) (bd : Option 𝒱.V) (i : grid0.Coords) (arg3 : Memref sig .tc .vmem S1x256x512 .bf16)
   (harg3 : arg3.IsWhole) (arg4 : Memref sig .tc .vmem S1x8192x512 .bf16) (harg4 : arg4.IsWhole)
   (arg5 : Memref sig .tc .vmem S1x8192x512 .bf16) (harg5 : arg5.IsWhole) (arg6 : Memref sig .tc .vmem S1x256x512 .f32)
   (harg6 : arg6.IsWhole) (arg7 : Memref sig .tc .vmem S1x1x512 .f32) (harg7 : arg7.IsWhole)
   (arg8 : Memref sig .tc .vmem S256x256 .bf16) (harg8 : arg8.IsWhole) (arg9 : Memref sig .tc .vmem S1x256x512 .f32)
   (harg9 : arg9.IsWhole) (arg10 : Memref sig .tc .vmem S8x256x128 .f32) (harg10 : arg10.IsWhole)
   (arg11 : Memref sig .tc .vmem S8x256x1 .f32) (harg11 : arg11.IsWhole) (arg2 : BitVec 32) (v4 : IVec S256x128 1)
   (v7 : FVec F S256x128 .bf16) (v9 : FVec F S256x128 .bf16) (v11 : FVec F S256x128 .bf16) (v13 : FVec F S256x128 .bf16)
   (v15 : FVec F S256x128 .bf16) (v17 : FVec F S256x128 .bf16) (v19 : FVec F S256x128 .bf16)
   (v21 : FVec F S256x128 .bf16) (v24 : FVec F S1x1 .f32) (v25 : FVec F S1x1 .f32) (v26 : FVec F S1x1 .f32)
   (v27 : FVec F S1x1 .f32) (v28 : FVec F S1x1 .f32) (v29 : FVec F S1x1 .f32) (v30 : FVec F S1x1 .f32)
   (v31 : FVec F S1x1 .f32) (v32 : Vec F S256x256 .bf16) (v35 : IVec S256x256 1) (v43 : FVec F S256x512 .bf16)
   (v75 : FVec F S256x256 .f32) (v187 : FVec F S256x256 .f32) (v282 : FVec F S256x1 .f32)
  (X_arg4 : BufTy.Contents (Elt F) arg4.view.ty) (X_arg5 : BufTy.Contents (Elt F) arg5.view.ty)

theorem trip_acc (k : Fin (k0_t1_loop i).trips) (f10 : BufTy.Contents (Elt F) arg10.view.ty) (f11 : BufTy.Contents (Elt F) arg11.view.ty) :
    (trip_k0_t1 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 k).1 f10 f11
      = accPieces (accStep (heads v7 v9 v11 v13 v15 v17 v19 v21) (heads v24 v25 v26 v27 v28 v29 v30 v31) v32
          (tripTile i k (arg4.view.read (Elt F) X_arg4)) (tripTile i k (arg5.view.read (Elt F) X_arg5))
          (arg10.view.read (Elt F) f10) (arg11.view.read (Elt F) f11)) := by
  unfold trip_k0_t1
  rfl

theorem trip_run (k : Fin (k0_t1_loop i).trips) (f10 : BufTy.Contents (Elt F) arg10.view.ty) (f11 : BufTy.Contents (Elt F) arg11.view.ty) :
    (trip_k0_t1 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 k).2.1 f10 f11
      = runPieces (runStep (heads v7 v9 v11 v13 v15 v17 v19 v21) (heads v24 v25 v26 v27 v28 v29 v30 v31) v32
          (tripTile i k (arg4.view.read (Elt F) X_arg4)) (arg11.view.read (Elt F) f11)) := by
  unfold trip_k0_t1
  rfl

end Trip

end Cert.KernelIdeal.Sb

end
-- ==== Proof.Heads.lean ====
/- The eight heads' operands. The kernel keeps two heads to a slice of 128 columns: a head's queries are the slice with its
   neighbour's 64 columns put to zero, so the product over 128 columns is the head's product over its own 64. The heads'
   outputs are put side by side again by the same choice, and gated. -/
module

public import proofs.«01_k».proof.Proof.Trip
public import proofs.«01_k».proof.Proof.Gen.KernelIdeal.Skeleton
public import Idealize.ShloMosaic.Lib.WordCmp

@[expose] public section

set_option maxRecDepth 16384

noncomputable section

namespace Cert.KernelIdeal.Sb

open Idealize.ShloMosaic Idealize.ShloMosaic.TcCoe Idealize.ShloMosaic.Tactic
open Idealize.SL.Sem
open Cert.Sb Cert.KernelIdeal.Gen

section Vectors
variable {F : FTy → Type} [FloatOps F] [Named F]

/-- The columns of the first head of a pair. -/
def laneV : IVec S256x128 1 := cmpi .slt (iota Kind.tc S256x128 32 [1] iota_S256x128_d1_w32) (broadcast S256x128 64#32)

/-- Strictly below the diagonal: the key comes before the query. -/
def causalV : IVec S256x256 1 :=
  cmpi .slt (iota Kind.tc S256x256 32 [1] iota_S256x256_d1_w32) (iota Kind.tc S256x256 32 [0] iota_S256x256_d0_w32)

/-- A head's queries: its neighbour's columns are zero. -/
def headQ (h : Fin 8) (q : FVec F S256x512 .bf16) : FVec F S256x128 .bf16 :=
  if h.val % 2 = 0 then select laneV (pairV h q) (broadcast S256x128 (Scalar.ofBits .bf16 0x0000#16))
  else select laneV (broadcast S256x128 (Scalar.ofBits .bf16 0x0000#16)) (pairV h q)

theorem slices_bias : ∀ h : Fin 8, S1x512.Slices ![0, 64 * h.val] S1x1 := by decide

/-- A head's bias. -/
def headB (h : Fin 8) (b : FVec F S1x512 .f32) : FVec F S1x1 .f32 :=
  extractStridedSlice S1x1 ![0, 64 * h.val] b (slices_bias h)

end Vectors

theorem laneV_at (r : Fin 256) (l : Fin 128) : laneV (ix2 r l) = 1#1 ↔ l.val < 64 := by
  have h : laneV (ix2 r l) = IntOp.cmpi .slt (BitVec.ofNat 32 l.val) 64#32 := by pointwise [laneV]
  rw [h]
  exact WordCmp.cmpi_slt_ofNat_eq_one_iff (b := 64) (by omega) (by omega)

theorem causalV_at (r c : Fin 256) : causalV (ix2 r c) = 1#1 ↔ c.val < r.val := by
  have h : causalV (ix2 r c) = IntOp.cmpi .slt (BitVec.ofNat 32 c.val) (BitVec.ofNat 32 r.val) := by pointwise [causalV]
  rw [h]
  exact WordCmp.cmpi_slt_ofNat_eq_one_iff (by omega) (by omega)

theorem pairV_at (h : Fin 8) (x : FVec Ideal S256x512 .bf16) (r : Fin 256) (l : Fin 128) (d : Fin 512) (hd : d.val = 128 * (h.val / 2) + l.val) :
    pairV h x (ix2 r l) = x (ix2 r d) := by
  have e : (⟨128 * (h.val / 2) + l.val, by omega⟩ : Fin 512) = d := Fin.ext hd.symm
  rw [← e]
  pointwise [pairV]

theorem headB_at (h : Fin 8) (b : FVec Ideal S1x512 .f32) (d : Fin 512) (hd : d.val = 64 * h.val) :
    headB h b (ix2 (0 : Fin 1) (0 : Fin 1)) = b (ix2 (0 : Fin 1) d) := by
  have e : (⟨64 * h.val, by omega⟩ : Fin 512) = d := Fin.ext hd.symm
  rw [← e]
  pointwise [headB]

theorem headQ_at (h : Fin 8) (x : FVec Ideal S256x512 .bf16) (r : Fin 256) (l : Fin 128) :
    headQ h x (ix2 r l) = if l.val / 64 = h.val % 2 then pairV h x (ix2 r l) else 0 := by
  have hm := laneV_at r l
  unfold headQ
  have z : (Scalar.ofBits (F := Ideal) .bf16 0x0000#16 : EReal) = 0 := Ideal.ofBits_zero_bf16
  split
  · rename_i h0
    show Scalar.select (laneV (ix2 r l)) (pairV h x (ix2 r l)) (Scalar.ofBits (F := Ideal) .bf16 0x0000#16) = _
    rw [z]
    unfold Scalar.select
    change (if laneV (ix2 r l) = 1#1 then _ else _) = _
    by_cases hl : l.val < 64
    · rw [if_pos (hm.2 hl), if_pos (by omega)]
    · rw [if_neg (fun e => hl (hm.1 e)), if_neg (by omega)]
  · rename_i h0
    have h1 : h.val % 2 = 1 := by omega
    show Scalar.select (laneV (ix2 r l)) (Scalar.ofBits (F := Ideal) .bf16 0x0000#16) (pairV h x (ix2 r l)) = _
    rw [z]
    unfold Scalar.select
    change (if laneV (ix2 r l) = 1#1 then _ else _) = _
    by_cases hl : l.val < 64
    · rw [if_pos (hm.2 hl), if_neg (by omega)]
    · rw [if_neg (fun e => hl (hm.1 e)), if_pos (by omega)]

/-- Column `d` of head `h`. -/
def col (h : Fin 8) (d : Fin 64) : Fin 512 := ⟨64 * h.val + d.val, by omega⟩

/-- A head's score of one query and key, from their rows. -/
def dotB (h : Fin 8) (q k b : Fin 512 → ℝ) : ℝ := ∑ d : Fin 64, q (col h d) * k (col h d) + b (col h 0)

theorem headScore_at (Q : Fin 8 → FVec Ideal S256x128 .bf16) (B : Fin 8 → FVec Ideal S1x1 .f32) (qb : FVec Ideal S256x512 .bf16) (bb : FVec Ideal S1x512 .f32)
    (hQ : ∀ h, Q h = headQ h qb) (hB : ∀ h, B h = headB h bb) (kb : FVec Ideal S256x512 .bf16) (h : Fin 8) (r c : Fin 256) (q k b : Fin 512 → ℝ)
    (hq : ∀ d, qb (ix2 r d) = (q d : EReal)) (hk : ∀ d, kb (ix2 c d) = (k d : EReal)) (hb : ∀ d, bb (ix2 (0 : Fin 1) d) = (b d : EReal)) :
    headScore Q B kb h (ix2 r c) = ((dotB h q k b : ℝ) : EReal) := by
  unfold headScore dotB
  rw [scoreV_at, hQ, hB, headB_at h bb (col h 0) rfl, hb, EReal.coe_add, coe_sum]
  refine congrArg (· + _) ?_
  rw [FinSumWindow.sum_window (W := 64) (64 * (h.val % 2)) (by omega) _ ?_]
  · refine Finset.sum_congr rfl fun d _ => ?_
    have e : (col h d).val = 128 * (h.val / 2) + (64 * (h.val % 2) + d.val) := by
      show 64 * h.val + d.val = _
      omega
    rw [headQ_at, if_pos (by show (64 * (h.val % 2) + d.val) / 64 = _; omega), pairV_at h qb r _ (col h d) e, pairV_at h kb c _ (col h d) e, hq, hk,
      EReal.coe_mul]
  · intro l hl
    rw [headQ_at, if_neg (by omega), zero_mul]

/-! ### The gate and the output -/

/-- The gate `g · σ(g)`. -/
def silu (g : EReal) : EReal := g * Ideal.div 1 (1 + Ideal.exp (-g))

variable {F : FTy → Type} [FloatOps F] [Named F]

/-- The heads side by side, gated. -/
def gateV (a : Fin 8 → FVec F S256x128 .f32) (g : FVec F S256x512 .f32) : FVec F S256x512 .f32 :=
  mulf (concatenate S256x512 1 [⟨S256x128, select laneV (a 0) (a 1)⟩, ⟨S256x128, select laneV (a 2) (a 3)⟩, ⟨S256x128, select laneV (a 4) (a 5)⟩,
      ⟨S256x128, select laneV (a 6) (a 7)⟩] concatenates_S256x128_S256x128_S256x128_S256x128_S256x512_d1)
    (mulf g (divf (broadcast S256x512 (Scalar.ofBits .f32 0x3F800000#32)) (addf (broadcast S256x512 (Scalar.ofBits .f32 0x3F800000#32))
      (exp (subf (broadcast S256x512 (Scalar.ofBits .f32 0x00000000#32)) g)))))

theorem pairSel_at (a b : FVec Ideal S256x128 .f32) (r : Fin 256) (l : Fin 128) :
    select laneV a b (ix2 r l) = if l.val < 64 then a (ix2 r l) else b (ix2 r l) := by
  show Scalar.select (laneV (ix2 r l)) (a (ix2 r l)) (b (ix2 r l)) = _
  unfold Scalar.select
  exact if_congr (laneV_at r l) rfl rfl

/-- Four slices side by side, read in slice `p`. -/
theorem catV_at (f : Fin 4 → FVec Ideal S256x128 .f32) (r : Fin 256) (p : Fin 4) (l : Fin 128) (x : Fin 512) (hx : x.val = 128 * p.val + l.val) :
    concatenate S256x512 1 [⟨S256x128, f 0⟩, ⟨S256x128, f 1⟩, ⟨S256x128, f 2⟩, ⟨S256x128, f 3⟩]
      concatenates_S256x128_S256x128_S256x128_S256x128_S256x512_d1 (ix2 r x) = f p (ix2 r l) := by
  pointwise
  have hl := l.isLt
  fin_cases p
  all_goals
    simp only [] at hx
    split_ifs
    all_goals first
      | omega
      | exact congrArg (fun y => f _ (ix2 r y)) (Fin.ext (by simp only []; omega))

theorem gateV_at (a : Fin 8 → FVec Ideal S256x128 .f32) (g : FVec Ideal S256x512 .f32) (r : Fin 256) (h : Fin 8) (d : Fin 64) :
    gateV a g (ix2 r (col h d)) = a h (ix2 r ⟨64 * (h.val % 2) + d.val, by omega⟩) * silu (g (ix2 r (col h d))) := by
  have e : gateV a g (ix2 r (col h d)) = concatenate S256x512 1 [⟨S256x128, select laneV (a 0) (a 1)⟩, ⟨S256x128, select laneV (a 2) (a 3)⟩,
      ⟨S256x128, select laneV (a 4) (a 5)⟩, ⟨S256x128, select laneV (a 6) (a 7)⟩]
      concatenates_S256x128_S256x128_S256x128_S256x128_S256x512_d1 (ix2 r (col h d)) * silu (g (ix2 r (col h d))) := by
    unfold silu
    rw [← zero_sub]
    pointwise [gateV]
  rw [e]
  refine congrArg (· * _) ?_
  refine (catV_at (fun p => select laneV (a ⟨2 * p.val, by omega⟩) (a ⟨2 * p.val + 1, by omega⟩)) r ⟨h.val / 2, by omega⟩
    ⟨64 * (h.val % 2) + d.val, by omega⟩ (col h d) (by show 64 * h.val + d.val = 128 * (h.val / 2) + (64 * (h.val % 2) + d.val); omega)).trans ?_
  rw [pairSel_at]
  rcases Nat.mod_two_eq_zero_or_one h.val with h0 | h0
  · rw [if_pos (by show 64 * (h.val % 2) + d.val < 64; omega)]
    exact congrArg (fun g => a g _) (Fin.ext (by show 2 * (h.val / 2) = h.val; omega))
  · rw [if_neg (by show ¬64 * (h.val % 2) + d.val < 64; omega)]
    exact congrArg (fun g => a g _) (Fin.ext (by show 2 * (h.val / 2) + 1 = h.val; omega))

end Cert.KernelIdeal.Sb

end
-- ==== Proof.Loop.lean ====
/- The loop's state: before trip `n` each head's two running arrays hold the sums over the keys from tile `n0 - n` on, where
   `n0` is the number of the diagonal tile. -/
module

public import proofs.«01_k».proof.Proof.Trip

@[expose] public section

set_option maxRecDepth 16384

noncomputable section

namespace Cert.KernelIdeal.Sb

open Idealize.ShloMosaic Idealize.ShloMosaic.TcCoe Idealize.ShloMosaic.Tactic
open Idealize.SL.Sem
open Cert.Sb Cert.KernelIdeal.Gen

variable (𝒱 : Variants) (c : Dev nD) (bd : Option 𝒱.V) (i : grid0.Coords) (arg3 : Memref sig .tc .vmem S1x256x512 .bf16)
   (harg3 : arg3.IsWhole) (arg4 : Memref sig .tc .vmem S1x8192x512 .bf16) (harg4 : arg4.IsWhole)
   (arg5 : Memref sig .tc .vmem S1x8192x512 .bf16) (harg5 : arg5.IsWhole) (arg6 : Memref sig .tc .vmem S1x256x512 .f32)
   (harg6 : arg6.IsWhole) (arg7 : Memref sig .tc .vmem S1x1x512 .f32) (harg7 : arg7.IsWhole)
   (arg8 : Memref sig .tc .vmem S256x256 .bf16) (harg8 : arg8.IsWhole) (arg9 : Memref sig .tc .vmem S1x256x512 .f32)
   (harg9 : arg9.IsWhole) (arg10 : Memref sig .tc .vmem S8x256x128 .f32) (harg10 : arg10.IsWhole)
   (arg11 : Memref sig .tc .vmem S8x256x1 .f32) (harg11 : arg11.IsWhole) (arg2 : BitVec 32) (v4 : IVec S256x128 1)
   (v7 : FVec Ideal S256x128 .bf16) (v9 : FVec Ideal S256x128 .bf16) (v11 : FVec Ideal S256x128 .bf16) (v13 : FVec Ideal S256x128 .bf16)
   (v15 : FVec Ideal S256x128 .bf16) (v17 : FVec Ideal S256x128 .bf16) (v19 : FVec Ideal S256x128 .bf16)
   (v21 : FVec Ideal S256x128 .bf16) (v24 : FVec Ideal S1x1 .f32) (v25 : FVec Ideal S1x1 .f32) (v26 : FVec Ideal S1x1 .f32)
   (v27 : FVec Ideal S1x1 .f32) (v28 : FVec Ideal S1x1 .f32) (v29 : FVec Ideal S1x1 .f32) (v30 : FVec Ideal S1x1 .f32)
   (v31 : FVec Ideal S1x1 .f32) (v32 : Vec Ideal S256x256 .bf16) (v35 : IVec S256x256 1) (v43 : FVec Ideal S256x512 .bf16)
   (v75 : FVec Ideal S256x256 .f32) (v187 : FVec Ideal S256x256 .f32) (v282 : FVec Ideal S256x1 .f32)
  (X_arg4 : BufTy.Contents (Elt Ideal) arg4.view.ty) (X_arg5 : BufTy.Contents (Elt Ideal) arg5.view.ty)

theorem loop_state (hu : ∀ k c : Fin 256, v32 (ix2 k c) = if c.val ≤ k.val then (1 : EReal) else 0)
    (n0 : ℕ) (hn : (k0_t1_loop i).trips ≤ n0) (z : Fin 8 → Fin 256 → ℕ → ℝ) (w : Fin 8 → Fin 128 → ℕ → EReal)
    (hz : ∀ (k : Fin (k0_t1_loop i).trips) (h : Fin 8) (r c : Fin 256),
      headScore (heads v7 v9 v11 v13 v15 v17 v19 v21) (heads v24 v25 v26 v27 v28 v29 v30 v31)
        (tripTile i k (arg4.view.read (Elt Ideal) X_arg4)) h (ix2 r c) = (z h r (256 * (n0 - 1 - k.val) + c.val) : EReal))
    (hw : ∀ (k : Fin (k0_t1_loop i).trips) (h : Fin 8) (c : Fin 256) (l : Fin 128),
      pairV h (tripTile i k (arg5.view.read (Elt Ideal) X_arg5)) (ix2 c l) = w h l (256 * (n0 - 1 - k.val) + c.val))
    (G10 : BufTy.Contents (Elt Ideal) arg10.view.ty) (G11 : BufTy.Contents (Elt Ideal) arg11.view.ty)
    (hrun : ∀ (h : Fin 8) (r : Fin 256),
      runSlice (arg11.view.read (Elt Ideal) G11) h (ix2 r (0 : Fin 1)) = ((tail (z h r) (256 * n0 + r.val) (256 * n0) : ℝ) : EReal))
    (hacc : ∀ (h : Fin 8) (r : Fin 256) (l : Fin 128),
      accSlice (arg10.view.read (Elt Ideal) G10) h (ix2 r l) = mix (z h r) (w h l) (256 * n0 + r.val) (256 * n0))
    (n : ℕ) (hle : n ≤ (k0_t1_loop i).trips) :
    (∀ (h : Fin 8) (r : Fin 256),
      runSlice (arg11.view.read (Elt Ideal) (arg11.view.writes (Elt Ideal) G11 (pb_k0_t1 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 G10 G11 n).2)) h (ix2 r (0 : Fin 1))
        = ((tail (z h r) (256 * n0 + r.val) (256 * (n0 - n)) : ℝ) : EReal))
    ∧ (∀ (h : Fin 8) (r : Fin 256) (l : Fin 128),
      accSlice (arg10.view.read (Elt Ideal) (arg10.view.writes (Elt Ideal) G10 (pb_k0_t1 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 G10 G11 n).1)) h (ix2 r l)
        = mix (z h r) (w h l) (256 * n0 + r.val) (256 * (n0 - n))) := by
  induction n with
  | zero => exact ⟨hrun, hacc⟩
  | succ n ih =>
    obtain ⟨ihr, iha⟩ := ih (by omega)
    have e := pb_k0_t1_succ 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 G10 G11 ⟨n, hle⟩
    have e1 := trip_acc 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 ⟨n, hle⟩ (arg10.view.writes (Elt Ideal) G10 (pb_k0_t1 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 G10 G11 n).1)
      (arg11.view.writes (Elt Ideal) G11 (pb_k0_t1 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 G10 G11 n).2)
    have e2 := trip_run 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 ⟨n, hle⟩ (arg10.view.writes (Elt Ideal) G10 (pb_k0_t1 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 G10 G11 n).1)
      (arg11.view.writes (Elt Ideal) G11 (pb_k0_t1 𝒱 c bd i arg3 harg3 arg4 harg4 arg5 harg5 arg6 harg6 arg7 harg7 arg8 harg8 arg9 harg9 arg10 harg10 arg11
      harg11 arg2 v4 v7 v9 v11 v13 v15 v17 v19 v21 v24 v25 v26 v27 v28 v29 v30 v31 v32 v35 v43 v75 v187 v282
      X_arg4 X_arg5 G10 G11 n).2)
    have hs : 256 * (n0 - n) = 256 * (n0 - 1 - n) + 256 := by omega
    have hs' : 256 * (n0 - (n + 1)) = 256 * (n0 - 1 - n) := by omega
    rw [hs] at ihr iha
    rw [hs']
    constructor
    · intro h r
      rw [e]
      dsimp only [tripL_k0_t1]
      rw [e2, runSlice_writes]
      exact tripRun_tail v32 hu _ (z h r) _ _ (by omega) r (hz ⟨n, hle⟩ h r) _ (ihr h r)
    · intro h r l
      rw [e]
      dsimp only [tripL_k0_t1]
      rw [e1, accSlice_writes]
      exact tripAcc_mix v32 hu _ (z h r) _ _ (by omega) r (hz ⟨n, hle⟩ h r) _ (ihr h r) _ (w h l) l
        (fun c => hw ⟨n, hle⟩ h c l) _ (iha h r l)

end Cert.KernelIdeal.Sb

end
-- ==== Proof.Body.lean ====
/- The body of the kernel at a grid point, as a whole: the diagonal tile's stores, the loop over the earlier tiles, and the
   gated output, over whatever memory it runs on. -/
module

public import proofs.«01_k».proof.Proof.Heads
public import proofs.«01_k».proof.Proof.Loop
public import proofs.«01_k».proof.Proof.Gen.KernelIdeal.Frame

@[expose] public section

set_option maxRecDepth 16384

noncomputable section

namespace Cert.KernelIdeal.Sb

open Idealize.ShloMosaic Idealize.ShloMosaic.TcCoe Idealize.ShloMosaic.Tactic
open Idealize.SL.Sem
open Cert.Sb Cert.KernelIdeal.Gen

section Blocks
variable {F : FTy → Type} [FloatOps F] [Named F]

/-- A block of queries without its unit axis. -/
def rowsOf (X : S1x256x512.Idx → Elt F .bf16) : FVec F S256x512 .bf16 :=
  shapeCast S256x512 (View.ld (Val := Elt F) (e' := .bf16) X (Rect.unit (s := S1x256x512) ![0, 0, 0] S1x256x512.size inb_S1x256x512_S1x256x512_0_0_0))
    shapeCasts_S1x256x512_S256x512

/-- A block of gates without its unit axis. -/
def gateOf (X : S1x256x512.Idx → Elt F .f32) : FVec F S256x512 .f32 :=
  shapeCast S256x512 (View.ld (Val := Elt F) (e' := .f32) X (Rect.unit (s := S1x256x512) ![0, 0, 0] S1x256x512.size inb_S1x256x512_S1x256x512_0_0_0))
    shapeCasts_S1x256x512_S256x512

/-- The row of biases. -/
def biasOf (X : S1x1x512.Idx → Elt F .f32) : FVec F S1x512 .f32 :=
  shapeCast S1x512 (View.ld (Val := Elt F) (e' := .f32) X (Rect.unit (s := S1x1x512) ![0, 0, 0] S1x1x512.size inb_S1x1x512_S1x1x512_0_0_0))
    shapeCasts_S1x1x512_S1x512

/-- The triangle of ones. -/
def triOf (X : S256x256.Idx → Elt F .bf16) : FVec F S256x256 .bf16 :=
  View.ld (Val := Elt F) (e' := .bf16) X (Rect.unit (s := S256x256) ![0, 0] S256x256.size inb_S256x256_S256x256_0_0)

/-- The tile of keys (or of values) at the queries' own positions. -/
def diagTile (i : grid0.Coords) (X : S1x8192x512.Idx → Elt F .bf16) : FVec F S256x512 .bf16 :=
  shapeCast S256x512 (View.ld (Val := Elt F) (e' := .bf16) X (Rect.unit (s := S1x8192x512) (k0_off1 i) S1x256x512.size (k0_off1_inb i)))
    shapeCasts_S1x256x512_S256x512

/-- The diagonal tile's sum of the softplus of head `h`, at every key of the tile. -/
def diagIncl (Q : Fin 8 → FVec F S256x128 .bf16) (B : Fin 8 → FVec F S1x1 .f32) (u : FVec F S256x256 .bf16) (kb : FVec F S256x512 .bf16) (h : Fin 8) :
    FVec F S256x256 .f32 :=
  inclV (onlyV causalV (spV (headScore Q B kb h))) u

/-- The diagonal tile's output sum of head `h`. -/
def accInit (Q : Fin 8 → FVec F S256x128 .bf16) (B : Fin 8 → FVec F S1x1 .f32) (u : FVec F S256x256 .bf16) (kb vb : FVec F S256x512 .bf16) (h : Fin 8) :
    FVec F S256x128 .f32 :=
  diagAcc causalV (pairV h vb) (headScore Q B kb h) (diagIncl Q B u kb h)

/-- The diagonal tile's sum of the softplus of head `h`. -/
def runInit (Q : Fin 8 → FVec F S256x128 .bf16) (B : Fin 8 → FVec F S1x1 .f32) (u : FVec F S256x256 .bf16) (kb : FVec F S256x512 .bf16) (h : Fin 8) :
    FVec F S256x1 .f32 :=
  diagRun (diagIncl Q B u kb h)

end Blocks

section Body
variable {F : FTy → Type} [FloatOps F] [Named F]
variable (c : Dev nD) (i : grid0.Coords) (arg3 : Memref sig .tc .vmem S1x256x512 .bf16) (harg3 : arg3.IsWhole)
   (arg4 : Memref sig .tc .vmem S1x8192x512 .bf16) (harg4 : arg4.IsWhole) (arg5 : Memref sig .tc .vmem S1x8192x512 .bf16)
   (harg5 : arg5.IsWhole) (arg6 : Memref sig .tc .vmem S1x256x512 .f32) (harg6 : arg6.IsWhole)
   (arg7 : Memref sig .tc .vmem S1x1x512 .f32) (harg7 : arg7.IsWhole) (arg8 : Memref sig .tc .vmem S256x256 .bf16)
   (harg8 : arg8.IsWhole) (arg9 : Memref sig .tc .vmem S1x256x512 .f32) (harg9 : arg9.IsWhole)
   (arg10 : Memref sig .tc .vmem S8x256x128 .f32) (harg10 : arg10.IsWhole) (arg11 : Memref sig .tc .vmem S8x256x1 .f32)
   (harg11 : arg11.IsWhole) (x0 : Vec F S1x256x512 .bf16) (x1 : Vec F S1x8192x512 .bf16) (x2 : Vec F S1x8192x512 .bf16)
   (x3 : Vec F S1x256x512 .f32) (x4 : Vec F S1x1x512 .f32) (x5 : Vec F S256x256 .bf16)

/-- The heads' queries. -/
abbrev qHeads : Fin 8 → FVec F S256x128 .bf16 :=
  heads (kernelRun0_A.sl.v7 c arg3 harg3 x0) (kernelRun0_A.sl.v9 c arg3 harg3 x0) (kernelRun0_A.sl.v11 c arg3 harg3 x0) (kernelRun0_A.sl.v13 c arg3 harg3 x0)
    (kernelRun0_A.sl.v15 c arg3 harg3 x0) (kernelRun0_A.sl.v17 c arg3 harg3 x0) (kernelRun0_A.sl.v19 c arg3 harg3 x0) (kernelRun0_A.sl.v21 c arg3 harg3 x0)

/-- The heads' biases. -/
abbrev bHeads : Fin 8 → FVec F S1x1 .f32 :=
  heads (kernelRun0_A.sl.v24 c arg7 harg7 x4) (kernelRun0_A.sl.v25 c arg7 harg7 x4) (kernelRun0_A.sl.v26 c arg7 harg7 x4) (kernelRun0_A.sl.v27 c arg7 harg7 x4)
    (kernelRun0_A.sl.v28 c arg7 harg7 x4) (kernelRun0_A.sl.v29 c arg7 harg7 x4) (kernelRun0_A.sl.v30 c arg7 harg7 x4) (kernelRun0_A.sl.v31 c arg7 harg7 x4)

theorem qHeads_eq (h : Fin 8) : qHeads c arg3 harg3 x0 h = headQ h (rowsOf (arg3.view.read (Elt F) (harg3.unread x0))) := by
  fin_cases h <;> rfl

theorem bHeads_eq (h : Fin 8) : bHeads c arg7 harg7 x4 h = headB h (biasOf (arg7.view.read (Elt F) (harg7.unread x4))) := by
  fin_cases h <;> rfl

theorem diag_acc_pieces : kernelRun0_A.sl.HS0_8 c i arg3 harg3 arg4 harg4 arg5 harg5 arg7 harg7 arg8 harg8 x0 x1 x2 x4 x5
    = accPieces (accInit (qHeads c arg3 harg3 x0) (bHeads c arg7 harg7 x4) (triOf (arg8.view.read (Elt F) (harg8.unread x5)))
        (diagTile i (arg4.view.read (Elt F) (harg4.unread x1))) (diagTile i (arg5.view.read (Elt F) (harg5.unread x2)))) := by
  rfl

theorem diag_run_pieces : kernelRun0_A.sl.HS1_8 c i arg3 harg3 arg4 harg4 arg7 harg7 arg8 harg8 x0 x1 x4 x5
    = runPieces (runInit (qHeads c arg3 harg3 x0) (bHeads c arg7 harg7 x4) (triOf (arg8.view.read (Elt F) (harg8.unread x5)))
        (diagTile i (arg4.view.read (Elt F) (harg4.unread x1)))) := by
  rfl

/-- The stores of the first `n` trips over the earlier tiles. -/
abbrev loopPieces (n : ℕ) : List (View.Piece (Elt F) S8x256x128 .f32) × List (View.Piece (Elt F) S8x256x1 .f32) :=
  pb_k0_t1 Variants.none c none i arg3 harg3 arg4 harg4 arg5 harg5 arg6 harg6 arg7 harg7 arg8 harg8 arg9 harg9 arg10 harg10 arg11 harg11
    (BitVec.ofNat 32 (i 2).val) laneV (kernelRun0_A.sl.v7 c arg3 harg3 x0) (kernelRun0_A.sl.v9 c arg3 harg3 x0)
    (kernelRun0_A.sl.v11 c arg3 harg3 x0) (kernelRun0_A.sl.v13 c arg3 harg3 x0) (kernelRun0_A.sl.v15 c arg3 harg3 x0)
    (kernelRun0_A.sl.v17 c arg3 harg3 x0) (kernelRun0_A.sl.v19 c arg3 harg3 x0) (kernelRun0_A.sl.v21 c arg3 harg3 x0)
    (kernelRun0_A.sl.v24 c arg7 harg7 x4) (kernelRun0_A.sl.v25 c arg7 harg7 x4) (kernelRun0_A.sl.v26 c arg7 harg7 x4)
    (kernelRun0_A.sl.v27 c arg7 harg7 x4) (kernelRun0_A.sl.v28 c arg7 harg7 x4) (kernelRun0_A.sl.v29 c arg7 harg7 x4)
    (kernelRun0_A.sl.v30 c arg7 harg7 x4) (kernelRun0_A.sl.v31 c arg7 harg7 x4) (kernelRun0_A.sl.r c arg8 harg8 x5) causalV
    (kernelRun0_A.sl.r_1 c i arg5 harg5 x2) (kernelRun0_A.sl.r_9 c i arg3 harg3 arg4 harg4 arg7 harg7 x0 x1 x4)
    (kernelRun0_A.sl.v187 c i arg3 harg3 arg4 harg4 arg7 harg7 arg8 harg8 x0 x1 x4 x5)
    (kernelRun0_A.sl.v282 c i arg3 harg3 arg4 harg4 arg7 harg7 arg8 harg8 x0 x1 x4 x5)
    (harg4.unread x1) (harg5.unread x2) (arg10.view.writes (Elt F) arg10.view.junk (kernelRun0_A.sl.HS0_8 c i arg3 harg3 arg4 harg4 arg5 harg5 arg7 harg7 arg8 harg8 x0 x1 x2 x4 x5))
    (arg11.view.writes (Elt F) arg11.view.junk (kernelRun0_A.sl.HS1_8 c i arg3 harg3 arg4 harg4 arg7 harg7 arg8 harg8 x0 x1 x4 x5)) n

/-- The stores of the first `n` trips of the remainder loop. -/
abbrev restPieces (n : ℕ) : List (View.Piece (Elt F) S8x256x128 .f32) × List (View.Piece (Elt F) S8x256x1 .f32) :=
  pb_k0_t2 Variants.none c none i arg3 harg3 arg4 harg4 arg5 harg5 arg6 harg6 arg7 harg7 arg8 harg8 arg9 harg9 arg10 harg10 arg11 harg11
    (BitVec.ofNat 32 (i 2).val) laneV (kernelRun0_A.sl.v7 c arg3 harg3 x0) (kernelRun0_A.sl.v9 c arg3 harg3 x0)
    (kernelRun0_A.sl.v11 c arg3 harg3 x0) (kernelRun0_A.sl.v13 c arg3 harg3 x0) (kernelRun0_A.sl.v15 c arg3 harg3 x0)
    (kernelRun0_A.sl.v17 c arg3 harg3 x0) (kernelRun0_A.sl.v19 c arg3 harg3 x0) (kernelRun0_A.sl.v21 c arg3 harg3 x0)
    (kernelRun0_A.sl.v24 c arg7 harg7 x4) (kernelRun0_A.sl.v25 c arg7 harg7 x4) (kernelRun0_A.sl.v26 c arg7 harg7 x4)
    (kernelRun0_A.sl.v27 c arg7 harg7 x4) (kernelRun0_A.sl.v28 c arg7 harg7 x4) (kernelRun0_A.sl.v29 c arg7 harg7 x4)
    (kernelRun0_A.sl.v30 c arg7 harg7 x4) (kernelRun0_A.sl.v31 c arg7 harg7 x4) (kernelRun0_A.sl.r c arg8 harg8 x5) causalV
    (kernelRun0_A.sl.r_1 c i arg5 harg5 x2) (kernelRun0_A.sl.r_9 c i arg3 harg3 arg4 harg4 arg7 harg7 x0 x1 x4)
    (kernelRun0_A.sl.v187 c i arg3 harg3 arg4 harg4 arg7 harg7 arg8 harg8 x0 x1 x4 x5)
    (kernelRun0_A.sl.v282 c i arg3 harg3 arg4 harg4 arg7 harg7 arg8 harg8 x0 x1 x4 x5) (kernelRun0_A.sl.v308 i)
    (harg4.unread x1) (harg5.unread x2)
    (arg10.view.writes (Elt F) arg10.view.junk ((loopPieces c i arg3 harg3 arg4 harg4 arg5 harg5 arg6 harg6 arg7 harg7 arg8 harg8 arg9 harg9 arg10 harg10 arg11 harg11 x0 x1 x2 x4 x5 (k0_t1_loop i).trips).1 ++ (kernelRun0_A.sl.HS0_8 c i arg3 harg3 arg4 harg4 arg5 harg5 arg7 harg7 arg8 harg8 x0 x1 x2 x4 x5)))
    (arg11.view.writes (Elt F) arg11.view.junk ((loopPieces c i arg3 harg3 arg4 harg4 arg5 harg5 arg6 harg6 arg7 harg7 arg8 harg8 arg9 harg9 arg10 harg10 arg11 harg11 x0 x1 x2 x4 x5 (k0_t1_loop i).trips).2 ++ (kernelRun0_A.sl.HS1_8 c i arg3 harg3 arg4 harg4 arg7 harg7 arg8 harg8 x0 x1 x4 x5))) n

/-- The output sums when the loops are done. -/
def accFinal : S8x256x128.Idx → Elt F .f32 :=
  arg10.view.read (Elt F) (arg10.view.writes (Elt F) arg10.view.junk
    ((restPieces c i arg3 harg3 arg4 harg4 arg5 harg5 arg6 harg6 arg7 harg7 arg8 harg8 arg9 harg9 arg10 harg10 arg11 harg11 x0 x1 x2 x4 x5 (k0_t2_loop i).trips).1 ++
      ((loopPieces c i arg3 harg3 arg4 harg4 arg5 harg5 arg6 harg6 arg7 harg7 arg8 harg8 arg9 harg9 arg10 harg10 arg11 harg11 x0 x1 x2 x4 x5 (k0_t1_loop i).trips).1 ++ (kernelRun0_A.sl.HS0_8 c i arg3 harg3 arg4 harg4 arg5 harg5 arg7 harg7 arg8 harg8 x0 x1 x2 x4 x5))))

theorem out_pay : kernelRun0_A.sl.r_21 c i arg3 harg3 arg4 harg4 arg5 harg5 arg6 harg6 arg7 harg7 arg8 harg8 arg9 harg9 arg10 harg10 arg11 harg11 x0 x1 x2 x3 x4 x5
    = gateV (accSlice (accFinal c i arg3 harg3 arg4 harg4 arg5 harg5 arg6 harg6 arg7 harg7 arg8 harg8 arg9 harg9 arg10 harg10 arg11 harg11 x0 x1 x2 x4 x5))
        (gateOf (arg6.view.read (Elt F) (harg6.unread x3))) := by
  rfl

theorem out_block : out0_A_6 c i arg3 harg3 arg4 harg4 arg5 harg5 arg6 harg6 arg7 harg7 arg8 harg8 arg9 harg9 arg10 harg10 arg11 harg11 x0 x1 x2 x3 x4 x5
    = shapeCast S1x256x512 (gateV (accSlice (accFinal c i arg3 harg3 arg4 harg4 arg5 harg5 arg6 harg6 arg7 harg7 arg8 harg8 arg9 harg9 arg10 harg10 arg11 harg11 x0 x1 x2 x4 x5))
        (gateOf (arg6.view.read (Elt F) (harg6.unread x3)))) shapeCasts_S256x512_S1x256x512 := by
  rw [← out_pay]
  unfold out0_A_6 kernelRun0_A
  dsimp only
  rw [View.read_writes_eq_canon _ _ _ (View.cover_of_tiledL _ S1x256x512.size rfl)]
  exact View.canon_unit_zero (funext fun a => by fin_cases a <;> rfl) _ _

end Body

end Cert.KernelIdeal.Sb

end
-- ==== Proof.Tiles.lean ====
/- Where the kernel's loads lie: the tiles of keys and values that a grid point reads, the number of trips, and the blocks
   without their unit axes, read at a place. -/
module

public import proofs.«01_k».proof.Proof.Body

@[expose] public section

set_option maxRecDepth 16384

noncomputable section

namespace Cert.KernelIdeal.Sb

open Idealize.ShloMosaic Idealize.ShloMosaic.TcCoe Idealize.ShloMosaic.Tactic
open Idealize.SL.Sem
open Cert.Sb Cert.KernelIdeal.Gen

/-- As many trips as there are tiles before the queries' own. -/
theorem trips_loop : ∀ i : grid0.Coords, (k0_t1_loop i).trips = (i 2).val := by decide +kernel

/-- The remainder loop makes no trip. -/
theorem trips_rest : ∀ i : grid0.Coords, (k0_t2_loop i).trips = 0 := by decide +kernel

theorem off_diag : ∀ i : grid0.Coords, k0_off1 i = ![0, 256 * (i 2).val, 0] := by decide +kernel

theorem off_trip : ∀ (i : grid0.Coords) (k : Fin (k0_t1_loop i).trips), k0_off2 i k = ![0, 256 * ((i 2).val - 1 - k.val), 0] := by decide +kernel

theorem tripTile_at (i : grid0.Coords) (k : Fin (k0_t1_loop i).trips) (X : S1x8192x512.Idx → Elt Ideal .bf16) (c : Fin 256) (d : Fin 512) (s : Fin 8192)
    (hs : s.val = 256 * ((i 2).val - 1 - k.val) + c.val) : tripTile (F := Ideal) i k X (ix2 c d) = X (ix3 (0 : Fin 1) s d) := by
  refine (shapeCast_dropUnit_apply S256x512.size _ _ _).trans ?_
  refine View.ld_unit_apply_of (Val := Elt Ideal) (e := .bf16) (S := S1x8192x512) X _ _ _ _ _ fun a => ?_
  refine Eq.trans ?_ (congrArg (· + _) (congrFun (off_trip i k) a).symm)
  fin_cases a
  · rfl
  · exact hs
  · exact (Nat.zero_add _).symm

theorem diagTile_at (i : grid0.Coords) (X : S1x8192x512.Idx → Elt Ideal .bf16) (c : Fin 256) (d : Fin 512) (s : Fin 8192)
    (hs : s.val = 256 * (i 2).val + c.val) : diagTile (F := Ideal) i X (ix2 c d) = X (ix3 (0 : Fin 1) s d) := by
  refine (shapeCast_dropUnit_apply S256x512.size _ _ _).trans ?_
  refine View.ld_unit_apply_of (Val := Elt Ideal) (e := .bf16) (S := S1x8192x512) X _ _ _ _ _ fun a => ?_
  refine Eq.trans ?_ (congrArg (· + _) (congrFun (off_diag i) a).symm)
  fin_cases a
  · rfl
  · exact hs
  · exact (Nat.zero_add _).symm

theorem rowsOf_at (X : S1x256x512.Idx → Elt Ideal .bf16) (r : Fin 256) (d : Fin 512) : rowsOf (F := Ideal) X (ix2 r d) = X (ix3 (0 : Fin 1) r d) := by
  unfold rowsOf
  pointwise

theorem gateOf_at (X : S1x256x512.Idx → Elt Ideal .f32) (r : Fin 256) (d : Fin 512) : gateOf (F := Ideal) X (ix2 r d) = X (ix3 (0 : Fin 1) r d) := by
  unfold gateOf
  pointwise

theorem biasOf_at (X : S1x1x512.Idx → Elt Ideal .f32) (d : Fin 512) : biasOf (F := Ideal) X (ix2 (0 : Fin 1) d) = X (ix3 (0 : Fin 1) (0 : Fin 1) d) := by
  unfold biasOf
  pointwise

theorem triOf_at (X : S256x256.Idx → Elt Ideal .bf16) (r c : Fin 256) : triOf (F := Ideal) X (ix2 r c) = X (ix2 r c) := by
  unfold triOf
  pointwise

end Cert.KernelIdeal.Sb

end
-- ==== Proof.Output.lean ====
/- What a grid point writes: for each query row and column, the stick-breaking sum over all earlier keys, gated. -/
module

public import proofs.«01_k».proof.Proof.Tiles

@[expose] public section

set_option maxRecDepth 16384

noncomputable section

namespace Cert.KernelIdeal.Sb

open Idealize.ShloMosaic Idealize.ShloMosaic.TcCoe Idealize.ShloMosaic.Tactic
open Idealize.SL.Sem
open Cert.Sb Cert.KernelIdeal.Gen

variable (c : Dev nD) (i : grid0.Coords) (arg3 : Memref sig .tc .vmem S1x256x512 .bf16) (harg3 : arg3.IsWhole)
   (arg4 : Memref sig .tc .vmem S1x8192x512 .bf16) (harg4 : arg4.IsWhole) (arg5 : Memref sig .tc .vmem S1x8192x512 .bf16)
   (harg5 : arg5.IsWhole) (arg6 : Memref sig .tc .vmem S1x256x512 .f32) (harg6 : arg6.IsWhole)
   (arg7 : Memref sig .tc .vmem S1x1x512 .f32) (harg7 : arg7.IsWhole) (arg8 : Memref sig .tc .vmem S256x256 .bf16)
   (harg8 : arg8.IsWhole) (arg9 : Memref sig .tc .vmem S1x256x512 .f32) (harg9 : arg9.IsWhole)
   (arg10 : Memref sig .tc .vmem S8x256x128 .f32) (harg10 : arg10.IsWhole) (arg11 : Memref sig .tc .vmem S8x256x1 .f32)
   (harg11 : arg11.IsWhole) (x0 : Vec Ideal S1x256x512 .bf16) (x1 : Vec Ideal S1x8192x512 .bf16) (x2 : Vec Ideal S1x8192x512 .bf16)
   (x3 : Vec Ideal S1x256x512 .f32) (x4 : Vec Ideal S1x1x512 .f32) (x5 : Vec Ideal S256x256 .bf16)
   (q : Fin 256 → Fin 512 → ℝ) (kk : ℕ → Fin 512 → ℝ) (b : Fin 512 → ℝ) (w : Fin 512 → ℕ → EReal)

/-- The column of the values that lane `l` of head `h`'s pair holds. -/
def pairCol (h : Fin 8) (l : Fin 128) : Fin 512 := ⟨128 * (h.val / 2) + l.val, by omega⟩

/-- The output block's rows under their unit axis. -/
theorem shapeCast_addUnit_at (x : FVec Ideal S256x512 .f32) (r : Fin 256) (d : Fin 512) :
    shapeCast S1x256x512 x shapeCasts_S256x512_S1x256x512 (ix3 (0 : Fin 1) r d) = x (ix2 r d) := by
  pointwise

section Facts
variable (hu : ∀ k c : Fin 256, x5 (ix2 k c) = if c.val ≤ k.val then (1 : EReal) else 0)
  (hq : ∀ (r : Fin 256) (d : Fin 512), x0 (ix3 (0 : Fin 1) r d) = (q r d : EReal))
  (hk : ∀ (s : Fin 8192) (d : Fin 512), x1 (ix3 (0 : Fin 1) s d) = (kk s.val d : EReal))
  (hv : ∀ (s : Fin 8192) (d : Fin 512), x2 (ix3 (0 : Fin 1) s d) = w d s.val)
  (hb : ∀ d : Fin 512, x4 (ix3 (0 : Fin 1) (0 : Fin 1) d) = (b d : EReal))

include hu in
theorem tri_ones (k c : Fin 256) : triOf (F := Ideal) (arg8.view.read (Elt Ideal) (harg8.unread x5)) (ix2 k c) = if c.val ≤ k.val then (1 : EReal) else 0 := by
  rw [harg8.read_unread, triOf_at]
  exact hu k c

include hq hk hb in
/-- The scores of a tile of keys that starts at position `a`. -/
theorem score_at (kb : FVec Ideal S256x512 .bf16) (a : ℕ) (h : Fin 8) (r e : Fin 256) (hkb : ∀ d, kb (ix2 e d) = (kk (a + e.val) d : EReal)) :
    headScore (qHeads c arg3 harg3 x0) (bHeads c arg7 harg7 x4) kb h (ix2 r e) = ((dotB h (q r) (kk (a + e.val)) b : ℝ) : EReal) := by
  refine headScore_at _ _ _ _ (qHeads_eq c arg3 harg3 x0) (bHeads_eq c arg7 harg7 x4) kb h r e (q r) (kk (a + e.val)) b ?_ hkb ?_
  · intro d
    rw [harg3.read_unread, rowsOf_at]
    exact hq r d
  · intro d
    rw [harg7.read_unread, biasOf_at]
    exact hb d

include hk in
theorem key_trip (k : Fin (k0_t1_loop i).trips) (e : Fin 256) (d : Fin 512) :
    tripTile (F := Ideal) i k (arg4.view.read (Elt Ideal) (harg4.unread x1)) (ix2 e d) = (kk (256 * ((i 2).val - 1 - k.val) + e.val) d : EReal) := by
  have h2 : (i 2).val < 32 := (i 2).isLt
  rw [harg4.read_unread, tripTile_at i k x1 e d ⟨256 * ((i 2).val - 1 - k.val) + e.val, by omega⟩ rfl]
  exact hk _ d

include hk in
theorem key_diag (e : Fin 256) (d : Fin 512) :
    diagTile (F := Ideal) i (arg4.view.read (Elt Ideal) (harg4.unread x1)) (ix2 e d) = (kk (256 * (i 2).val + e.val) d : EReal) := by
  have h2 : (i 2).val < 32 := (i 2).isLt
  rw [harg4.read_unread, diagTile_at i x1 e d ⟨256 * (i 2).val + e.val, by omega⟩ rfl]
  exact hk _ d

include hv in
theorem val_trip (k : Fin (k0_t1_loop i).trips) (h : Fin 8) (e : Fin 256) (l : Fin 128) :
    pairV h (tripTile (F := Ideal) i k (arg5.view.read (Elt Ideal) (harg5.unread x2))) (ix2 e l) = w (pairCol h l) (256 * ((i 2).val - 1 - k.val) + e.val) := by
  have h2 : (i 2).val < 32 := (i 2).isLt
  rw [pairV_at h _ e l (pairCol h l) rfl, harg5.read_unread, tripTile_at i k x2 e _ ⟨256 * ((i 2).val - 1 - k.val) + e.val, by omega⟩ rfl]
  exact hv _ _

include hv in
theorem val_diag (h : Fin 8) (e : Fin 256) (l : Fin 128) :
    pairV h (diagTile (F := Ideal) i (arg5.view.read (Elt Ideal) (harg5.unread x2))) (ix2 e l) = w (pairCol h l) (256 * (i 2).val + e.val) := by
  have h2 : (i 2).val < 32 := (i 2).isLt
  rw [pairV_at h _ e l (pairCol h l) rfl, harg5.read_unread, diagTile_at i x2 e _ ⟨256 * (i 2).val + e.val, by omega⟩ rfl]
  exact hv _ _

include hu hq hk hb in
/-- Before the loop: the sums of the softplus over the diagonal tile. -/
theorem run_start (h : Fin 8) (r : Fin 256) :
    runSlice (arg11.view.read (Elt Ideal) (arg11.view.writes (Elt Ideal) arg11.view.junk
        (kernelRun0_A.sl.HS1_8 c i arg3 harg3 arg4 harg4 arg7 harg7 arg8 harg8 x0 x1 x4 x5))) h (ix2 r (0 : Fin 1))
      = ((tail (fun s => dotB h (q r) (kk s) b) (256 * (i 2).val + r.val) (256 * (i 2).val) : ℝ) : EReal) := by
  have e := runSlice_writes (F := Ideal) arg11 arg11.view.junk (runInit (qHeads c arg3 harg3 x0) (bHeads c arg7 harg7 x4)
    (triOf (arg8.view.read (Elt Ideal) (harg8.unread x5))) (diagTile i (arg4.view.read (Elt Ideal) (harg4.unread x1)))) [] h
  rw [List.append_nil] at e
  rw [diag_run_pieces, e]
  exact diagRun_tail _ (tri_ones arg8 harg8 x5 hu) causalV causalV_at _ _ _ r fun e =>
    score_at c arg3 harg3 arg7 harg7 x0 x1 x4 q kk b hq hk hb _ _ h r e (key_diag i arg4 harg4 x1 kk hk e)

include hu hq hk hb hv in
/-- Before the loop: the output sums over the diagonal tile. -/
theorem acc_start (h : Fin 8) (r : Fin 256) (l : Fin 128) :
    accSlice (arg10.view.read (Elt Ideal) (arg10.view.writes (Elt Ideal) arg10.view.junk
        (kernelRun0_A.sl.HS0_8 c i arg3 harg3 arg4 harg4 arg5 harg5 arg7 harg7 arg8 harg8 x0 x1 x2 x4 x5))) h (ix2 r l)
      = mix (fun s => dotB h (q r) (kk s) b) (w (pairCol h l)) (256 * (i 2).val + r.val) (256 * (i 2).val) := by
  have e := accSlice_writes (F := Ideal) arg10 arg10.view.junk (accInit (qHeads c arg3 harg3 x0) (bHeads c arg7 harg7 x4)
    (triOf (arg8.view.read (Elt Ideal) (harg8.unread x5))) (diagTile i (arg4.view.read (Elt Ideal) (harg4.unread x1)))
    (diagTile i (arg5.view.read (Elt Ideal) (harg5.unread x2)))) [] h
  rw [List.append_nil] at e
  rw [diag_acc_pieces, e]
  exact diagAcc_mix _ (tri_ones arg8 harg8 x5 hu) causalV causalV_at _ _ _ r (fun e =>
    score_at c arg3 harg3 arg7 harg7 x0 x1 x4 q kk b hq hk hb _ _ h r e (key_diag i arg4 harg4 x1 kk hk e)) _ _ l
    (fun e => val_diag i arg5 harg5 x2 w hv h e l)

include hu hq hk hb hv in
/-- When the loops are done each head's output sum runs over all keys before the query. -/
theorem accFinal_at (h : Fin 8) (r : Fin 256) (l : Fin 128) :
    accSlice (accFinal (F := Ideal) c i arg3 harg3 arg4 harg4 arg5 harg5 arg6 harg6 arg7 harg7 arg8 harg8 arg9 harg9 arg10 harg10 arg11 harg11
      x0 x1 x2 x4 x5) h (ix2 r l)
      = mix (fun s => dotB h (q r) (kk s) b) (w (pairCol h l)) (256 * (i 2).val + r.val) 0 := by
  have hs := (loop_state Variants.none c none i arg3 harg3 arg4 harg4 arg5 harg5 arg6 harg6 arg7 harg7 arg8 harg8 arg9 harg9 arg10 harg10 arg11 harg11
    (BitVec.ofNat 32 (i 2).val) laneV (kernelRun0_A.sl.v7 c arg3 harg3 x0) (kernelRun0_A.sl.v9 c arg3 harg3 x0)
    (kernelRun0_A.sl.v11 c arg3 harg3 x0) (kernelRun0_A.sl.v13 c arg3 harg3 x0) (kernelRun0_A.sl.v15 c arg3 harg3 x0)
    (kernelRun0_A.sl.v17 c arg3 harg3 x0) (kernelRun0_A.sl.v19 c arg3 harg3 x0) (kernelRun0_A.sl.v21 c arg3 harg3 x0)
    (kernelRun0_A.sl.v24 c arg7 harg7 x4) (kernelRun0_A.sl.v25 c arg7 harg7 x4) (kernelRun0_A.sl.v26 c arg7 harg7 x4)
    (kernelRun0_A.sl.v27 c arg7 harg7 x4) (kernelRun0_A.sl.v28 c arg7 harg7 x4) (kernelRun0_A.sl.v29 c arg7 harg7 x4)
    (kernelRun0_A.sl.v30 c arg7 harg7 x4) (kernelRun0_A.sl.v31 c arg7 harg7 x4) (kernelRun0_A.sl.r c arg8 harg8 x5) causalV
    (kernelRun0_A.sl.r_1 c i arg5 harg5 x2) (kernelRun0_A.sl.r_9 c i arg3 harg3 arg4 harg4 arg7 harg7 x0 x1 x4)
    (kernelRun0_A.sl.v187 c i arg3 harg3 arg4 harg4 arg7 harg7 arg8 harg8 x0 x1 x4 x5)
    (kernelRun0_A.sl.v282 c i arg3 harg3 arg4 harg4 arg7 harg7 arg8 harg8 x0 x1 x4 x5)
    (harg4.unread x1) (harg5.unread x2) (tri_ones arg8 harg8 x5 hu) (i 2).val (trips_loop i).le
    (fun h r s => dotB h (q r) (kk s) b) (fun h l => w (pairCol h l))
    (fun k h r e => score_at c arg3 harg3 arg7 harg7 x0 x1 x4 q kk b hq hk hb _ _ h r e (key_trip i arg4 harg4 x1 kk hk k e))
    (fun k h e l => val_trip i arg5 harg5 x2 w hv k h e l)
    _ _ (run_start c i arg3 harg3 arg4 harg4 arg7 harg7 arg8 harg8 arg11 x0 x1 x4 x5 q kk b hu hq hk hb)
    (acc_start c i arg3 harg3 arg4 harg4 arg5 harg5 arg7 harg7 arg8 harg8 arg10 x0 x1 x2 x4 x5 q kk b w hu hq hk hv hb)
    (k0_t1_loop i).trips le_rfl).2 h r l
  have e0 : 256 * ((i 2).val - (k0_t1_loop i).trips) = 0 := by rw [trips_loop]; omega
  rw [e0] at hs
  have er : (restPieces c i arg3 harg3 arg4 harg4 arg5 harg5 arg6 harg6 arg7 harg7 arg8 harg8 arg9 harg9 arg10 harg10 arg11 harg11 x0 x1 x2 x4 x5
      (k0_t2_loop i).trips).1 = [] := by
    rw [trips_rest]
    rfl
  unfold accFinal
  rw [er, List.nil_append, View.writes_append]
  exact hs

include hu hq hk hb hv in
/-- What the body leaves in the output's block. -/
theorem out_at (h : Fin 8) (r : Fin 256) (d : Fin 64) :
    out0_A_6 (F := Ideal) c i arg3 harg3 arg4 harg4 arg5 harg5 arg6 harg6 arg7 harg7 arg8 harg8 arg9 harg9 arg10 harg10 arg11 harg11 x0 x1 x2 x3 x4 x5
        (ix3 (0 : Fin 1) r (col h d))
      = mix (fun s => dotB h (q r) (kk s) b) (w (col h d)) (256 * (i 2).val + r.val) 0 * silu (x3 (ix3 (0 : Fin 1) r (col h d))) := by
  have hc : pairCol h ⟨64 * (h.val % 2) + d.val, by omega⟩ = col h d := Fin.ext (by
    show 128 * (h.val / 2) + (64 * (h.val % 2) + d.val) = 64 * h.val + d.val
    omega)
  rw [out_block]
  refine (shapeCast_addUnit_at _ r (col h d)).trans ?_
  rw [gateV_at, accFinal_at c i arg3 harg3 arg4 harg4 arg5 harg5 arg6 harg6 arg7 harg7 arg8 harg8 arg9 harg9 arg10 harg10 arg11 harg11
    x0 x1 x2 x4 x5 q kk b w hu hq hk hv hb, hc, harg6.read_unread, gateOf_at]

end Facts

end Cert.KernelIdeal.Sb

end
-- ==== Proof.Spec.lean ====
/- The attention as one function of the queries, keys, values, gates and biases: what both programs compute. -/
module

public import proofs.«01_k».proof.Proof.Heads

@[expose] public section

set_option maxRecDepth 16384

noncomputable section

namespace Cert.KernelIdeal.Sb

open Idealize.ShloMosaic Idealize.ShloMosaic.TcCoe Idealize.ShloMosaic.Tactic
open Idealize.SL.Sem
open Cert.Sb Cert.KernelIdeal.Gen

/-- Row `s` of a sequence, zero past its end. -/
def rowAt (X : Fin 8192 → Fin 512 → EReal) (s : ℕ) (d : Fin 512) : EReal := if h : s < 8192 then X ⟨s, h⟩ d else 0

theorem rowAt_fin (X : Fin 8192 → Fin 512 → EReal) (s : Fin 8192) (d : Fin 512) : rowAt X s.val d = X s d := dif_pos s.isLt

/-- The head of a column. -/
def headOf (e : Fin 512) : Fin 8 := ⟨e.val / 64, by omega⟩

/-- The place of a column in its head. -/
def laneOf (e : Fin 512) : Fin 64 := ⟨e.val % 64, by omega⟩

theorem col_headOf (e : Fin 512) : col (headOf e) (laneOf e) = e := Fin.ext (Nat.div_add_mod e.val 64)

theorem headOf_col (h : Fin 8) (d : Fin 64) : headOf (col h d) = h := Fin.ext (by show (64 * h.val + d.val) / 64 = h.val; omega)

/-- The score of a query row against key `s`, in head `h`. -/
def score (q : Fin 512 → EReal) (K : Fin 8192 → Fin 512 → EReal) (b : Fin 8 → EReal) (h : Fin 8) (s : ℕ) : ℝ :=
  dotB h (fun d => (q d).toReal) (fun d => (rowAt K s d).toReal) (fun d => (b (headOf d)).toReal)

/-- The stick-breaking attention, gated. -/
def attn (Q K V G : Fin 4 → Fin 8192 → Fin 512 → EReal) (b : Fin 8 → EReal) (n : Fin 4) (t : Fin 8192) (e : Fin 512) : EReal :=
  mix (score (Q n t) (K n) b (headOf e)) (fun s => rowAt (V n) s e) t.val 0 * silu (G n t e)

/-- An array of three axes as a function of its coordinates. -/
abbrev cur {a b c : ℕ} (X : (⟨3, ![a, b, c]⟩ : Shape).Idx → EReal) (n : Fin a) (t : Fin b) (e : Fin c) : EReal := X (ix3 n t e)

end Cert.KernelIdeal.Sb

end
-- ==== Proof.Words.lean ====
/- The kernel's constant matrix: ones where the column is at most the row. The first half of its rows, entry by entry. -/
module

public import proofs.«01_k».proof.KernelIdeal

@[expose] public section

set_option maxRecDepth 16384

noncomputable section

namespace Cert.KernelIdeal.Sb

open Idealize.ShloMosaic
open Cert.KernelIdeal

/-- The first `n` entries of row `k` are right. -/
def rowCheck (k n : ℕ) : Bool :=
  Nat.rec true (fun c ih => Bool.and (Nat.beq (lit0t (256 * k + c)).toNat (bif Nat.ble c k then 16256 else 0)) ih) n

/-- The `n` rows from row `a` on are right. -/
def rowsCheck (a n : ℕ) : Bool := Nat.rec true (fun k ih => Bool.and (rowCheck (a + k) 256) ih) n

theorem rowCheck_entry (k : ℕ) : ∀ n, rowCheck k n = true → ∀ c < n, (lit0t (256 * k + c)).toNat = if c ≤ k then 16256 else 0
  | 0, _, c, hc => absurd hc (Nat.not_lt_zero c)
  | n + 1, h, c, hc => by
    have h' : Bool.and (Nat.beq (lit0t (256 * k + n)).toNat (bif Nat.ble n k then 16256 else 0)) (rowCheck k n) = true := h
    obtain ⟨h1, h2⟩ := (Bool.and_eq_true_iff ..).1 h'
    rcases Nat.lt_succ_iff_lt_or_eq.1 hc with hc' | rfl
    · exact rowCheck_entry k n h2 c hc'
    · rw [Nat.eq_of_beq_eq_true h1]
      by_cases hk : c ≤ k
      · rw [if_pos hk, show Nat.ble c k = true from Nat.ble_eq_true_of_le hk]
        rfl
      · rw [if_neg hk, show Nat.ble c k = false from by
          cases e : Nat.ble c k
          · rfl
          · exact absurd (Nat.le_of_ble_eq_true e) hk]
        rfl

theorem rowsCheck_row (a : ℕ) : ∀ n, rowsCheck a n = true → ∀ k < n, rowCheck (a + k) 256 = true
  | 0, _, k, hk => absurd hk (Nat.not_lt_zero k)
  | n + 1, h, k, hk => by
    have h' : Bool.and (rowCheck (a + n) 256) (rowsCheck a n) = true := h
    obtain ⟨h1, h2⟩ := (Bool.and_eq_true_iff ..).1 h'
    rcases Nat.lt_succ_iff_lt_or_eq.1 hk with hk' | rfl
    · exact rowsCheck_row a n h2 k hk'
    · exact h1

theorem rows_0 : rowsCheck 0 32 = true := by decide +kernel
theorem rows_32 : rowsCheck 32 32 = true := by decide +kernel
theorem rows_64 : rowsCheck 64 32 = true := by decide +kernel
theorem rows_96 : rowsCheck 96 32 = true := by decide +kernel

end Cert.KernelIdeal.Sb

end
-- ==== Proof.Words2.lean ====
/- The kernel's constant matrix: ones where the column is at most the row. The other half. -/
module

public import proofs.«01_k».proof.Proof.Words

@[expose] public section

set_option maxRecDepth 16384

noncomputable section

namespace Cert.KernelIdeal.Sb

open Idealize.ShloMosaic
open Cert.KernelIdeal

theorem rows_128 : rowsCheck 128 32 = true := by decide +kernel
theorem rows_160 : rowsCheck 160 32 = true := by decide +kernel
theorem rows_192 : rowsCheck 192 32 = true := by decide +kernel
theorem rows_224 : rowsCheck 224 32 = true := by decide +kernel

/-- Entry `c` of row `k` is the word of one up to the diagonal and of zero after it. -/
theorem tri_words (k c : Fin 256) : (lit0t (256 * k.val + c.val)).toNat = if c.val ≤ k.val then 16256 else 0 := by
  refine rowCheck_entry k.val 256 ?_ c.val c.isLt
  have part : ∀ a, rowsCheck a 32 = true → a ≤ k.val → k.val < a + 32 → rowCheck k.val 256 = true := fun a h h1 h2 => by
    have := rowsCheck_row a 32 h (k.val - a) (by omega)
    rwa [Nat.add_sub_cancel' h1] at this
  have hk := k.isLt
  by_cases h1 : k.val < 32
  · exact part 0 rows_0 (by omega) (by omega)
  by_cases h2 : k.val < 64
  · exact part 32 rows_32 (by omega) (by omega)
  by_cases h3 : k.val < 96
  · exact part 64 rows_64 (by omega) (by omega)
  by_cases h4 : k.val < 128
  · exact part 96 rows_96 (by omega) (by omega)
  by_cases h5 : k.val < 160
  · exact part 128 rows_128 (by omega) (by omega)
  by_cases h6 : k.val < 192
  · exact part 160 rows_160 (by omega) (by omega)
  by_cases h7 : k.val < 224
  · exact part 192 rows_192 (by omega) (by omega)
  · exact part 224 rows_224 (by omega) (by omega)

end Cert.KernelIdeal.Sb

end
-- ==== Proof.Array.lean ====
/- The kernel's result array: the attention at every place, when the scores' arguments are finite. -/
module

public import proofs.«01_k».proof.Proof.Output
public import proofs.«01_k».proof.Proof.Spec
public import proofs.«01_k».proof.Proof.Words2
public import proofs.«01_k».proof.Proof.Gen.KernelIdeal.Value
public import Idealize.ShloMosaic.Lib.Pipeline.ValueKit

@[expose] public section

set_option maxRecDepth 16384

noncomputable section

namespace Cert.KernelIdeal.Sb

open Idealize.ShloMosaic Idealize.ShloMosaic.TcCoe Idealize.ShloMosaic.Tactic
open Idealize.SL.Sem
open Cert.Sb Cert.KernelIdeal.Gen

open Idealize.ShloMosaic.Pipeline (Dat)

variable (m : (ℓ : Loc nD τ sig) → Buf (Elt Ideal) ℓ)

/-- Where the windows' blocks lie. -/
theorem idx : ∀ t : Fin cfg0.N, win0_0.index t = ![(grid0.coords t 0).val, (grid0.coords t 2).val, 0]
    ∧ win0_1.index t = ![(grid0.coords t 0).val, 0, 0] ∧ win0_2.index t = ![(grid0.coords t 0).val, 0, 0]
    ∧ win0_3.index t = ![(grid0.coords t 0).val, (grid0.coords t 2).val, 0] ∧ win0_4.index t = ![0, 0, 0]
    ∧ win0_5.index t = ![0, 0] ∧ win0_6.index t = ![(grid0.coords t 0).val, (grid0.coords t 2).val, 0] :=
  (by decide +kernel : ∀ t : Fin grid0.N, _)

/-- The sequence a grid point works on. -/
def seqOf (t : Fin cfg0.N) : Fin 4 := ⟨(grid0.coords t 0).val, (grid0.coords t 0).isLt⟩

/-- The position of row `r` of a grid point's block. -/
def posOf (t : Fin cfg0.N) (r : Fin 256) : Fin 8192 := ⟨256 * (grid0.coords t 2).val + r.val, by
  have : (grid0.coords t 2).val < 32 := (grid0.coords t 2).isLt
  omega⟩

theorem blk_q (c : Dev nD) (t : Fin cfg0.N) (r : Fin 256) (d : Fin 512) :
    (iblk m c 0 t : Vec Ideal S1x256x512 .bf16) (ix3 (0 : Fin 1) r d)
      = (m ((c : Thread nD τ).loc main_arg0) : FVec Ideal S4x8192x512 .bf16) (ix3 (seqOf t) (posOf t r) d) := by
  blk_ext [iblk, V, idx t, seqOf, posOf]

theorem blk_k (c : Dev nD) (t : Fin cfg0.N) (s : Fin 8192) (d : Fin 512) :
    (iblk m c 1 t : Vec Ideal S1x8192x512 .bf16) (ix3 (0 : Fin 1) s d)
      = (m ((c : Thread nD τ).loc main_arg1) : FVec Ideal S4x8192x512 .bf16) (ix3 (seqOf t) s d) := by
  blk_ext [iblk, V, idx t, seqOf]

theorem blk_v (c : Dev nD) (t : Fin cfg0.N) (s : Fin 8192) (d : Fin 512) :
    (iblk m c 2 t : Vec Ideal S1x8192x512 .bf16) (ix3 (0 : Fin 1) s d)
      = (m ((c : Thread nD τ).loc main_arg2) : FVec Ideal S4x8192x512 .bf16) (ix3 (seqOf t) s d) := by
  blk_ext [iblk, V, idx t, seqOf]

theorem blk_g (c : Dev nD) (t : Fin cfg0.N) (r : Fin 256) (d : Fin 512) :
    (iblk m c 3 t : Vec Ideal S1x256x512 .f32) (ix3 (0 : Fin 1) r d)
      = (m ((c : Thread nD τ).loc main_arg3) : FVec Ideal S4x8192x512 .f32) (ix3 (seqOf t) (posOf t r) d) := by
  blk_ext [iblk, V, idx t, seqOf, posOf]

theorem blk_b (c : Dev nD) (t : Fin cfg0.N) (d : Fin 512) :
    (iblk m c 4 t : Vec Ideal S1x1x512 .f32) (ix3 (0 : Fin 1) (0 : Fin 1) d)
      = (m ((c : Thread nD τ).loc main_arg4) : FVec Ideal S8 .f32) (ix1 (headOf d)) := by
  have e : (iblk m c 4 t : Vec Ideal S1x1x512 .f32) (ix3 (0 : Fin 1) (0 : Fin 1) d)
      = (V m c main_v2 : FVec Ideal S1x1x512 .f32) (ix3 (0 : Fin 1) (0 : Fin 1) d) := by
    blk_ext [iblk, idx t]
  rw [e]
  entry_read
  pointwise [headOf]

theorem tri_value (k e : Fin 256) : (FloatOps.ofBits (F := Ideal) .bf16 (lit0 (S256x256.rowMajor (ix2 k e))) : EReal) = if e.val ≤ k.val then 1 else 0 := by
  have hn : (S256x256.rowMajor (ix2 k e)).val = 256 * k.val + e.val := by
    refine (Shape.rowMajor_val_two _).trans ?_
    show k.val * 256 + e.val = _
    omega
  have hl : lit0 (S256x256.rowMajor (ix2 k e)) = lit0t (256 * k.val + e.val) := congrArg lit0t hn
  have hw := tri_words k e
  rw [hl]
  generalize lit0t (256 * k.val + e.val) = x at hw
  show Ideal.ofBits .bf16 x = _
  by_cases h : e.val ≤ k.val
  · rw [if_pos h] at hw ⊢
    rw [show x = 0x3F80#16 from BitVec.eq_of_toNat_eq hw]
    exact Ideal.ofBits_one_bf16
  · rw [if_neg h] at hw ⊢
    rw [show x = 0x0000#16 from BitVec.eq_of_toNat_eq hw]
    exact Ideal.ofBits_zero_bf16

theorem blk_u (c : Dev nD) (t : Fin cfg0.N) (k e : Fin 256) :
    (iblk m c 5 t : Vec Ideal S256x256 .bf16) (ix2 k e) = if e.val ≤ k.val then (1 : EReal) else 0 := by
  have h : (iblk m c 5 t : Vec Ideal S256x256 .bf16) (ix2 k e) = (V m c main_cst : FVec Ideal S256x256 .bf16) (ix2 k e) := by
    blk_ext [iblk, idx t]
  rw [h]
  entry_read
  exact tri_value k e

/-- The queries, keys and biases are real. -/
structure RealArgs (m : (ℓ : Loc nD τ sig) → Buf (Elt Ideal) ℓ) (c : Dev nD) : Prop where
  q : ∀ n t d, cur (m ((c : Thread nD τ).loc main_arg0) : FVec Ideal S4x8192x512 .bf16) n t d
    = ((cur (m ((c : Thread nD τ).loc main_arg0) : FVec Ideal S4x8192x512 .bf16) n t d).toReal : EReal)
  k : ∀ n t d, cur (m ((c : Thread nD τ).loc main_arg1) : FVec Ideal S4x8192x512 .bf16) n t d
    = ((cur (m ((c : Thread nD τ).loc main_arg1) : FVec Ideal S4x8192x512 .bf16) n t d).toReal : EReal)
  b : ∀ h, ((m ((c : Thread nD τ).loc main_arg4) : FVec Ideal S8 .f32) (ix1 h) : EReal)
    = ((((m ((c : Thread nD τ).loc main_arg4) : FVec Ideal S8 .f32) (ix1 h) : EReal).toReal : ℝ) : EReal)

/-- The attention over the arguments as launched. -/
def attnOf (c : Dev nD) : Fin 4 → Fin 8192 → Fin 512 → EReal :=
  attn (cur (m ((c : Thread nD τ).loc main_arg0) : FVec Ideal S4x8192x512 .bf16)) (cur (m ((c : Thread nD τ).loc main_arg1) : FVec Ideal S4x8192x512 .bf16))
    (cur (m ((c : Thread nD τ).loc main_arg2) : FVec Ideal S4x8192x512 .bf16)) (cur (m ((c : Thread nD τ).loc main_arg3) : FVec Ideal S4x8192x512 .f32))
    (fun h => (m ((c : Thread nD τ).loc main_arg4) : FVec Ideal S8 .f32) (ix1 h))

/-- What a grid point leaves in the output's buffer. -/
theorem outsAt_at (c : Dev nD) (hr : RealArgs m c) (t : Fin cfg0.N) (r : Fin 256) (e : Fin 512) :
    outsAt0 m c t (ix3 (0 : Fin 1) r e) = attnOf m c (seqOf t) (posOf t r) e := by
  unfold outsAt0
  conv_lhs => rw [← col_headOf e]
  refine (out_at c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _)
    (iblk m c 0 t) (iblk m c 1 t) (iblk m c 2 t) (iblk m c 3 t) (iblk m c 4 t) (iblk m c 5 t)
    (fun r d => (cur (m ((c : Thread nD τ).loc main_arg0) : FVec Ideal S4x8192x512 .bf16) (seqOf t) (posOf t r) d).toReal)
    (fun s d => (rowAt (cur (m ((c : Thread nD τ).loc main_arg1) : FVec Ideal S4x8192x512 .bf16) (seqOf t)) s d).toReal)
    (fun d => ((m ((c : Thread nD τ).loc main_arg4) : FVec Ideal S8 .f32) (ix1 (headOf d)) : EReal).toReal)
    (fun d s => rowAt (cur (m ((c : Thread nD τ).loc main_arg2) : FVec Ideal S4x8192x512 .bf16) (seqOf t)) s d)
    (fun k e => blk_u m c t k e) (fun r d => (blk_q m c t r d).trans (hr.q _ _ _)) ?_ ?_ (fun d => (blk_b m c t d).trans (hr.b _))
    (headOf e) r (laneOf e)).trans ?_
  · intro s d
    rw [rowAt_fin]
    exact (blk_k m c t s d).trans (hr.k _ _ _)
  · intro s d
    rw [rowAt_fin]
    exact blk_v m c t s d
  · rw [col_headOf, blk_g]
    rfl

/-- The result array after the run. -/
theorem final (c : Dev nD) (hr : RealArgs m c) :
    (dats m 0 c).arrAt 6 cfg0.N = (fun y => attnOf m c (y 0) (y 1) (y 2) : S4x8192x512.Idx → EReal) := by
  refine (dats m 0 c).arrAt_eq_of_covers 6 _ (by decide +kernel) fun t _ y => ?_
  blk_simp
  rw [after0_6]
  have hy : (y : S1x256x512.Idx) = ix3 (0 : Fin 1) (y 1) (y 2) := by
    funext a
    fin_cases a
    · exact Fin.ext (by have := (y 0).isLt; exact Nat.lt_one_iff.1 this)
    · rfl
    · rfl
  refine (congrArg (outsAt0 m c t) hy).trans ((outsAt_at m c hr t (y 1) (y 2)).trans ?_)
  have e1 : posOf t (y 1) = (win0_6.blk t).view.emb y 1 := Fin.ext (by
    blk_simp [idx t, posOf]
    show 256 * (grid0.coords t 2).val + (y 1).val = (grid0.coords t 2).val * 256 + (y 1).val
    omega)
  refine congr (congr (congrArg _ (Fin.ext ?_)) e1) (Fin.ext ?_)
  all_goals blk_simp [idx t, seqOf]

end Cert.KernelIdeal.Sb

end
-- ==== Proof.Window.lean ====
/- A running sum from the right along the last axis, as a window of the axis' full length padded at its end. -/
module

public import proofs.«01_k».proof.Proof.Math
public import Idealize.ShloMosaic.Lib.Pointwise
public import Idealize.ShloMosaic.Lib.Routing.Ops

@[expose] public section

set_option maxRecDepth 16384

noncomputable section

namespace Cert.Sb

open Idealize.ShloMosaic Idealize.ShloMosaic.Tactic

/-- A left fold that adds one summand for each element is the start plus the sum. -/
theorem foldl_add_map {ι : Type} (f : ι → EReal) (l : List ι) (r : EReal) : l.foldl (fun r n => r + f n) r = r + (l.map f).sum := by
  induction l generalizing r with
  | nil => exact (add_zero r).symm
  | cons a l ih => rw [List.foldl_cons, ih, List.map_cons, List.sum_cons, add_assoc]

/-- A window of one row, `N` long. -/
abbrev rowShape (N : ℕ) : Shape := ⟨4, ![1, 1, 1, N]⟩

theorem numel_row (N : ℕ) : (rowShape N).numel = N := by
  show ∏ a : Fin 4, (![1, 1, 1, N] : Fin 4 → ℕ) a = N
  rw [Fin.prod_univ_four]
  show 1 * 1 * 1 * N = N
  omega

theorem symm_row {N : ℕ} (n : Fin (rowShape N).numel) :
    (rowShape N).rowMajor.symm n = ix4 (0 : Fin 1) (0 : Fin 1) (0 : Fin 1) (n.cast (numel_row N)) :=
  ((rowShape N).rowMajor.symm_apply_eq).2 (Fin.ext (by
    rw [Shape.rowMajor_val_four]
    show n.val = ((0 * 1 + 0) * 1 + 0) * N + n.val
    omega))

/-- The sum over the window at place `s`: the elements from `s` on. -/
theorem suffix_at {A B C N : ℕ} (x : (⟨4, ![A, B, C, N]⟩ : Shape).Idx → EReal) {u : Shape} (init : u.Idx → EReal) (hu : 0 < u.numel)
    (h0 : init (Shape.Idx.first hu) = 0) (hi : ℕ)
    (h : (⟨4, ![A, B, C, N]⟩ : Shape).ReduceWindows ![1, 1, 1, N] ![1, 1, 1, 1] ![0, 0, 0, 0] ![0, 0, 0, hi] ⟨4, ![A, B, C, N]⟩)
    (a : Fin A) (b : Fin B) (c : Fin C) (s : Fin N) :
    Host.reduceWindowAdd (F := Ideal) (φ := .f32) (s := ⟨4, ![A, B, C, N]⟩) (t := ⟨4, ![A, B, C, N]⟩)
        ![1, 1, 1, N] ![1, 1, 1, 1] ![0, 0, 0, 0] ![0, 0, 0, hi] x init h hu (ix4 a b c s)
      = ∑ k : Fin N, (if hk : s.val + k.val < N then x (ix4 a b c ⟨s.val + k.val, hk⟩) else 0) := by
  show Host.reduceWindow (· + ·) _ _ _ _ x (fun _ : (⟨0, ![]⟩ : Shape).Idx => init (Shape.Idx.first hu)) h (by decide) (ix4 a b c s) = _
  unfold Host.reduceWindow
  dsimp only
  rw [h0]
  refine (foldl_add_map _ _ _).trans ?_
  rw [zero_add, ← Fin.sum_univ_def]
  refine Fintype.sum_equiv (finCongr (numel_row N)) _ _ fun n => ?_
  have e : ∀ q : Fin 4, ((rowShape N).rowMajor.symm n q).val = ((ix4 (0 : Fin 1) (0 : Fin 1) (0 : Fin 1) (n.cast (numel_row N)) : (rowShape N).Idx) q).val :=
    fun q => by rw [symm_row]
  have e0 : ((rowShape N).rowMajor.symm n (0 : Fin 4)).val = 0 := e 0
  have e1 : ((rowShape N).rowMajor.symm n (1 : Fin 4)).val = 0 := e 1
  have e2 : ((rowShape N).rowMajor.symm n (2 : Fin 4)).val = 0 := e 2
  have e3 : ((rowShape N).rowMajor.symm n (3 : Fin 4)).val = n.val := e 3
  show _ = (if hk : s.val + n.val < N then x (ix4 a b c ⟨s.val + n.val, hk⟩) else 0)
  have p0 : a.val * 1 + ((rowShape N).rowMajor.symm n (0 : Fin 4)).val = a.val := by omega
  have p1 : b.val * 1 + ((rowShape N).rowMajor.symm n (1 : Fin 4)).val = b.val := by omega
  have p2 : c.val * 1 + ((rowShape N).rowMajor.symm n (2 : Fin 4)).val = c.val := by omega
  have p3 : s.val * 1 + ((rowShape N).rowMajor.symm n (3 : Fin 4)).val = s.val + n.val := by omega
  by_cases hk : s.val + n.val < N
  · rw [dif_pos hk]
    refine (dif_pos ?_).trans (congrArg x ?_)
    · intro q
      match q with
      | ⟨0, _⟩ => exact ⟨Nat.zero_le _, by show a.val * 1 + _ - 0 < A; exact lt_of_eq_of_lt p0 a.isLt⟩
      | ⟨1, _⟩ => exact ⟨Nat.zero_le _, by show b.val * 1 + _ - 0 < B; exact lt_of_eq_of_lt p1 b.isLt⟩
      | ⟨2, _⟩ => exact ⟨Nat.zero_le _, by show c.val * 1 + _ - 0 < C; exact lt_of_eq_of_lt p2 c.isLt⟩
      | ⟨3, _⟩ => exact ⟨Nat.zero_le _, by show s.val * 1 + _ - 0 < N; exact lt_of_eq_of_lt p3 hk⟩
    · funext q
      match q with
      | ⟨0, _⟩ => exact Fin.ext p0
      | ⟨1, _⟩ => exact Fin.ext p1
      | ⟨2, _⟩ => exact Fin.ext p2
      | ⟨3, _⟩ => exact Fin.ext p3
  · rw [dif_neg hk]
    refine dif_neg fun hin => hk ?_
    have := (hin (3 : Fin 4)).2
    have h3 : s.val * 1 + ((rowShape N).rowMajor.symm n (3 : Fin 4)).val - 0 < N := this
    exact lt_of_eq_of_lt p3.symm h3

/-- The sum of the elements from `s` on where the elements from `T` on are zero. -/
theorem sum_from (f : ℕ → ℝ) (N T s : ℕ) (hT : T ≤ N) (g : ∀ j, j < N → EReal) (hg : ∀ j hj, g j hj = ((if j < T then f j else 0 : ℝ) : EReal)) :
    ∑ k : Fin N, (if hk : s + k.val < N then g (s + k.val) hk else 0) = ((∑ j ∈ Finset.Ico s T, f j : ℝ) : EReal) := by
  have e : ∀ k : Fin N, (if hk : s + k.val < N then g (s + k.val) hk else 0) = ((if s + k.val < T then f (s + k.val) else 0 : ℝ) : EReal) := by
    intro k
    by_cases hk : s + k.val < N
    · rw [dif_pos hk, hg]
    · rw [dif_neg hk, if_neg (by omega), EReal.coe_zero]
  rw [Finset.sum_congr rfl fun k _ => e k, ← coe_sum, Fin.sum_univ_eq_sum_range (fun k => if s + k < T then f (s + k) else 0) N, Finset.sum_Ico_eq_sum_range,
    ← Finset.sum_range_add_sum_Ico _ (show T - s ≤ N by omega), Finset.sum_eq_zero (s := Finset.Ico (T - s) N), add_zero]
  · refine congrArg _ (Finset.sum_congr rfl fun k hk => ?_)
    have := Finset.mem_range.1 hk
    rw [if_pos (by omega)]
  · intro k hk
    have := Finset.mem_Ico.1 hk
    rw [if_neg (by omega)]

end Cert.Sb

end
-- ==== Proof.Reference.lean ====
/- The reference's result, read at an index: the attention over its arguments, when the scores' arguments are finite. -/
module

public import proofs.«01_k».proof.Proof.Spec
public import proofs.«01_k».proof.Proof.Window
public import proofs.«01_k».proof.Proof.Gen.ReferenceIdeal.Read
public import Idealize.ShloMosaic.Lib.Pointwise
public import Idealize.ShloMosaic.Lib.WordCmp

@[expose] public section

set_option maxRecDepth 16384

noncomputable section

namespace Cert.ReferenceIdeal.Sb

open Idealize.ShloMosaic Idealize.ShloMosaic.TcCoe Idealize.ShloMosaic.Tactic
open Idealize.SL.Sem
open Cert.Sb Cert.ReferenceIdeal Cert.ReferenceIdeal.Gen Cert.ReferenceIdeal.Read
open Cert.KernelIdeal.Sb (cur col headOf laneOf dotB score attn silu rowAt rowAt_fin col_headOf headOf_col)

variable (x0 x1 x2 : FVec Ideal S4x8192x512 .bf16) (x3 : FVec Ideal S4x8192x512 .f32) (x4 : FVec Ideal S8 .f32)

/-- The queries, keys and biases are real. -/
structure RealArgs : Prop where
  q : ∀ n t d, cur x0 n t d = ((cur x0 n t d).toReal : EReal)
  k : ∀ n t d, cur x1 n t d = ((cur x1 n t d).toReal : EReal)
  b : ∀ h, (x4 (ix1 h) : EReal) = (((x4 (ix1 h) : EReal).toReal : ℝ) : EReal)

/-- The scores of one query in one head. -/
abbrev row (n : Fin 4) (h : Fin 8) (t : Fin 8192) : ℕ → ℝ := score (cur x0 n t) (cur x1 n) (fun h => x4 (ix1 h)) h

theorem v7_at (n : Fin 4) (h : Fin 8) (t s : Fin 8192) :
    val_main_v7 (F := Ideal) x0 x1 x4 (ix4 n h t s) = ∑ d : Fin 64, cur x0 n t (col h d) * cur x1 n s (col h d) + x4 (ix1 h) := by
  have e : ∀ d : Fin 64, (⟨h.val * 64 + d.val, by omega⟩ : Fin 512) = col h d := fun d => Fin.ext (by show h.val * 64 + d.val = 64 * h.val + d.val; omega)
  pointwise [val_main_v7, val_main_v6, val_main_v5, val_main_v4, val_main_v3, val_main_v2, val_main_v1, val_main_v0]
  simp only [e]

/-- A finite score. -/
theorem score_at (hr : RealArgs x0 x1 x4) (n : Fin 4) (h : Fin 8) (t s : Fin 8192) :
    val_main_v7 (F := Ideal) x0 x1 x4 (ix4 n h t s) = ((row x0 x1 x4 n h t s.val : ℝ) : EReal) := by
  rw [v7_at]
  unfold row score dotB
  rw [EReal.coe_add, coe_sum]
  dsimp only
  rw [headOf_col, ← hr.b]
  refine congrArg (· + _) (Finset.sum_congr rfl fun d _ => ?_)
  rw [EReal.coe_mul, rowAt_fin, ← hr.q, ← hr.k]

theorem v14_at (t s : Fin 8192) : val_main_v14 (F := Ideal) (ix2 t s) = if s.val < t.val then 1#1 else 0#1 := by
  pointwise [val_main_v14, val_main_v13, val_main_v12, val_main_v11, val_main_v10, val_main_v9, val_main_v8]
  have h := WordCmp.cmpi_slt_ofNat_eq_one_iff (w := 32) (a := s.val) (b := t.val) (by have := s.isLt; norm_num; omega) (by have := t.isLt; norm_num; omega)
  split
  · exact h.2 (by assumption)
  · refine (BitVec.eq_zero_or_eq_one _).resolve_right fun hh => ?_
    exact absurd (h.1 hh) (by assumption)

/-- The softplus as the reference evaluates it. -/
theorem softplus_eq (z : ℝ) :
    (if ((z : ℝ) : EReal) ≠ ((z : ℝ) : EReal) then ((z : ℝ) : EReal)
      else max ((z : ℝ) : EReal) 0 + Ideal.log1p (Ideal.exp (-(FloatOps.absf (F := Ideal) (φ := .f32) ((z : ℝ) : EReal))))) = ((sp z : ℝ) : EReal) := by
  rw [if_neg (fun h => h rfl)]
  have e := reference_sp z
  rw [sub_zero] at e
  exact e

theorem sp0_at (i : S4x8x8192x8192.Idx) (z : ℝ) (hz : val_main_v7 (F := Ideal) x0 x1 x4 i = (z : EReal)) :
    val_main_call0_v1 (F := Ideal) x0 x1 x4 i = ((sp z : ℝ) : EReal) := by
  pointwise [val_main_call0_v1, val_main_call0_v0, val_main_call0_call0_v4, val_main_call0_call0_v6, val_main_call0_call0_v11, val_main_call0_call0_v10,
    val_main_call0_call0_v9, val_main_call0_call0_v8, val_main_call0_call0_v7, val_main_call0_call0_v3, val_main_call0_call0_v2, val_main_call0_call0_v1,
    val_main_call0_call0_v0, val_main_call0_call0_v5, val_main_call0_call0_cst, val_main_v15]
  rw [hz, neg_neg]
  exact softplus_eq z

theorem sp3_at (i : S4x8x8192x8192.Idx) (z : ℝ) (hz : val_main_v7 (F := Ideal) x0 x1 x4 i = (z : EReal)) :
    val_main_call3_v1 (F := Ideal) x0 x1 x4 i = ((sp (-z) : ℝ) : EReal) := by
  pointwise [val_main_call3_v1, val_main_call3_v0, val_main_call3_call0_v4, val_main_call3_call0_v6, val_main_call3_call0_v11, val_main_call3_call0_v10,
    val_main_call3_call0_v9, val_main_call3_call0_v8, val_main_call3_call0_v7, val_main_call3_call0_v3, val_main_call3_call0_v2, val_main_call3_call0_v1,
    val_main_call3_call0_v0, val_main_call3_call0_v5, val_main_call3_call0_cst]
  rw [hz, ← EReal.coe_neg]
  exact softplus_eq (-z)

/-- A choice by the order of two positions. -/
theorem select_lt (a b : ℕ) (x y : EReal) : Scalar.select (if a < b then 1#1 else 0#1) x y = if a < b then x else y := by
  by_cases h : a < b
  · rw [if_pos h, if_pos h]; rfl
  · rw [if_neg h, if_neg h]; rfl

/-- What the running sum adds up. -/
theorem v17_at (hr : RealArgs x0 x1 x4) (n : Fin 4) (h : Fin 8) (t s : Fin 8192) :
    val_main_v17 (F := Ideal) x0 x1 x4 (ix4 n h t s) = ((if s.val < t.val then -sp (row x0 x1 x4 n h t s.val) else 0 : ℝ) : EReal) := by
  have e := v14_at t s
  have e' := sp0_at x0 x1 x4 _ _ (score_at x0 x1 x4 hr n h t s)
  pointwise [val_main_v17, val_main_call1_v1, val_main_v16, val_main_call1_v2, val_main_call1_v0, val_main_cst]
  rw [e, e', select_lt]
  split
  · rw [EReal.coe_neg]
  · rw [EReal.coe_zero]
    exact Ideal.ofBits_zero_f32

theorem v18_at (hr : RealArgs x0 x1 x4) (n : Fin 4) (h : Fin 8) (t s : Fin 8192) :
    val_main_v18 (F := Ideal) x0 x1 x4 (ix4 n h t s) = ((-tail (row x0 x1 x4 n h t) t.val s.val : ℝ) : EReal) := by
  unfold val_main_v18
  refine (suffix_at (val_main_v17 (F := Ideal) x0 x1 x4) _ _ ?_ 8191 _ n h t s).trans ?_
  · pointwise [val_main_call2_v0, val_main_call2_cst]
  · refine (sum_from (fun j => -sp (row x0 x1 x4 n h t j)) 8192 t.val s.val t.isLt.le
      (fun j hj => val_main_v17 (F := Ideal) x0 x1 x4 (ix4 n h t ⟨j, hj⟩)) fun j hj => v17_at x0 x1 x4 hr n h t ⟨j, hj⟩).trans ?_
    rw [Finset.sum_neg_distrib]
    rfl

theorem v22_at (hr : RealArgs x0 x1 x4) (n : Fin 4) (h : Fin 8) (t s : Fin 8192) :
    val_main_v22 (F := Ideal) x0 x1 x4 (ix4 n h t s) = ((-tail (row x0 x1 x4 n h t) t.val (s.val + 1) : ℝ) : EReal) := by
  have hs := s.isLt
  pointwise [val_main_v22, val_main_v19, val_main_v21, val_main_cst_0]
  split
  · rw [v18_at x0 x1 x4 hr]
    show ((-tail _ _ (1 + s.val) : ℝ) : EReal) = _
    rw [Nat.add_comm]
  · have : tail (row x0 x1 x4 n h t) t.val (s.val + 1) = 0 := by
      unfold tail
      rw [Finset.Ico_eq_empty (by have := t.isLt; omega), Finset.sum_empty]
    rw [this, neg_zero, EReal.coe_zero]

theorem v26_at (hr : RealArgs x0 x1 x4) (n : Fin 4) (h : Fin 8) (t s : Fin 8192) :
    val_main_v26 (F := Ideal) x0 x1 x4 (ix4 n h t s) = if s.val < t.val then ((wt (row x0 x1 x4 n h t) t.val s.val : ℝ) : EReal) else 0 := by
  have e := v14_at t s
  have e' := sp3_at x0 x1 x4 _ _ (score_at x0 x1 x4 hr n h t s)
  have e'' := v22_at x0 x1 x4 hr n h t s
  pointwise [val_main_v26, val_main_call4_v1, val_main_call4_v2, val_main_call4_v0, val_main_v25, val_main_v24, val_main_v23, val_main_cst_1]
  rw [e, e', e'', select_lt]
  split
  · rename_i hlt
    rw [← EReal.coe_neg, ← EReal.coe_add, wt_reference _ hlt, Ideal.exp_coe]
    rfl
  · exact Ideal.ofBits_zero_f32

theorem v29_at (hr : RealArgs x0 x1 x4) (n : Fin 4) (h : Fin 8) (d : Fin 64) (t : Fin 8192) :
    val_main_v29 (F := Ideal) x0 x1 x2 x4 (ix4 n h d t)
      = mix (row x0 x1 x4 n h t) (fun s => rowAt (cur x2 n) s (col h d)) t.val 0 := by
  have e : ∀ d : Fin 64, (⟨h.val * 64 + d.val, by omega⟩ : Fin 512) = col h d := fun d => Fin.ext (by show h.val * 64 + d.val = 64 * h.val + d.val; omega)
  rw [← mix_all (row x0 x1 x4 n h t) (fun s => rowAt (cur x2 n) s (col h d)) 8192 t.val t.isLt.le]
  pointwise [val_main_v29, val_main_v28, val_main_v27]
  simp only [e]
  refine Finset.sum_congr rfl fun s _ => ?_
  rw [v26_at x0 x1 x4 hr, rowAt_fin]

theorem v31_at (hr : RealArgs x0 x1 x4) (n : Fin 4) (t : Fin 8192) (e : Fin 512) :
    val_main_v31 (F := Ideal) x0 x1 x2 x4 (ix3 n t e) = mix (row x0 x1 x4 n (headOf e) t) (fun s => rowAt (cur x2 n) s e) t.val 0 := by
  have h := v29_at x0 x1 x2 x4 hr n (headOf e) (laneOf e) t
  rw [col_headOf] at h
  rw [← h]
  pointwise [val_main_v31, val_main_v30, headOf, laneOf]

theorem v32_at (n : Fin 4) (t : Fin 8192) (e : Fin 512) : val_main_v32 (F := Ideal) x3 (ix3 n t e) = silu (cur x3 n t e) := by
  pointwise [val_main_v32, val_main_call5_v5, val_main_call5_v4, val_main_call5_v3, val_main_call5_v2, val_main_call5_v1, val_main_call5_v0,
    val_main_call5_cst, val_main_call5_cst_0, silu]

/-- The reference's result. -/
theorem result_at (hr : RealArgs x0 x1 x4) (n : Fin 4) (t : Fin 8192) (e : Fin 512) :
    val_main_v33 (F := Ideal) x0 x1 x2 x3 x4 (ix3 n t e) = attn (cur x0) (cur x1) (cur x2) (cur x3) (fun h => x4 (ix1 h)) n t e := by
  have h1 := v31_at x0 x1 x2 x4 hr n t e
  have h2 := v32_at x3 n t e
  unfold attn
  rw [← h2]
  refine Eq.trans ?_ (congrArg (· * _) h1)
  pointwise [val_main_v33]

end Cert.ReferenceIdeal.Sb

end
-- ==== Proof.Finite.lean ====
/- The precondition read back: where it holds, the queries, the keys and the biases are real numbers. -/
module

public import proofs.«01_k».proof.Pre_finite_scores
public import Idealize.ShloMosaic.Lib.ReduceAll
public import Idealize.ShloMosaic.Lib.Pointwise
public import Idealize.ShloMosaic.PureOps.Ideal.Laws

@[expose] public section

set_option maxRecDepth 16384

noncomputable section

namespace Cert.Pre_finite_scores.Sb

open Idealize.ShloMosaic Idealize.ShloMosaic.Tactic

/-- The predicate's side conditions. -/
theorem facts : Cert.Pre_finite_scores.Facts where
  bitsLt_bf16_f32 := by decide
  bcast_S_S4x8192x512 := by decide
  reducesTo_S4x8192x512_S_d0_1_2 := by decide
  h_S_ := by decide
  bcast_S_S8 := by decide
  reducesTo_S8_S_d0 := by decide

attribute [local instance] facts

/-- A magnitude below infinity is a real number's. -/
theorem real_of_lt (x : EReal) (h : (FloatOps.cmpf (F := Ideal) (φ := .f32) .olt (FloatOps.hostAbsf (F := Ideal) (φ := .f32) x)
    (FloatOps.ofBits (F := Ideal) .f32 0x7F800000#32) : BitVec 1) = 1#1) : x = ((x.toReal : ℝ) : EReal) := by
  have ht : (FloatOps.ofBits (F := Ideal) .f32 0x7F800000#32 : EReal) = ⊤ := by
    show Ideal.ieee 8 23 0x7F800000#32 = ⊤
    simp [Ideal.ieee]
  have hlt : max x (-x) < (⊤ : EReal) := by
    rw [ht] at h
    have h' : BitVec.ofBool (decide (max x (-x) < (⊤ : EReal))) = 1#1 := h
    by_contra hn
    rw [decide_eq_false hn] at h'
    exact absurd h' (by decide)
  refine (EReal.coe_toReal ?_ ?_).symm
  · rintro rfl
    exact absurd hlt (by simp)
  · rintro rfl
    exact absurd hlt (by simp)

theorem finite (x0 x1 x2 : FVec Ideal S4x8192x512 .bf16) (x3 : FVec Ideal S4x8192x512 .f32) (x4 : FVec Ideal S8 .f32)
    (h : Cert.Pre_finite_scores.fn (F := Ideal) x0 x1 x2 x3 x4 = fun _ => 1#1) :
    (∀ i, (x0 i : EReal) = (((x0 i : EReal).toReal : ℝ) : EReal)) ∧ (∀ i, (x1 i : EReal) = (((x1 i : EReal).toReal : ℝ) : EReal))
      ∧ ∀ i, (x4 i : EReal) = (((x4 i : EReal).toReal : ℝ) : EReal) := by
  have hj : Subsingleton S_.Idx := ⟨fun a b => funext fun q => q.elim0⟩
  have e := congrFun h ix0
  unfold Cert.Pre_finite_scores.fn at e
  obtain ⟨e01, e4⟩ := IntOp.andi_eq_one.1 e
  obtain ⟨e0, e1⟩ := IntOp.andi_eq_one.1 e01
  refine ⟨fun i => ?_, fun i => ?_, fun i => ?_⟩
  · exact real_of_lt _ (Host.reduce_andi_all _ _ _ _ _ e0 i)
  · exact real_of_lt _ (Host.reduce_andi_all _ _ _ _ _ e1 i)
  · exact real_of_lt _ (Host.reduce_andi_all _ _ _ _ _ e4 i)

end Cert.Pre_finite_scores.Sb

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Odd
public import proofs.«01_k».proof.Proof.Out
public import proofs.«01_k».proof.Proof.SampleOut
public import proofs.«01_k».proof.Proof.SampleOdd
public import proofs.«01_k».proof.Proof.Even
public import proofs.«01_k».proof.Proof.Shift
public import proofs.«01_k».proof.Proof.Array
public import proofs.«01_k».proof.Proof.Reference
public import proofs.«01_k».proof.Proof.Finite
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic Idealize.SL.Sem

/-- The reference's frame: it uses no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Both programs end with the attention over the arguments. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Sb.facts) := by
  intro m g m' g' hpre hargs
  have hreal : ∀ c, Cert.KernelIdeal.Sb.RealArgs m c := fun c => by
    obtain ⟨hq, hk, hb⟩ := Cert.Pre_finite_scores.Sb.finite _ _ _ _ _ (hpre c)
    exact ⟨fun n t d => hq _, fun n t d => hk _, fun h => hb _⟩
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  refine Eq.trans ?_ (Cert.KernelIdeal.Sb.final m c (hreal c)).symm
  rw [Cert.ReferenceIdeal.Read.val_main_v33_eq]
  obtain ⟨e0, e1, e2, e3, e4⟩ := hargs c
  rw [e0, e1, e2, e3, e4]
  funext y
  have hy : (y : Cert.ReferenceIdeal.S4x8192x512.Idx) = ix3 (y 0) (y 1) (y 2) := eq_ix3 y
  rw [hy]
  exact Cert.ReferenceIdeal.Sb.result_at _ _ _ _ _ ⟨(hreal c).q, (hreal c).k, (hreal c).b⟩ (y 0) (y 1) (y 2)

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite_scores.Sb.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    Cert.Odd.frame_reference,
    fun m ρ _ => Cert.Kernel3.Gen.frame m ρ,
    fun m ρ _ => Cert.Kernel3Ideal.Gen.frame m ρ,
    Cert.Out.frame_reference,
    fun m ρ _ => Cert.Kernel4.Gen.frame m ρ,
    fun m ρ _ => Cert.Kernel4Ideal.Gen.frame m ρ,
    Cert.SampleOut.frame_reference,
    fun m ρ _ => Cert.Kernel5.Gen.frame m ρ,
    fun m ρ _ => Cert.Kernel5Ideal.Gen.frame m ρ,
    Cert.SampleOdd.frame_reference,
    fun m ρ _ => Cert.Kernel6.Gen.frame m ρ,
    fun m ρ _ => Cert.Kernel6Ideal.Gen.frame m ρ,
    Cert.Even.frame_reference,
    fun m ρ _ => Cert.Kernel7.Gen.frame m ρ,
    fun m ρ _ => Cert.Kernel7Ideal.Gen.frame m ρ,
    Cert.Shift.frame_reference,
    IdealRules.named_const.statement _ _ .f32 _ _ rfl,
    algebraic,
    IdealRules.named_const.statement _ _ .f32 _ _ rfl,
    Cert.Odd.algebraic,
    trivial,
    Cert.Out.algebraic,
    trivial,
    Cert.SampleOut.algebraic,
    IdealRules.named_const.statement _ _ .f32 _ _ rfl,
    Cert.SampleOdd.algebraic,
    IdealRules.named_const.statement _ _ .f32 _ _ rfl,
    Cert.Even.algebraic,
    IdealRules.named_const.statement _ _ .f32 _ _ rfl,
    Cert.Shift.algebraic⟩

end Cert.Proof

end
